-- ==== Defs.lean ====
def Pre_Kernel [hPre_blocks_named : Cert.Pre_blocks_named.Facts] (m : (ℓ : Loc Cert.Kernel.nD Cert.Kernel.τ Cert.Kernel.sig) → Buf (Elt Bits) ℓ) : Prop :=
  ∀ c : Dev Cert.Kernel.nD,
    (Cert.Pre_blocks_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_blocks_named : Cert.Pre_blocks_named.Facts] (m : (ℓ : Loc Cert.KernelIdeal.nD Cert.KernelIdeal.τ Cert.KernelIdeal.sig) → Buf (Elt Ideal) ℓ) : Prop :=
  ∀ c : Dev Cert.KernelIdeal.nD,
    (Cert.Pre_blocks_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_blocks_named : Cert.Pre_blocks_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_blocks_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_blocks_named : Cert.Pre_blocks_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_blocks_named : Cert.Pre_blocks_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_blocks_named : Cert.Pre_blocks_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_on_y_elements [hKernelIdeal : Cert.KernelIdeal.Facts] [hReferenceIdeal : Cert.ReferenceIdeal.Facts] [hPre_blocks_named : Cert.Pre_blocks_named.Facts] [hOn_y_elements : Cert.On_y_elements.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![6144, 27648]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v8_0) i = v0 c i)
          ∧ (∀ i : (⟨2, ![6144, 27648]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v8_1) i = v1 c i)
          ∧ (∀ i : (⟨2, ![6144, 256]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.KernelIdeal.nD Cert.KernelIdeal.τ).loc Cert.KernelIdeal.main_v8_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![6144, 27648]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v143) i = v0 c i)
          ∧ (∀ i : (⟨2, ![6144, 27648]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v174) i = v1 c i)
          ∧ (∀ i : (⟨2, ![6144, 256]⟩ : Shape).Idx, (Cert.On_y_elements.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 i = 1#1 → r.2.mem ((c.tc : Thread Cert.ReferenceIdeal.nD Cert.ReferenceIdeal.τ).loc Cert.ReferenceIdeal.main_v176) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_blocks_named : Cert.Pre_blocks_named.Facts) (hOn_y_elements : Cert.On_y_elements.Facts),
    quiescent_Kernel (hKernel := hKernel) (hPre_blocks_named := hPre_blocks_named)
    ∧ quiescent_KernelIdeal (hKernelIdeal := hKernelIdeal) (hPre_blocks_named := hPre_blocks_named)
    ∧ quiescent_ReferenceIdeal (hReferenceIdeal := hReferenceIdeal) (hPre_blocks_named := hPre_blocks_named)
    ∧ preserves_Kernel_KernelIdeal
    ∧ algebraic_KernelIdeal_ReferenceIdeal_on_y_elements (hKernelIdeal := hKernelIdeal) (hReferenceIdeal := hReferenceIdeal) (hPre_blocks_named := hPre_blocks_named) (hOn_y_elements := hOn_y_elements)
-- ==== On_y_elements.lean ====
abbrev S512 : Shape := ⟨1, ![512]⟩
abbrev S24x256x5120 : Shape := ⟨3, ![24, 256, 5120]⟩
abbrev S640x27648 : Shape := ⟨2, ![640, 27648]⟩
abbrev S40x27648 : Shape := ⟨2, ![40, 27648]⟩
abbrev S1500x27648 : Shape := ⟨2, ![1500, 27648]⟩
abbrev S6144x256 : Shape := ⟨2, ![6144, 256]⟩
abbrev S_ : Shape := ⟨0, ![]⟩
abbrev S6144x27648 : Shape := ⟨2, ![6144, 27648]⟩

class Facts : Prop where
  bcast_S_S6144x27648 : S_.BroadcastsInDim S6144x27648 (![] : Fin 0 → Fin S6144x27648.rank)
  bcast_S_S6144x256 : S_.BroadcastsInDim S6144x256 (![] : Fin 0 → Fin S6144x256.rank)

variable [Facts]

def fn {F : FTy → Type} [FloatOps F] (main_arg0 : IVec S512 32) (main_arg1 : FVec F S24x256x5120 .bf16) (main_arg2 : IVec S640x27648 32) (main_arg3 : IVec S40x27648 16) (main_arg4 : FVec F S1500x27648 .bf16) (main_arg5 : FVec F S6144x256 .bf16) : IVec S6144x27648 1 × IVec S6144x27648 1 × IVec S6144x256 1 :=
  let main_c : IVec S_ 1 := constantI S_ 1 1#1
  let main_v0 : IVec S6144x27648 1 := broadcastInDim S6144x27648 ![] bcast_S_S6144x27648 main_c
  let main_c_0 : IVec S_ 1 := constantI S_ 1 0#1
  let main_v1 : IVec S6144x27648 1 := broadcastInDim S6144x27648 ![] bcast_S_S6144x27648 main_c_0
  let main_c_1 : IVec S_ 1 := constantI S_ 1 0#1
  let main_v2 : IVec S6144x256 1 := broadcastInDim S6144x256 ![] bcast_S_S6144x256 main_c_1
  (main_v0, main_v1, main_v2)
-- ==== Pre_blocks_named.lean ====
abbrev S512 : Shape := ⟨1, ![512]⟩
abbrev S24x256x5120 : Shape := ⟨3, ![24, 256, 5120]⟩
abbrev S640x27648 : Shape := ⟨2, ![640, 27648]⟩
abbrev S40x27648 : Shape := ⟨2, ![40, 27648]⟩
abbrev S1500x27648 : Shape := ⟨2, ![1500, 27648]⟩
abbrev S6144x256 : Shape := ⟨2, ![6144, 256]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S24x256x5120 .bf16) (main_arg2 : IVec S640x27648 32) (main_arg3 : IVec S40x27648 16) (main_arg4 : FVec F S1500x27648 .bf16) (main_arg5 : FVec F S6144x256 .bf16) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 55#32
  let main_v2 : IVec S512 32 := broadcastInDim S512 ![] bcast_S_S512 main_c_0
  let main_v3 : IVec S512 1 := cmpi .sle main_arg0 main_v2
  let main_v4 : IVec S512 1 := andi main_v1 main_v3
  main_v4
-- ==== Kernel.lean ====
abbrev S512 : Shape := ⟨1, ![512]⟩
abbrev S24x256x5120 : Shape := ⟨3, ![24, 256, 5120]⟩
abbrev S640x27648 : Shape := ⟨2, ![640, 27648]⟩
abbrev S40x27648 : Shape := ⟨2, ![40, 27648]⟩
abbrev S1500x27648 : Shape := ⟨2, ![1500, 27648]⟩
abbrev S6144x256 : Shape := ⟨2, ![6144, 256]⟩
abbrev S6144x5120 : Shape := ⟨2, ![6144, 5120]⟩
abbrev S_ : Shape := ⟨0, ![]⟩
abbrev S40x216x128 : Shape := ⟨3, ![40, 216, 128]⟩
abbrev S216x40x128 : Shape := ⟨3, ![216, 40, 128]⟩
abbrev S6144x27648 : Shape := ⟨2, ![6144, 27648]⟩
abbrev S384x5120 : Shape := ⟨2, ![384, 5120]⟩
abbrev S640x1024 : Shape := ⟨2, ![640, 1024]⟩
abbrev S8x40x128 : Shape := ⟨3, ![8, 40, 128]⟩
abbrev S896x1024 : Shape := ⟨2, ![896, 1024]⟩
abbrev S384x256 : Shape := ⟨2, ![384, 256]⟩
abbrev S384x1024 : Shape := ⟨2, ![384, 1024]⟩
abbrev S5120x1024 : Shape := ⟨2, ![5120, 1024]⟩
abbrev S8x128 : Shape := ⟨2, ![8, 128]⟩
abbrev S1x1x128 : Shape := ⟨3, ![1, 1, 128]⟩
abbrev S1x128 : Shape := ⟨2, ![1, 128]⟩
abbrev S16x128 : Shape := ⟨2, ![16, 128]⟩
abbrev S1 : Shape := ⟨1, ![1]⟩
abbrev S16x1024 : Shape := ⟨2, ![16, 1024]⟩
abbrev S256x1024 : Shape := ⟨2, ![256, 1024]⟩
abbrev S192x256 : Shape := ⟨2, ![192, 256]⟩
abbrev S192x1024 : Shape := ⟨2, ![192, 1024]⟩
abbrev S384x128 : Shape := ⟨2, ![384, 128]⟩
abbrev S384 : Shape := ⟨1, ![384]⟩
abbrev S384x1 : Shape := ⟨2, ![384, 1]⟩

abbrev nBuf : Space → Nat
  | .hbm => 17
  | .vmem => 16
  | .smem => 1
  | _ => 0

abbrev bufTy : (tb : Table) → Fin (tcTables nBuf tb) → BufTy
  | .hbm, ⟨0, _⟩ => ⟨S24x256x5120, .bf16⟩
  | .hbm, ⟨1, _⟩ => ⟨S640x27648, .i32⟩
  | .hbm, ⟨2, _⟩ => ⟨S40x27648, .i16⟩
  | .hbm, ⟨3, _⟩ => ⟨S1500x27648, .bf16⟩
  | .hbm, ⟨4, _⟩ => ⟨S6144x256, .bf16⟩
  | .hbm, ⟨5, _⟩ => ⟨S6144x5120, .bf16⟩
  | .hbm, ⟨6, _⟩ => ⟨S40x27648, .i32⟩
  | .hbm, ⟨7, _⟩ => ⟨S_, .i32⟩
  | .hbm, ⟨8, _⟩ => ⟨S40x27648, .i32⟩
  | .hbm, ⟨9, _⟩ => ⟨S40x27648, .i32⟩
  | .hbm, ⟨10, _⟩ => ⟨S40x27648, .i32⟩
  | .hbm, ⟨11, _⟩ => ⟨S40x27648, .i32⟩
  | .hbm, ⟨12, _⟩ => ⟨S40x216x128, .i32⟩
  | .hbm, ⟨13, _⟩ => ⟨S216x40x128, .i32⟩
  | .hbm, ⟨14, _⟩ => ⟨S6144x27648, .bf16⟩
  | .hbm, ⟨15, _⟩ => ⟨S6144x27648, .fp8e4m3⟩
  | .hbm, ⟨16, _⟩ => ⟨S6144x256, .f32⟩
  | .local _ .vmem, ⟨0, _⟩ => ⟨S384x5120, .bf16⟩
  | .local _ .vmem, ⟨1, _⟩ => ⟨S384x5120, .bf16⟩
  | .local _ .vmem, ⟨2, _⟩ => ⟨S640x1024, .i32⟩
  | .local _ .vmem, ⟨3, _⟩ => ⟨S640x1024, .i32⟩
  | .local _ .vmem, ⟨4, _⟩ => ⟨S8x40x128, .i32⟩
  | .local _ .vmem, ⟨5, _⟩ => ⟨S8x40x128, .i32⟩
  | .local _ .vmem, ⟨6, _⟩ => ⟨S896x1024, .bf16⟩
  | .local _ .vmem, ⟨7, _⟩ => ⟨S896x1024, .bf16⟩
  | .local _ .vmem, ⟨8, _⟩ => ⟨S384x256, .bf16⟩
  | .local _ .vmem, ⟨9, _⟩ => ⟨S384x256, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .fp8e4m3⟩
  | .local _ .vmem, ⟨13, _⟩ => ⟨S384x1024, .fp8e4m3⟩
  | .local _ .vmem, ⟨14, _⟩ => ⟨S6144x256, .f32⟩
  | .local _ .vmem, ⟨15, _⟩ => ⟨S5120x1024, .bf16⟩
  | .local _ .smem, ⟨0, _⟩ => ⟨S512, .i32⟩
  | _, _ => ⟨S24x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![27, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_333 : BitVec 32 := 0#32
  let c40_i32 : BitVec 32 := 40#32
  let v978 : BitVec 32 := Scalar.addi c0_i32_333 c40_i32
  let c1_i32_334 : BitVec 32 := 1#32
  ⟨c0_i32_333, v978, c1_i32_334⟩
def k0_mult1 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  v980
def k0_off1 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v982 : Index := Scalar.indexCast v981
  let c0_338 : Index := 0#32
  ![v982.toNat, 0]
def k0_off2 (k0_t1 : Fin k0_t1_loop.trips) : Fin 3 → Nat :=
  let c0_339 : Index := 0#32
  let c0_i32_333 : BitVec 32 := 0#32
  let c1_i32_334 : BitVec 32 := 1#32
  let arg12 : BitVec 32 := Scf.iv c0_i32_333 c1_i32_334 k0_t1
  let v984 : Index := Scalar.indexCast arg12
  let c0_340 : Index := 0#32
  ![0, v984.toNat, 0]
def k0_mult2 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_365 : BitVec 32 := 8#32
  let v1087 : BitVec 32 := Scalar.muli v981 c8_i32_365
  v1087
def k0_off3 (k0_t1 : Fin k0_t1_loop.trips) (c0_i32_337 : BitVec 32) (c0_i32_366 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_365 : BitVec 32 := 8#32
  let v1087 : BitVec 32 := Scalar.muli v981 c8_i32_365
  let v1088 : BitVec 32 := v1087
  let v1089 : BitVec 32 := Scalar.addi v1088 c0_i32_366
  let v1090 : Index := Scalar.indexCast v1089
  let c0_367 : Index := 0#32
  ![v1090.toNat, 0]
def k0_mult3 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_368 : BitVec 32 := 8#32
  let v1094 : BitVec 32 := Scalar.muli v981 c8_i32_368
  v1094
def k0_mult4 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_371 : BitVec 32 := 8#32
  let v1101 : BitVec 32 := Scalar.muli v981 c8_i32_371
  v1101
def k0_mult5 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_373 : BitVec 32 := 8#32
  let v1108 : BitVec 32 := Scalar.muli v981 c8_i32_373
  v1108
def k0_off4 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1115 : Index := Scalar.indexCast v981
  let c128_375 : Index := 128#32
  ![v1115.toNat, 128]
def k0_off5 (k0_t1 : Fin k0_t1_loop.trips) : Fin 3 → Nat :=
  let c1 : Index := 1#32
  let c0_i32_333 : BitVec 32 := 0#32
  let c1_i32_334 : BitVec 32 := 1#32
  let arg12 : BitVec 32 := Scf.iv c0_i32_333 c1_i32_334 k0_t1
  let v1117 : Index := Scalar.indexCast arg12
  let c0_376 : Index := 0#32
  ![1, v1117.toNat, 0]
def k0_mult6 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_403 : BitVec 32 := 8#32
  let v1220 : BitVec 32 := Scalar.muli v981 c8_i32_403
  v1220
def k0_off6 (k0_t1 : Fin k0_t1_loop.trips) (c0_i32_337 : BitVec 32) (c0_i32_404 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_403 : BitVec 32 := 8#32
  let v1220 : BitVec 32 := Scalar.muli v981 c8_i32_403
  let v1221 : BitVec 32 := v1220
  let v1222 : BitVec 32 := Scalar.addi v1221 c0_i32_404
  let v1223 : Index := Scalar.indexCast v1222
  let c128_405 : Index := 128#32
  ![v1223.toNat, 128]
def k0_mult7 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_406 : BitVec 32 := 8#32
  let v1227 : BitVec 32 := Scalar.muli v981 c8_i32_406
  v1227
def k0_mult8 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_409 : BitVec 32 := 8#32
  let v1234 : BitVec 32 := Scalar.muli v981 c8_i32_409
  v1234
def k0_mult9 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_412 : BitVec 32 := 8#32
  let v1241 : BitVec 32 := Scalar.muli v981 c8_i32_412
  v1241
def k0_off7 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1248 : Index := Scalar.indexCast v981
  let c256_415 : Index := 256#32
  ![v1248.toNat, 256]
def k0_off8 (k0_t1 : Fin k0_t1_loop.trips) : Fin 3 → Nat :=
  let c2 : Index := 2#32
  let c0_i32_333 : BitVec 32 := 0#32
  let c1_i32_334 : BitVec 32 := 1#32
  let arg12 : BitVec 32 := Scf.iv c0_i32_333 c1_i32_334 k0_t1
  let v1250 : Index := Scalar.indexCast arg12
  let c0_416 : Index := 0#32
  ![2, v1250.toNat, 0]
def k0_mult10 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_443 : BitVec 32 := 8#32
  let v1353 : BitVec 32 := Scalar.muli v981 c8_i32_443
  v1353
def k0_off9 (k0_t1 : Fin k0_t1_loop.trips) (c0_i32_337 : BitVec 32) (c0_i32_444 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_443 : BitVec 32 := 8#32
  let v1353 : BitVec 32 := Scalar.muli v981 c8_i32_443
  let v1354 : BitVec 32 := v1353
  let v1355 : BitVec 32 := Scalar.addi v1354 c0_i32_444
  let v1356 : Index := Scalar.indexCast v1355
  let c256_445 : Index := 256#32
  ![v1356.toNat, 256]
def k0_mult11 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_446 : BitVec 32 := 8#32
  let v1360 : BitVec 32 := Scalar.muli v981 c8_i32_446
  v1360
def k0_mult12 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_449 : BitVec 32 := 8#32
  let v1367 : BitVec 32 := Scalar.muli v981 c8_i32_449
  v1367
def k0_mult13 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_452 : BitVec 32 := 8#32
  let v1374 : BitVec 32 := Scalar.muli v981 c8_i32_452
  v1374
def k0_off10 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1381 : Index := Scalar.indexCast v981
  let c384_455 : Index := 384#32
  ![v1381.toNat, 384]
def k0_off11 (k0_t1 : Fin k0_t1_loop.trips) : Fin 3 → Nat :=
  let c3 : Index := 3#32
  let c0_i32_333 : BitVec 32 := 0#32
  let c1_i32_334 : BitVec 32 := 1#32
  let arg12 : BitVec 32 := Scf.iv c0_i32_333 c1_i32_334 k0_t1
  let v1383 : Index := Scalar.indexCast arg12
  let c0_456 : Index := 0#32
  ![3, v1383.toNat, 0]
def k0_mult14 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_483 : BitVec 32 := 8#32
  let v1486 : BitVec 32 := Scalar.muli v981 c8_i32_483
  v1486
def k0_off12 (k0_t1 : Fin k0_t1_loop.trips) (c0_i32_337 : BitVec 32) (c0_i32_484 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_483 : BitVec 32 := 8#32
  let v1486 : BitVec 32 := Scalar.muli v981 c8_i32_483
  let v1487 : BitVec 32 := v1486
  let v1488 : BitVec 32 := Scalar.addi v1487 c0_i32_484
  let v1489 : Index := Scalar.indexCast v1488
  let c384_485 : Index := 384#32
  ![v1489.toNat, 384]
def k0_mult15 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_486 : BitVec 32 := 8#32
  let v1493 : BitVec 32 := Scalar.muli v981 c8_i32_486
  v1493
def k0_mult16 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_489 : BitVec 32 := 8#32
  let v1500 : BitVec 32 := Scalar.muli v981 c8_i32_489
  v1500
def k0_mult17 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_492 : BitVec 32 := 8#32
  let v1507 : BitVec 32 := Scalar.muli v981 c8_i32_492
  v1507
def k0_off13 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1514 : Index := Scalar.indexCast v981
  let c512_495 : Index := 512#32
  ![v1514.toNat, 512]
def k0_off14 (k0_t1 : Fin k0_t1_loop.trips) : Fin 3 → Nat :=
  let c4 : Index := 4#32
  let c0_i32_333 : BitVec 32 := 0#32
  let c1_i32_334 : BitVec 32 := 1#32
  let arg12 : BitVec 32 := Scf.iv c0_i32_333 c1_i32_334 k0_t1
  let v1516 : Index := Scalar.indexCast arg12
  let c0_496 : Index := 0#32
  ![4, v1516.toNat, 0]
def k0_mult18 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_523 : BitVec 32 := 8#32
  let v1619 : BitVec 32 := Scalar.muli v981 c8_i32_523
  v1619
def k0_off15 (k0_t1 : Fin k0_t1_loop.trips) (c0_i32_337 : BitVec 32) (c0_i32_524 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_523 : BitVec 32 := 8#32
  let v1619 : BitVec 32 := Scalar.muli v981 c8_i32_523
  let v1620 : BitVec 32 := v1619
  let v1621 : BitVec 32 := Scalar.addi v1620 c0_i32_524
  let v1622 : Index := Scalar.indexCast v1621
  let c512_525 : Index := 512#32
  ![v1622.toNat, 512]
def k0_mult19 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_526 : BitVec 32 := 8#32
  let v1626 : BitVec 32 := Scalar.muli v981 c8_i32_526
  v1626
def k0_mult20 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_529 : BitVec 32 := 8#32
  let v1633 : BitVec 32 := Scalar.muli v981 c8_i32_529
  v1633
def k0_mult21 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_532 : BitVec 32 := 8#32
  let v1640 : BitVec 32 := Scalar.muli v981 c8_i32_532
  v1640
def k0_off16 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1647 : Index := Scalar.indexCast v981
  let c640_535 : Index := 640#32
  ![v1647.toNat, 640]
def k0_off17 (k0_t1 : Fin k0_t1_loop.trips) : Fin 3 → Nat :=
  let c5 : Index := 5#32
  let c0_i32_333 : BitVec 32 := 0#32
  let c1_i32_334 : BitVec 32 := 1#32
  let arg12 : BitVec 32 := Scf.iv c0_i32_333 c1_i32_334 k0_t1
  let v1649 : Index := Scalar.indexCast arg12
  let c0_536 : Index := 0#32
  ![5, v1649.toNat, 0]
def k0_mult22 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_563 : BitVec 32 := 8#32
  let v1752 : BitVec 32 := Scalar.muli v981 c8_i32_563
  v1752
def k0_off18 (k0_t1 : Fin k0_t1_loop.trips) (c0_i32_337 : BitVec 32) (c0_i32_564 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_563 : BitVec 32 := 8#32
  let v1752 : BitVec 32 := Scalar.muli v981 c8_i32_563
  let v1753 : BitVec 32 := v1752
  let v1754 : BitVec 32 := Scalar.addi v1753 c0_i32_564
  let v1755 : Index := Scalar.indexCast v1754
  let c640_565 : Index := 640#32
  ![v1755.toNat, 640]
def k0_mult23 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_566 : BitVec 32 := 8#32
  let v1759 : BitVec 32 := Scalar.muli v981 c8_i32_566
  v1759
def k0_mult24 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_569 : BitVec 32 := 8#32
  let v1766 : BitVec 32 := Scalar.muli v981 c8_i32_569
  v1766
def k0_mult25 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_572 : BitVec 32 := 8#32
  let v1773 : BitVec 32 := Scalar.muli v981 c8_i32_572
  v1773
def k0_off19 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1780 : Index := Scalar.indexCast v981
  let c768_575 : Index := 768#32
  ![v1780.toNat, 768]
def k0_off20 (k0_t1 : Fin k0_t1_loop.trips) : Fin 3 → Nat :=
  let c6 : Index := 6#32
  let c0_i32_333 : BitVec 32 := 0#32
  let c1_i32_334 : BitVec 32 := 1#32
  let arg12 : BitVec 32 := Scf.iv c0_i32_333 c1_i32_334 k0_t1
  let v1782 : Index := Scalar.indexCast arg12
  let c0_576 : Index := 0#32
  ![6, v1782.toNat, 0]
def k0_mult26 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_603 : BitVec 32 := 8#32
  let v1885 : BitVec 32 := Scalar.muli v981 c8_i32_603
  v1885
def k0_off21 (k0_t1 : Fin k0_t1_loop.trips) (c0_i32_337 : BitVec 32) (c0_i32_604 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_603 : BitVec 32 := 8#32
  let v1885 : BitVec 32 := Scalar.muli v981 c8_i32_603
  let v1886 : BitVec 32 := v1885
  let v1887 : BitVec 32 := Scalar.addi v1886 c0_i32_604
  let v1888 : Index := Scalar.indexCast v1887
  let c768_605 : Index := 768#32
  ![v1888.toNat, 768]
def k0_mult27 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_606 : BitVec 32 := 8#32
  let v1892 : BitVec 32 := Scalar.muli v981 c8_i32_606
  v1892
def k0_mult28 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_609 : BitVec 32 := 8#32
  let v1899 : BitVec 32 := Scalar.muli v981 c8_i32_609
  v1899
def k0_mult29 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_612 : BitVec 32 := 8#32
  let v1906 : BitVec 32 := Scalar.muli v981 c8_i32_612
  v1906
def k0_off22 (k0_t1 : Fin k0_t1_loop.trips) (c0_i32_337 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let v1913 : Index := Scalar.indexCast v981
  let c896_615 : Index := 896#32
  ![v1913.toNat, 896]
def k0_off23 (k0_t1 : Fin k0_t1_loop.trips) : Fin 3 → Nat :=
  let c7 : Index := 7#32
  let c0_i32_333 : BitVec 32 := 0#32
  let c1_i32_334 : BitVec 32 := 1#32
  let arg12 : BitVec 32 := Scf.iv c0_i32_333 c1_i32_334 k0_t1
  let v1915 : Index := Scalar.indexCast arg12
  let c0_616 : Index := 0#32
  ![7, v1915.toNat, 0]
def k0_mult30 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_643 : BitVec 32 := 8#32
  let v2018 : BitVec 32 := Scalar.muli v981 c8_i32_643
  v2018
def k0_off24 (k0_t1 : Fin k0_t1_loop.trips) (c0_i32_337 : BitVec 32) (c0_i32_644 : BitVec 32) : Fin 2 → Nat :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let v980 : BitVec 32 := Scalar.addi v979 c0_i32_337
  let v981 : BitVec 32 := v980
  let c8_i32_643 : BitVec 32 := 8#32
  let v2018 : BitVec 32 := Scalar.muli v981 c8_i32_643
  let v2019 : BitVec 32 := v2018
  let v2020 : BitVec 32 := Scalar.addi v2019 c0_i32_644
  let v2021 : Index := Scalar.indexCast v2020
  let c896_645 : Index := 896#32
  ![v2021.toNat, 896]
def k0_mult31 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_646 : BitVec 32 := 8#32
  let v2025 : BitVec 32 := Scalar.muli v981 c8_i32_646
  v2025
def k0_mult32 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_649 : BitVec 32 := 8#32
  let v2032 : BitVec 32 := Scalar.muli v981 c8_i32_649
  v2032
def k0_mult33 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_336 : BitVec 32 := 16#32
  let v979 : BitVec 32 := Scalar.muli arg12 c16_i32_336
  let c0_i32_337 : BitVec 32 := 0#32
  let v980 : BitVec 32 := Scalar.addi v979 c0_i32_337
  let v981 : BitVec 32 := v980
  let c8_i32_652 : BitVec 32 := 8#32
  let v2039 : BitVec 32 := Scalar.muli v981 c8_i32_652
  v2039
def k0_mult34 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  v2047
def k0_mult35 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_686 : BitVec 32 := 8#32
  let v2154 : BitVec 32 := Scalar.muli v2048 c8_i32_686
  v2154
def k0_mult36 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_689 : BitVec 32 := 8#32
  let v2161 : BitVec 32 := Scalar.muli v2048 c8_i32_689
  v2161
def k0_mult37 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_692 : BitVec 32 := 8#32
  let v2168 : BitVec 32 := Scalar.muli v2048 c8_i32_692
  v2168
def k0_mult38 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_695 : BitVec 32 := 8#32
  let v2175 : BitVec 32 := Scalar.muli v2048 c8_i32_695
  v2175
def k0_mult39 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_727 : BitVec 32 := 8#32
  let v2287 : BitVec 32 := Scalar.muli v2048 c8_i32_727
  v2287
def k0_mult40 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_730 : BitVec 32 := 8#32
  let v2294 : BitVec 32 := Scalar.muli v2048 c8_i32_730
  v2294
def k0_mult41 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_733 : BitVec 32 := 8#32
  let v2301 : BitVec 32 := Scalar.muli v2048 c8_i32_733
  v2301
def k0_mult42 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_736 : BitVec 32 := 8#32
  let v2308 : BitVec 32 := Scalar.muli v2048 c8_i32_736
  v2308
def k0_mult43 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_768 : BitVec 32 := 8#32
  let v2420 : BitVec 32 := Scalar.muli v2048 c8_i32_768
  v2420
def k0_mult44 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_771 : BitVec 32 := 8#32
  let v2427 : BitVec 32 := Scalar.muli v2048 c8_i32_771
  v2427
def k0_mult45 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_774 : BitVec 32 := 8#32
  let v2434 : BitVec 32 := Scalar.muli v2048 c8_i32_774
  v2434
def k0_mult46 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_777 : BitVec 32 := 8#32
  let v2441 : BitVec 32 := Scalar.muli v2048 c8_i32_777
  v2441
def k0_mult47 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_809 : BitVec 32 := 8#32
  let v2553 : BitVec 32 := Scalar.muli v2048 c8_i32_809
  v2553
def k0_mult48 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_812 : BitVec 32 := 8#32
  let v2560 : BitVec 32 := Scalar.muli v2048 c8_i32_812
  v2560
def k0_mult49 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_815 : BitVec 32 := 8#32
  let v2567 : BitVec 32 := Scalar.muli v2048 c8_i32_815
  v2567
def k0_mult50 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_818 : BitVec 32 := 8#32
  let v2574 : BitVec 32 := Scalar.muli v2048 c8_i32_818
  v2574
def k0_mult51 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_850 : BitVec 32 := 8#32
  let v2686 : BitVec 32 := Scalar.muli v2048 c8_i32_850
  v2686
def k0_mult52 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_853 : BitVec 32 := 8#32
  let v2693 : BitVec 32 := Scalar.muli v2048 c8_i32_853
  v2693
def k0_mult53 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_856 : BitVec 32 := 8#32
  let v2700 : BitVec 32 := Scalar.muli v2048 c8_i32_856
  v2700
def k0_mult54 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_859 : BitVec 32 := 8#32
  let v2707 : BitVec 32 := Scalar.muli v2048 c8_i32_859
  v2707
def k0_mult55 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_891 : BitVec 32 := 8#32
  let v2819 : BitVec 32 := Scalar.muli v2048 c8_i32_891
  v2819
def k0_mult56 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_894 : BitVec 32 := 8#32
  let v2826 : BitVec 32 := Scalar.muli v2048 c8_i32_894
  v2826
def k0_mult57 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_897 : BitVec 32 := 8#32
  let v2833 : BitVec 32 := Scalar.muli v2048 c8_i32_897
  v2833
def k0_mult58 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_900 : BitVec 32 := 8#32
  let v2840 : BitVec 32 := Scalar.muli v2048 c8_i32_900
  v2840
def k0_mult59 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_932 : BitVec 32 := 8#32
  let v2952 : BitVec 32 := Scalar.muli v2048 c8_i32_932
  v2952
def k0_mult60 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_935 : BitVec 32 := 8#32
  let v2959 : BitVec 32 := Scalar.muli v2048 c8_i32_935
  v2959
def k0_mult61 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_938 : BitVec 32 := 8#32
  let v2966 : BitVec 32 := Scalar.muli v2048 c8_i32_938
  v2966
def k0_mult62 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_941 : BitVec 32 := 8#32
  let v2973 : BitVec 32 := Scalar.muli v2048 c8_i32_941
  v2973
def k0_mult63 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_973 : BitVec 32 := 8#32
  let v3085 : BitVec 32 := Scalar.muli v2048 c8_i32_973
  v3085
def k0_mult64 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_976 : BitVec 32 := 8#32
  let v3092 : BitVec 32 := Scalar.muli v2048 c8_i32_976
  v3092
def k0_mult65 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_979 : BitVec 32 := 8#32
  let v3099 : BitVec 32 := Scalar.muli v2048 c8_i32_979
  v3099
def k0_mult66 (k0_t1 : Fin k0_t1_loop.trips) : BitVec 32 :=
  let c0_i32_333 : BitVec 32 := 0#32
  let c1_i32_334 : BitVec 32 := 1#32
  let arg12 : BitVec 32 := Scf.iv c0_i32_333 c1_i32_334 k0_t1
  let c16_i32_655 : BitVec 32 := 16#32
  let v2046 : BitVec 32 := Scalar.muli arg12 c16_i32_655
  let c8_i32_656 : BitVec 32 := 8#32
  let v2047 : BitVec 32 := Scalar.addi v2046 c8_i32_656
  let v2048 : BitVec 32 := v2047
  let c8_i32_982 : BitVec 32 := 8#32
  let v3106 : BitVec 32 := Scalar.muli v2048 c8_i32_982
  v3106
def k0_off25 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32 : BitVec 32 := 16#32
  let v9 : BitVec 32 := Scalar.muli v8 c16_i32
  let c0_i32_5 : BitVec 32 := 0#32
  let v10 : BitVec 32 := Scalar.addi v9 c0_i32_5
  let v11 : Index := Scalar.indexCast v10
  ![v11.toNat]
def k0_mult67 (v12 : BitVec 32) : BitVec 32 :=
  let c16_i32_6 : BitVec 32 := 16#32
  let v13 : BitVec 32 := Scalar.muli v12 c16_i32_6
  v13

def k0_off26 (v12 : BitVec 32) : Fin 2 → Nat :=
  let c16_i32_6 : BitVec 32 := 16#32
  let v13 : BitVec 32 := Scalar.muli v12 c16_i32_6
  let v14 : BitVec 32 := v13
  let v15 : Index := Scalar.indexCast v14
  let c0_7 : Index := 0#32
  ![v15.toNat, 0]

def k0_chk1 (v12 : BitVec 32) : Prop :=
  (16 ∣ (k0_mult67 v12).toNat) ∧
  (∀ a, (k0_off26 v12) a + S16x1024.size a ≤ S896x1024.size a)
theorem k0_mult67_dvd : ∀ (v12 : BitVec 32) (k0_hw1 : k0_chk1 v12), 16 ∣ (k0_mult67 v12).toNat := fun v12 k0_hw1 => k0_hw1.1
theorem k0_off26_inb : ∀ (v12 : BitVec 32) (k0_hw1 : k0_chk1 v12), ∀ a, (k0_off26 v12) a + S16x1024.size a ≤ S896x1024.size a := fun v12 k0_hw1 => k0_hw1.2

def k0_off27 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_8 : BitVec 32 := 16#32
  let v17 : BitVec 32 := Scalar.muli v8 c16_i32_8
  let c1_i32 : BitVec 32 := 1#32
  let v18 : BitVec 32 := Scalar.addi v17 c1_i32
  let v19 : Index := Scalar.indexCast v18
  ![v19.toNat]
def k0_mult68 (v20 : BitVec 32) : BitVec 32 :=
  let c16_i32_9 : BitVec 32 := 16#32
  let v21 : BitVec 32 := Scalar.muli v20 c16_i32_9
  v21

def k0_off28 (v20 : BitVec 32) : Fin 2 → Nat :=
  let c16_i32_9 : BitVec 32 := 16#32
  let v21 : BitVec 32 := Scalar.muli v20 c16_i32_9
  let v22 : BitVec 32 := v21
  let v23 : Index := Scalar.indexCast v22
  let c0_10 : Index := 0#32
  ![v23.toNat, 0]

def k0_chk2 (v20 : BitVec 32) : Prop :=
  (16 ∣ (k0_mult68 v20).toNat) ∧
  (∀ a, (k0_off28 v20) a + S16x1024.size a ≤ S896x1024.size a)
theorem k0_mult68_dvd : ∀ (v20 : BitVec 32) (k0_hw2 : k0_chk2 v20), 16 ∣ (k0_mult68 v20).toNat := fun v20 k0_hw2 => k0_hw2.1
theorem k0_off28_inb : ∀ (v20 : BitVec 32) (k0_hw2 : k0_chk2 v20), ∀ a, (k0_off28 v20) a + S16x1024.size a ≤ S896x1024.size a := fun v20 k0_hw2 => k0_hw2.2

def k0_off29 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_11 : BitVec 32 := 16#32
  let v25 : BitVec 32 := Scalar.muli v8 c16_i32_11
  let c2_i32_12 : BitVec 32 := 2#32
  let v26 : BitVec 32 := Scalar.addi v25 c2_i32_12
  let v27 : Index := Scalar.indexCast v26
  ![v27.toNat]
def k0_mult69 (v28 : BitVec 32) : BitVec 32 :=
  let c16_i32_13 : BitVec 32 := 16#32
  let v29 : BitVec 32 := Scalar.muli v28 c16_i32_13
  v29

def k0_off30 (v28 : BitVec 32) : Fin 2 → Nat :=
  let c16_i32_13 : BitVec 32 := 16#32
  let v29 : BitVec 32 := Scalar.muli v28 c16_i32_13
  let v30 : BitVec 32 := v29
  let v31 : Index := Scalar.indexCast v30
  let c0_14 : Index := 0#32
  ![v31.toNat, 0]

def k0_chk3 (v28 : BitVec 32) : Prop :=
  (16 ∣ (k0_mult69 v28).toNat) ∧
  (∀ a, (k0_off30 v28) a + S16x1024.size a ≤ S896x1024.size a)
theorem k0_mult69_dvd : ∀ (v28 : BitVec 32) (k0_hw3 : k0_chk3 v28), 16 ∣ (k0_mult69 v28).toNat := fun v28 k0_hw3 => k0_hw3.1
theorem k0_off30_inb : ∀ (v28 : BitVec 32) (k0_hw3 : k0_chk3 v28), ∀ a, (k0_off30 v28) a + S16x1024.size a ≤ S896x1024.size a := fun v28 k0_hw3 => k0_hw3.2

def k0_off31 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_15 : BitVec 32 := 16#32
  let v33 : BitVec 32 := Scalar.muli v8 c16_i32_15
  let c3_i32 : BitVec 32 := 3#32
  let v34 : BitVec 32 := Scalar.addi v33 c3_i32
  let v35 : Index := Scalar.indexCast v34
  ![v35.toNat]
def k0_mult70 (v36 : BitVec 32) : BitVec 32 :=
  let c16_i32_16 : BitVec 32 := 16#32
  let v37 : BitVec 32 := Scalar.muli v36 c16_i32_16
  v37

def k0_off32 (v36 : BitVec 32) : Fin 2 → Nat :=
  let c16_i32_16 : BitVec 32 := 16#32
  let v37 : BitVec 32 := Scalar.muli v36 c16_i32_16
  let v38 : BitVec 32 := v37
  let v39 : Index := Scalar.indexCast v38
  let c0_17 : Index := 0#32
  ![v39.toNat, 0]

def k0_chk4 (v36 : BitVec 32) : Prop :=
  (16 ∣ (k0_mult70 v36).toNat) ∧
  (∀ a, (k0_off32 v36) a + S16x1024.size a ≤ S896x1024.size a)
theorem k0_mult70_dvd : ∀ (v36 : BitVec 32) (k0_hw4 : k0_chk4 v36), 16 ∣ (k0_mult70 v36).toNat := fun v36 k0_hw4 => k0_hw4.1
theorem k0_off32_inb : ∀ (v36 : BitVec 32) (k0_hw4 : k0_chk4 v36), ∀ a, (k0_off32 v36) a + S16x1024.size a ≤ S896x1024.size a := fun v36 k0_hw4 => k0_hw4.2

def k0_off33 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_18 : BitVec 32 := 16#32
  let v41 : BitVec 32 := Scalar.muli v8 c16_i32_18
  let c4_i32 : BitVec 32 := 4#32
  let v42 : BitVec 32 := Scalar.addi v41 c4_i32
  let v43 : Index := Scalar.indexCast v42
  ![v43.toNat]
def k0_mult71 (v44 : BitVec 32) : BitVec 32 :=
  let c16_i32_19 : BitVec 32 := 16#32
  let v45 : BitVec 32 := Scalar.muli v44 c16_i32_19
  v45

def k0_off34 (v44 : BitVec 32) : Fin 2 → Nat :=
  let c16_i32_19 : BitVec 32 := 16#32
  let v45 : BitVec 32 := Scalar.muli v44 c16_i32_19
  let v46 : BitVec 32 := v45
  let v47 : Index := Scalar.indexCast v46
  let c0_20 : Index := 0#32
  ![v47.toNat, 0]

def k0_chk5 (v44 : BitVec 32) : Prop :=
  (16 ∣ (k0_mult71 v44).toNat) ∧
  (∀ a, (k0_off34 v44) a + S16x1024.size a ≤ S896x1024.size a)
theorem k0_mult71_dvd : ∀ (v44 : BitVec 32) (k0_hw5 : k0_chk5 v44), 16 ∣ (k0_mult71 v44).toNat := fun v44 k0_hw5 => k0_hw5.1
theorem k0_off34_inb : ∀ (v44 : BitVec 32) (k0_hw5 : k0_chk5 v44), ∀ a, (k0_off34 v44) a + S16x1024.size a ≤ S896x1024.size a := fun v44 k0_hw5 => k0_hw5.2

def k0_off35 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_21 : BitVec 32 := 16#32
  let v49 : BitVec 32 := Scalar.muli v8 c16_i32_21
  let c5_i32 : BitVec 32 := 5#32
  let v50 : BitVec 32 := Scalar.addi v49 c5_i32
  let v51 : Index := Scalar.indexCast v50
  ![v51.toNat]
def k0_mult72 (v52 : BitVec 32) : BitVec 32 :=
  let c16_i32_22 : BitVec 32 := 16#32
  let v53 : BitVec 32 := Scalar.muli v52 c16_i32_22
  v53

def k0_off36 (v52 : BitVec 32) : Fin 2 → Nat :=
  let c16_i32_22 : BitVec 32 := 16#32
  let v53 : BitVec 32 := Scalar.muli v52 c16_i32_22
  let v54 : BitVec 32 := v53
  let v55 : Index := Scalar.indexCast v54
  let c0_23 : Index := 0#32
  ![v55.toNat, 0]

def k0_chk6 (v52 : BitVec 32) : Prop :=
  (16 ∣ (k0_mult72 v52).toNat) ∧
  (∀ a, (k0_off36 v52) a + S16x1024.size a ≤ S896x1024.size a)
theorem k0_mult72_dvd : ∀ (v52 : BitVec 32) (k0_hw6 : k0_chk6 v52), 16 ∣ (k0_mult72 v52).toNat := fun v52 k0_hw6 => k0_hw6.1
theorem k0_off36_inb : ∀ (v52 : BitVec 32) (k0_hw6 : k0_chk6 v52), ∀ a, (k0_off36 v52) a + S16x1024.size a ≤ S896x1024.size a := fun v52 k0_hw6 => k0_hw6.2

def k0_off37 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_24 : BitVec 32 := 16#32
  let v57 : BitVec 32 := Scalar.muli v8 c16_i32_24
  let c6_i32 : BitVec 32 := 6#32
  let v58 : BitVec 32 := Scalar.addi v57 c6_i32
  let v59 : Index := Scalar.indexCast v58
  ![v59.toNat]
def k0_mult73 (v60 : BitVec 32) : BitVec 32 :=
  let c16_i32_25 : BitVec 32 := 16#32
  let v61 : BitVec 32 := Scalar.muli v60 c16_i32_25
  v61

def k0_off38 (v60 : BitVec 32) : Fin 2 → Nat :=
  let c16_i32_25 : BitVec 32 := 16#32
  let v61 : BitVec 32 := Scalar.muli v60 c16_i32_25
  let v62 : BitVec 32 := v61
  let v63 : Index := Scalar.indexCast v62
  let c0_26 : Index := 0#32
  ![v63.toNat, 0]

def k0_chk7 (v60 : BitVec 32) : Prop :=
  (16 ∣ (k0_mult73 v60).toNat) ∧
  (∀ a, (k0_off38 v60) a + S16x1024.size a ≤ S896x1024.size a)
theorem k0_mult73_dvd : ∀ (v60 : BitVec 32) (k0_hw7 : k0_chk7 v60), 16 ∣ (k0_mult73 v60).toNat := fun v60 k0_hw7 => k0_hw7.1
theorem k0_off38_inb : ∀ (v60 : BitVec 32) (k0_hw7 : k0_chk7 v60), ∀ a, (k0_off38 v60) a + S16x1024.size a ≤ S896x1024.size a := fun v60 k0_hw7 => k0_hw7.2

def k0_off39 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_27 : BitVec 32 := 16#32
  let v65 : BitVec 32 := Scalar.muli v8 c16_i32_27
  let c7_i32 : BitVec 32 := 7#32
  let v66 : BitVec 32 := Scalar.addi v65 c7_i32
  let v67 : Index := Scalar.indexCast v66
  ![v67.toNat]
def k0_mult74 (v68 : BitVec 32) : BitVec 32 :=
  let c16_i32_28 : BitVec 32 := 16#32
  let v69 : BitVec 32 := Scalar.muli v68 c16_i32_28
  v69

def k0_off40 (v68 : BitVec 32) : Fin 2 → Nat :=
  let c16_i32_28 : BitVec 32 := 16#32
  let v69 : BitVec 32 := Scalar.muli v68 c16_i32_28
  let v70 : BitVec 32 := v69
  let v71 : Index := Scalar.indexCast v70
  let c0_29 : Index := 0#32
  ![v71.toNat, 0]

def k0_chk8 (v68 : BitVec 32) : Prop :=
  (16 ∣ (k0_mult74 v68).toNat) ∧
  (∀ a, (k0_off40 v68) a + S16x1024.size a ≤ S896x1024.size a)
theorem k0_mult74_dvd : ∀ (v68 : BitVec 32) (k0_hw8 : k0_chk8 v68), 16 ∣ (k0_mult74 v68).toNat := fun v68 k0_hw8 => k0_hw8.1
theorem k0_off40_inb : ∀ (v68 : BitVec 32) (k0_hw8 : k0_chk8 v68), ∀ a, (k0_off40 v68) a + S16x1024.size a ≤ S896x1024.size a := fun v68 k0_hw8 => k0_hw8.2

def k0_off41 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_30 : BitVec 32 := 16#32
  let v73 : BitVec 32 := Scalar.muli v8 c16_i32_30
  let c8_i32 : BitVec 32 := 8#32
  let v74 : BitVec 32 := Scalar.addi v73 c8_i32
  let v75 : Index := Scalar.indexCast v74
  ![v75.toNat]
def k0_mult75 (v76 : BitVec 32) : BitVec 32 :=
  let c16_i32_31 : BitVec 32 := 16#32
  let v77 : BitVec 32 := Scalar.muli v76 c16_i32_31
  v77

def k0_off42 (v76 : BitVec 32) : Fin 2 → Nat :=
  let c16_i32_31 : BitVec 32 := 16#32
  let v77 : BitVec 32 := Scalar.muli v76 c16_i32_31
  let v78 : BitVec 32 := v77
  let v79 : Index := Scalar.indexCast v78
  let c0_32 : Index := 0#32
  ![v79.toNat, 0]

def k0_chk9 (v76 : BitVec 32) : Prop :=
  (16 ∣ (k0_mult75 v76).toNat) ∧
  (∀ a, (k0_off42 v76) a + S16x1024.size a ≤ S896x1024.size a)
theorem k0_mult75_dvd : ∀ (v76 : BitVec 32) (k0_hw9 : k0_chk9 v76), 16 ∣ (k0_mult75 v76).toNat := fun v76 k0_hw9 => k0_hw9.1
theorem k0_off42_inb : ∀ (v76 : BitVec 32) (k0_hw9 : k0_chk9 v76), ∀ a, (k0_off42 v76) a + S16x1024.size a ≤ S896x1024.size a := fun v76 k0_hw9 => k0_hw9.2

def k0_off43 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_33 : BitVec 32 := 16#32
  let v81 : BitVec 32 := Scalar.muli v8 c16_i32_33
  let c9_i32 : BitVec 32 := 9#32
  let v82 : BitVec 32 := Scalar.addi v81 c9_i32
  let v83 : Index := Scalar.indexCast v82
  ![v83.toNat]
def k0_mult76 (v84 : BitVec 32) : BitVec 32 :=
  let c16_i32_34 : BitVec 32 := 16#32
  let v85 : BitVec 32 := Scalar.muli v84 c16_i32_34
  v85

def k0_off44 (v84 : BitVec 32) : Fin 2 → Nat :=
  let c16_i32_34 : BitVec 32 := 16#32
  let v85 : BitVec 32 := Scalar.muli v84 c16_i32_34
  let v86 : BitVec 32 := v85
  let v87 : Index := Scalar.indexCast v86
  let c0_35 : Index := 0#32
  ![v87.toNat, 0]

def k0_chk10 (v84 : BitVec 32) : Prop :=
  (16 ∣ (k0_mult76 v84).toNat) ∧
  (∀ a, (k0_off44 v84) a + S16x1024.size a ≤ S896x1024.size a)
theorem k0_mult76_dvd : ∀ (v84 : BitVec 32) (k0_hw10 : k0_chk10 v84), 16 ∣ (k0_mult76 v84).toNat := fun v84 k0_hw10 => k0_hw10.1
theorem k0_off44_inb : ∀ (v84 : BitVec 32) (k0_hw10 : k0_chk10 v84), ∀ a, (k0_off44 v84) a + S16x1024.size a ≤ S896x1024.size a := fun v84 k0_hw10 => k0_hw10.2

def k0_off45 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_36 : BitVec 32 := 16#32
  let v89 : BitVec 32 := Scalar.muli v8 c16_i32_36
  let c10_i32 : BitVec 32 := 10#32
  let v90 : BitVec 32 := Scalar.addi v89 c10_i32
  let v91 : Index := Scalar.indexCast v90
  ![v91.toNat]
def k0_mult77 (v92 : BitVec 32) : BitVec 32 :=
  let c16_i32_37 : BitVec 32 := 16#32
  let v93 : BitVec 32 := Scalar.muli v92 c16_i32_37
  v93

def k0_off46 (v92 : BitVec 32) : Fin 2 → Nat :=
  let c16_i32_37 : BitVec 32 := 16#32
  let v93 : BitVec 32 := Scalar.muli v92 c16_i32_37
  let v94 : BitVec 32 := v93
  let v95 : Index := Scalar.indexCast v94
  let c0_38 : Index := 0#32
  ![v95.toNat, 0]

def k0_chk11 (v92 : BitVec 32) : Prop :=
  (16 ∣ (k0_mult77 v92).toNat) ∧
  (∀ a, (k0_off46 v92) a + S16x1024.size a ≤ S896x1024.size a)
theorem k0_mult77_dvd : ∀ (v92 : BitVec 32) (k0_hw11 : k0_chk11 v92), 16 ∣ (k0_mult77 v92).toNat := fun v92 k0_hw11 => k0_hw11.1
theorem k0_off46_inb : ∀ (v92 : BitVec 32) (k0_hw11 : k0_chk11 v92), ∀ a, (k0_off46 v92) a + S16x1024.size a ≤ S896x1024.size a := fun v92 k0_hw11 => k0_hw11.2

def k0_off47 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_39 : BitVec 32 := 16#32
  let v97 : BitVec 32 := Scalar.muli v8 c16_i32_39
  let c11_i32 : BitVec 32 := 11#32
  let v98 : BitVec 32 := Scalar.addi v97 c11_i32
  let v99 : Index := Scalar.indexCast v98
  ![v99.toNat]
def k0_mult78 (v100 : BitVec 32) : BitVec 32 :=
  let c16_i32_40 : BitVec 32 := 16#32
  let v101 : BitVec 32 := Scalar.muli v100 c16_i32_40
  v101

def k0_off48 (v100 : BitVec 32) : Fin 2 → Nat :=
  let c16_i32_40 : BitVec 32 := 16#32
  let v101 : BitVec 32 := Scalar.muli v100 c16_i32_40
  let v102 : BitVec 32 := v101
  let v103 : Index := Scalar.indexCast v102
  let c0_41 : Index := 0#32
  ![v103.toNat, 0]

def k0_chk12 (v100 : BitVec 32) : Prop :=
  (16 ∣ (k0_mult78 v100).toNat) ∧
  (∀ a, (k0_off48 v100) a + S16x1024.size a ≤ S896x1024.size a)
theorem k0_mult78_dvd : ∀ (v100 : BitVec 32) (k0_hw12 : k0_chk12 v100), 16 ∣ (k0_mult78 v100).toNat := fun v100 k0_hw12 => k0_hw12.1
theorem k0_off48_inb : ∀ (v100 : BitVec 32) (k0_hw12 : k0_chk12 v100), ∀ a, (k0_off48 v100) a + S16x1024.size a ≤ S896x1024.size a := fun v100 k0_hw12 => k0_hw12.2

def k0_off49 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_42 : BitVec 32 := 16#32
  let v105 : BitVec 32 := Scalar.muli v8 c16_i32_42
  let c12_i32 : BitVec 32 := 12#32
  let v106 : BitVec 32 := Scalar.addi v105 c12_i32
  let v107 : Index := Scalar.indexCast v106
  ![v107.toNat]
def k0_mult79 (v108 : BitVec 32) : BitVec 32 :=
  let c16_i32_43 : BitVec 32 := 16#32
  let v109 : BitVec 32 := Scalar.muli v108 c16_i32_43
  v109

def k0_off50 (v108 : BitVec 32) : Fin 2 → Nat :=
  let c16_i32_43 : BitVec 32 := 16#32
  let v109 : BitVec 32 := Scalar.muli v108 c16_i32_43
  let v110 : BitVec 32 := v109
  let v111 : Index := Scalar.indexCast v110
  let c0_44 : Index := 0#32
  ![v111.toNat, 0]

def k0_chk13 (v108 : BitVec 32) : Prop :=
  (16 ∣ (k0_mult79 v108).toNat) ∧
  (∀ a, (k0_off50 v108) a + S16x1024.size a ≤ S896x1024.size a)
theorem k0_mult79_dvd : ∀ (v108 : BitVec 32) (k0_hw13 : k0_chk13 v108), 16 ∣ (k0_mult79 v108).toNat := fun v108 k0_hw13 => k0_hw13.1
theorem k0_off50_inb : ∀ (v108 : BitVec 32) (k0_hw13 : k0_chk13 v108), ∀ a, (k0_off50 v108) a + S16x1024.size a ≤ S896x1024.size a := fun v108 k0_hw13 => k0_hw13.2

def k0_off51 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_45 : BitVec 32 := 16#32
  let v113 : BitVec 32 := Scalar.muli v8 c16_i32_45
  let c13_i32 : BitVec 32 := 13#32
  let v114 : BitVec 32 := Scalar.addi v113 c13_i32
  let v115 : Index := Scalar.indexCast v114
  ![v115.toNat]
def k0_mult80 (v116 : BitVec 32) : BitVec 32 :=
  let c16_i32_46 : BitVec 32 := 16#32
  let v117 : BitVec 32 := Scalar.muli v116 c16_i32_46
  v117

def k0_off52 (v116 : BitVec 32) : Fin 2 → Nat :=
  let c16_i32_46 : BitVec 32 := 16#32
  let v117 : BitVec 32 := Scalar.muli v116 c16_i32_46
  let v118 : BitVec 32 := v117
  let v119 : Index := Scalar.indexCast v118
  let c0_47 : Index := 0#32
  ![v119.toNat, 0]

def k0_chk14 (v116 : BitVec 32) : Prop :=
  (16 ∣ (k0_mult80 v116).toNat) ∧
  (∀ a, (k0_off52 v116) a + S16x1024.size a ≤ S896x1024.size a)
theorem k0_mult80_dvd : ∀ (v116 : BitVec 32) (k0_hw14 : k0_chk14 v116), 16 ∣ (k0_mult80 v116).toNat := fun v116 k0_hw14 => k0_hw14.1
theorem k0_off52_inb : ∀ (v116 : BitVec 32) (k0_hw14 : k0_chk14 v116), ∀ a, (k0_off52 v116) a + S16x1024.size a ≤ S896x1024.size a := fun v116 k0_hw14 => k0_hw14.2

def k0_off53 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_48 : BitVec 32 := 16#32
  let v121 : BitVec 32 := Scalar.muli v8 c16_i32_48
  let c14_i32 : BitVec 32 := 14#32
  let v122 : BitVec 32 := Scalar.addi v121 c14_i32
  let v123 : Index := Scalar.indexCast v122
  ![v123.toNat]
def k0_mult81 (v124 : BitVec 32) : BitVec 32 :=
  let c16_i32_49 : BitVec 32 := 16#32
  let v125 : BitVec 32 := Scalar.muli v124 c16_i32_49
  v125

def k0_off54 (v124 : BitVec 32) : Fin 2 → Nat :=
  let c16_i32_49 : BitVec 32 := 16#32
  let v125 : BitVec 32 := Scalar.muli v124 c16_i32_49
  let v126 : BitVec 32 := v125
  let v127 : Index := Scalar.indexCast v126
  let c0_50 : Index := 0#32
  ![v127.toNat, 0]

def k0_chk15 (v124 : BitVec 32) : Prop :=
  (16 ∣ (k0_mult81 v124).toNat) ∧
  (∀ a, (k0_off54 v124) a + S16x1024.size a ≤ S896x1024.size a)
theorem k0_mult81_dvd : ∀ (v124 : BitVec 32) (k0_hw15 : k0_chk15 v124), 16 ∣ (k0_mult81 v124).toNat := fun v124 k0_hw15 => k0_hw15.1
theorem k0_off54_inb : ∀ (v124 : BitVec 32) (k0_hw15 : k0_chk15 v124), ∀ a, (k0_off54 v124) a + S16x1024.size a ≤ S896x1024.size a := fun v124 k0_hw15 => k0_hw15.2

def k0_off55 (i : grid0.Coords) : Fin 1 → Nat :=
  let arg1 : BitVec 32 := BitVec.ofNat 32 (i 1).val
  let c2_i32 : BitVec 32 := 2#32
  let v7 : BitVec 32 := Scalar.muli arg1 c2_i32
  let c0_i32_4 : BitVec 32 := 0#32
  let v8 : BitVec 32 := Scalar.addi v7 c0_i32_4
  let c16_i32_51 : BitVec 32 := 16#32
  let v129 : BitVec 32 := Scalar.muli v8 c16_i32_51
  let c15_i32 : BitVec 32 := 15#32
  let v130 : BitVec 32 := Scalar.addi v129 c15_i32
  let v131 : Index := Scalar.indexCast v130
  ![v131.toNat]
def k0_mult82 (v132 : BitVec 32) : BitVec 32 :=
  let c16_i32_52 : BitVec 32 := 16#32
  let v133 : BitVec 32 := Scalar.muli v132 c16_i32_52
  v133

def k0_off56 (v132 : BitVec 32) : Fin 2 → Nat :=
  let c16_i32_52 : BitVec 32 := 16#32
  let v133 : BitVec 32 := Scalar.muli v132 c16_i32_52
  let v134 : BitVec 32 := v133
  let v135 : Index := Scalar.indexCast v134
  let c0_53 : Index := 0#32
  ![v135.toNat, 0]

def k0_chk16 (v132 : BitVec 32) : Prop :=
  (16 ∣ (k0_mult82 v132).toNat) ∧
  (∀ a, (k0_off56 v132) a + S16x1024.size a ≤ S896x1024.size a)
theorem k0_mult82_dvd : ∀ (v132 : BitVec 32) (k0_hw16 : k0_chk16 v132), 16 ∣ (k0_mult82 v132).toNat := fun v132 k0_hw16 => k0_hw16.1
theorem k0_off56_inb : ∀ (v132 : BitVec 32) (k0_hw16 : k0_chk16 v132), ∀ a, (k0_off56 v132) a + S16x1024.size a ≤ S896x1024.size a := fun v132 k0_hw16 => k0_hw16.2

def k0_off57 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_59 : BitVec 32 := 16#32
  let v142 : BitVec 32 := Scalar.muli v141 c16_i32_59
  let c0_i32_60 : BitVec 32 := 0#32
  let v143 : BitVec 32 := Scalar.addi v142 c0_i32_60
  let v144 : Index := Scalar.indexCast v143
  ![v144.toNat]
def k0_mult83 (v145 : BitVec 32) : BitVec 32 :=
  let c16_i32_61 : BitVec 32 := 16#32
  let v146 : BitVec 32 := Scalar.muli v145 c16_i32_61
  v146

def k0_off58 (v145 : BitVec 32) : Fin 2 → Nat :=
  let c16_i32_61 : BitVec 32 := 16#32
  let v146 : BitVec 32 := Scalar.muli v145 c16_i32_61
  let v147 : BitVec 32 := v146
  let v148 : Index := Scalar.indexCast v147
  let c0_62 : Index := 0#32
  ![v148.toNat, 0]

def k0_chk17 (v145 : BitVec 32) : Prop :=
  (16 ∣ (k0_mult83 v145).toNat) ∧
  (∀ a, (k0_off58 v145) a + S16x1024.size a ≤ S896x1024.size a)
theorem k0_mult83_dvd : ∀ (v145 : BitVec 32) (k0_hw17 : k0_chk17 v145), 16 ∣ (k0_mult83 v145).toNat := fun v145 k0_hw17 => k0_hw17.1
theorem k0_off58_inb : ∀ (v145 : BitVec 32) (k0_hw17 : k0_chk17 v145), ∀ a, (k0_off58 v145) a + S16x1024.size a ≤ S896x1024.size a := fun v145 k0_hw17 => k0_hw17.2

def k0_off59 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_63 : BitVec 32 := 16#32
  let v150 : BitVec 32 := Scalar.muli v141 c16_i32_63
  let c1_i32_64 : BitVec 32 := 1#32
  let v151 : BitVec 32 := Scalar.addi v150 c1_i32_64
  let v152 : Index := Scalar.indexCast v151
  ![v152.toNat]
def k0_mult84 (v153 : BitVec 32) : BitVec 32 :=
  let c16_i32_65 : BitVec 32 := 16#32
  let v154 : BitVec 32 := Scalar.muli v153 c16_i32_65
  v154

def k0_off60 (v153 : BitVec 32) : Fin 2 → Nat :=
  let c16_i32_65 : BitVec 32 := 16#32
  let v154 : BitVec 32 := Scalar.muli v153 c16_i32_65
  let v155 : BitVec 32 := v154
  let v156 : Index := Scalar.indexCast v155
  let c0_66 : Index := 0#32
  ![v156.toNat, 0]

def k0_chk18 (v153 : BitVec 32) : Prop :=
  (16 ∣ (k0_mult84 v153).toNat) ∧
  (∀ a, (k0_off60 v153) a + S16x1024.size a ≤ S896x1024.size a)
theorem k0_mult84_dvd : ∀ (v153 : BitVec 32) (k0_hw18 : k0_chk18 v153), 16 ∣ (k0_mult84 v153).toNat := fun v153 k0_hw18 => k0_hw18.1
theorem k0_off60_inb : ∀ (v153 : BitVec 32) (k0_hw18 : k0_chk18 v153), ∀ a, (k0_off60 v153) a + S16x1024.size a ≤ S896x1024.size a := fun v153 k0_hw18 => k0_hw18.2

def k0_off61 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_67 : BitVec 32 := 16#32
  let v158 : BitVec 32 := Scalar.muli v141 c16_i32_67
  let c2_i32_68 : BitVec 32 := 2#32
  let v159 : BitVec 32 := Scalar.addi v158 c2_i32_68
  let v160 : Index := Scalar.indexCast v159
  ![v160.toNat]
def k0_mult85 (v161 : BitVec 32) : BitVec 32 :=
  let c16_i32_69 : BitVec 32 := 16#32
  let v162 : BitVec 32 := Scalar.muli v161 c16_i32_69
  v162

def k0_off62 (v161 : BitVec 32) : Fin 2 → Nat :=
  let c16_i32_69 : BitVec 32 := 16#32
  let v162 : BitVec 32 := Scalar.muli v161 c16_i32_69
  let v163 : BitVec 32 := v162
  let v164 : Index := Scalar.indexCast v163
  let c0_70 : Index := 0#32
  ![v164.toNat, 0]

def k0_chk19 (v161 : BitVec 32) : Prop :=
  (16 ∣ (k0_mult85 v161).toNat) ∧
  (∀ a, (k0_off62 v161) a + S16x1024.size a ≤ S896x1024.size a)
theorem k0_mult85_dvd : ∀ (v161 : BitVec 32) (k0_hw19 : k0_chk19 v161), 16 ∣ (k0_mult85 v161).toNat := fun v161 k0_hw19 => k0_hw19.1
theorem k0_off62_inb : ∀ (v161 : BitVec 32) (k0_hw19 : k0_chk19 v161), ∀ a, (k0_off62 v161) a + S16x1024.size a ≤ S896x1024.size a := fun v161 k0_hw19 => k0_hw19.2

def k0_off63 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_71 : BitVec 32 := 16#32
  let v166 : BitVec 32 := Scalar.muli v141 c16_i32_71
  let c3_i32_72 : BitVec 32 := 3#32
  let v167 : BitVec 32 := Scalar.addi v166 c3_i32_72
  let v168 : Index := Scalar.indexCast v167
  ![v168.toNat]
def k0_mult86 (v169 : BitVec 32) : BitVec 32 :=
  let c16_i32_73 : BitVec 32 := 16#32
  let v170 : BitVec 32 := Scalar.muli v169 c16_i32_73
  v170

def k0_off64 (v169 : BitVec 32) : Fin 2 → Nat :=
  let c16_i32_73 : BitVec 32 := 16#32
  let v170 : BitVec 32 := Scalar.muli v169 c16_i32_73
  let v171 : BitVec 32 := v170
  let v172 : Index := Scalar.indexCast v171
  let c0_74 : Index := 0#32
  ![v172.toNat, 0]

def k0_chk20 (v169 : BitVec 32) : Prop :=
  (16 ∣ (k0_mult86 v169).toNat) ∧
  (∀ a, (k0_off64 v169) a + S16x1024.size a ≤ S896x1024.size a)
theorem k0_mult86_dvd : ∀ (v169 : BitVec 32) (k0_hw20 : k0_chk20 v169), 16 ∣ (k0_mult86 v169).toNat := fun v169 k0_hw20 => k0_hw20.1
theorem k0_off64_inb : ∀ (v169 : BitVec 32) (k0_hw20 : k0_chk20 v169), ∀ a, (k0_off64 v169) a + S16x1024.size a ≤ S896x1024.size a := fun v169 k0_hw20 => k0_hw20.2

def k0_off65 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_75 : BitVec 32 := 16#32
  let v174 : BitVec 32 := Scalar.muli v141 c16_i32_75
  let c4_i32_76 : BitVec 32 := 4#32
  let v175 : BitVec 32 := Scalar.addi v174 c4_i32_76
  let v176 : Index := Scalar.indexCast v175
  ![v176.toNat]
def k0_mult87 (v177 : BitVec 32) : BitVec 32 :=
  let c16_i32_77 : BitVec 32 := 16#32
  let v178 : BitVec 32 := Scalar.muli v177 c16_i32_77
  v178

def k0_off66 (v177 : BitVec 32) : Fin 2 → Nat :=
  let c16_i32_77 : BitVec 32 := 16#32
  let v178 : BitVec 32 := Scalar.muli v177 c16_i32_77
  let v179 : BitVec 32 := v178
  let v180 : Index := Scalar.indexCast v179
  let c0_78 : Index := 0#32
  ![v180.toNat, 0]

def k0_chk21 (v177 : BitVec 32) : Prop :=
  (16 ∣ (k0_mult87 v177).toNat) ∧
  (∀ a, (k0_off66 v177) a + S16x1024.size a ≤ S896x1024.size a)
theorem k0_mult87_dvd : ∀ (v177 : BitVec 32) (k0_hw21 : k0_chk21 v177), 16 ∣ (k0_mult87 v177).toNat := fun v177 k0_hw21 => k0_hw21.1
theorem k0_off66_inb : ∀ (v177 : BitVec 32) (k0_hw21 : k0_chk21 v177), ∀ a, (k0_off66 v177) a + S16x1024.size a ≤ S896x1024.size a := fun v177 k0_hw21 => k0_hw21.2

def k0_off67 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_79 : BitVec 32 := 16#32
  let v182 : BitVec 32 := Scalar.muli v141 c16_i32_79
  let c5_i32_80 : BitVec 32 := 5#32
  let v183 : BitVec 32 := Scalar.addi v182 c5_i32_80
  let v184 : Index := Scalar.indexCast v183
  ![v184.toNat]
def k0_mult88 (v185 : BitVec 32) : BitVec 32 :=
  let c16_i32_81 : BitVec 32 := 16#32
  let v186 : BitVec 32 := Scalar.muli v185 c16_i32_81
  v186

def k0_off68 (v185 : BitVec 32) : Fin 2 → Nat :=
  let c16_i32_81 : BitVec 32 := 16#32
  let v186 : BitVec 32 := Scalar.muli v185 c16_i32_81
  let v187 : BitVec 32 := v186
  let v188 : Index := Scalar.indexCast v187
  let c0_82 : Index := 0#32
  ![v188.toNat, 0]

def k0_chk22 (v185 : BitVec 32) : Prop :=
  (16 ∣ (k0_mult88 v185).toNat) ∧
  (∀ a, (k0_off68 v185) a + S16x1024.size a ≤ S896x1024.size a)
theorem k0_mult88_dvd : ∀ (v185 : BitVec 32) (k0_hw22 : k0_chk22 v185), 16 ∣ (k0_mult88 v185).toNat := fun v185 k0_hw22 => k0_hw22.1
theorem k0_off68_inb : ∀ (v185 : BitVec 32) (k0_hw22 : k0_chk22 v185), ∀ a, (k0_off68 v185) a + S16x1024.size a ≤ S896x1024.size a := fun v185 k0_hw22 => k0_hw22.2

def k0_off69 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_83 : BitVec 32 := 16#32
  let v190 : BitVec 32 := Scalar.muli v141 c16_i32_83
  let c6_i32_84 : BitVec 32 := 6#32
  let v191 : BitVec 32 := Scalar.addi v190 c6_i32_84
  let v192 : Index := Scalar.indexCast v191
  ![v192.toNat]
def k0_mult89 (v193 : BitVec 32) : BitVec 32 :=
  let c16_i32_85 : BitVec 32 := 16#32
  let v194 : BitVec 32 := Scalar.muli v193 c16_i32_85
  v194

def k0_off70 (v193 : BitVec 32) : Fin 2 → Nat :=
  let c16_i32_85 : BitVec 32 := 16#32
  let v194 : BitVec 32 := Scalar.muli v193 c16_i32_85
  let v195 : BitVec 32 := v194
  let v196 : Index := Scalar.indexCast v195
  let c0_86 : Index := 0#32
  ![v196.toNat, 0]

def k0_chk23 (v193 : BitVec 32) : Prop :=
  (16 ∣ (k0_mult89 v193).toNat) ∧
  (∀ a, (k0_off70 v193) a + S16x1024.size a ≤ S896x1024.size a)
theorem k0_mult89_dvd : ∀ (v193 : BitVec 32) (k0_hw23 : k0_chk23 v193), 16 ∣ (k0_mult89 v193).toNat := fun v193 k0_hw23 => k0_hw23.1
theorem k0_off70_inb : ∀ (v193 : BitVec 32) (k0_hw23 : k0_chk23 v193), ∀ a, (k0_off70 v193) a + S16x1024.size a ≤ S896x1024.size a := fun v193 k0_hw23 => k0_hw23.2

def k0_off71 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_87 : BitVec 32 := 16#32
  let v198 : BitVec 32 := Scalar.muli v141 c16_i32_87
  let c7_i32_88 : BitVec 32 := 7#32
  let v199 : BitVec 32 := Scalar.addi v198 c7_i32_88
  let v200 : Index := Scalar.indexCast v199
  ![v200.toNat]
def k0_mult90 (v201 : BitVec 32) : BitVec 32 :=
  let c16_i32_89 : BitVec 32 := 16#32
  let v202 : BitVec 32 := Scalar.muli v201 c16_i32_89
  v202

def k0_off72 (v201 : BitVec 32) : Fin 2 → Nat :=
  let c16_i32_89 : BitVec 32 := 16#32
  let v202 : BitVec 32 := Scalar.muli v201 c16_i32_89
  let v203 : BitVec 32 := v202
  let v204 : Index := Scalar.indexCast v203
  let c0_90 : Index := 0#32
  ![v204.toNat, 0]

def k0_chk24 (v201 : BitVec 32) : Prop :=
  (16 ∣ (k0_mult90 v201).toNat) ∧
  (∀ a, (k0_off72 v201) a + S16x1024.size a ≤ S896x1024.size a)
theorem k0_mult90_dvd : ∀ (v201 : BitVec 32) (k0_hw24 : k0_chk24 v201), 16 ∣ (k0_mult90 v201).toNat := fun v201 k0_hw24 => k0_hw24.1
theorem k0_off72_inb : ∀ (v201 : BitVec 32) (k0_hw24 : k0_chk24 v201), ∀ a, (k0_off72 v201) a + S16x1024.size a ≤ S896x1024.size a := fun v201 k0_hw24 => k0_hw24.2

def k0_off73 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_91 : BitVec 32 := 16#32
  let v206 : BitVec 32 := Scalar.muli v141 c16_i32_91
  let c8_i32_92 : BitVec 32 := 8#32
  let v207 : BitVec 32 := Scalar.addi v206 c8_i32_92
  let v208 : Index := Scalar.indexCast v207
  ![v208.toNat]
def k0_mult91 (v209 : BitVec 32) : BitVec 32 :=
  let c16_i32_93 : BitVec 32 := 16#32
  let v210 : BitVec 32 := Scalar.muli v209 c16_i32_93
  v210

def k0_off74 (v209 : BitVec 32) : Fin 2 → Nat :=
  let c16_i32_93 : BitVec 32 := 16#32
  let v210 : BitVec 32 := Scalar.muli v209 c16_i32_93
  let v211 : BitVec 32 := v210
  let v212 : Index := Scalar.indexCast v211
  let c0_94 : Index := 0#32
  ![v212.toNat, 0]

def k0_chk25 (v209 : BitVec 32) : Prop :=
  (16 ∣ (k0_mult91 v209).toNat) ∧
  (∀ a, (k0_off74 v209) a + S16x1024.size a ≤ S896x1024.size a)
theorem k0_mult91_dvd : ∀ (v209 : BitVec 32) (k0_hw25 : k0_chk25 v209), 16 ∣ (k0_mult91 v209).toNat := fun v209 k0_hw25 => k0_hw25.1
theorem k0_off74_inb : ∀ (v209 : BitVec 32) (k0_hw25 : k0_chk25 v209), ∀ a, (k0_off74 v209) a + S16x1024.size a ≤ S896x1024.size a := fun v209 k0_hw25 => k0_hw25.2

def k0_off75 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_95 : BitVec 32 := 16#32
  let v214 : BitVec 32 := Scalar.muli v141 c16_i32_95
  let c9_i32_96 : BitVec 32 := 9#32
  let v215 : BitVec 32 := Scalar.addi v214 c9_i32_96
  let v216 : Index := Scalar.indexCast v215
  ![v216.toNat]
def k0_mult92 (v217 : BitVec 32) : BitVec 32 :=
  let c16_i32_97 : BitVec 32 := 16#32
  let v218 : BitVec 32 := Scalar.muli v217 c16_i32_97
  v218

def k0_off76 (v217 : BitVec 32) : Fin 2 → Nat :=
  let c16_i32_97 : BitVec 32 := 16#32
  let v218 : BitVec 32 := Scalar.muli v217 c16_i32_97
  let v219 : BitVec 32 := v218
  let v220 : Index := Scalar.indexCast v219
  let c0_98 : Index := 0#32
  ![v220.toNat, 0]

def k0_chk26 (v217 : BitVec 32) : Prop :=
  (16 ∣ (k0_mult92 v217).toNat) ∧
  (∀ a, (k0_off76 v217) a + S16x1024.size a ≤ S896x1024.size a)
theorem k0_mult92_dvd : ∀ (v217 : BitVec 32) (k0_hw26 : k0_chk26 v217), 16 ∣ (k0_mult92 v217).toNat := fun v217 k0_hw26 => k0_hw26.1
theorem k0_off76_inb : ∀ (v217 : BitVec 32) (k0_hw26 : k0_chk26 v217), ∀ a, (k0_off76 v217) a + S16x1024.size a ≤ S896x1024.size a := fun v217 k0_hw26 => k0_hw26.2

def k0_off77 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_99 : BitVec 32 := 16#32
  let v222 : BitVec 32 := Scalar.muli v141 c16_i32_99
  let c10_i32_100 : BitVec 32 := 10#32
  let v223 : BitVec 32 := Scalar.addi v222 c10_i32_100
  let v224 : Index := Scalar.indexCast v223
  ![v224.toNat]
def k0_mult93 (v225 : BitVec 32) : BitVec 32 :=
  let c16_i32_101 : BitVec 32 := 16#32
  let v226 : BitVec 32 := Scalar.muli v225 c16_i32_101
  v226

def k0_off78 (v225 : BitVec 32) : Fin 2 → Nat :=
  let c16_i32_101 : BitVec 32 := 16#32
  let v226 : BitVec 32 := Scalar.muli v225 c16_i32_101
  let v227 : BitVec 32 := v226
  let v228 : Index := Scalar.indexCast v227
  let c0_102 : Index := 0#32
  ![v228.toNat, 0]

def k0_chk27 (v225 : BitVec 32) : Prop :=
  (16 ∣ (k0_mult93 v225).toNat) ∧
  (∀ a, (k0_off78 v225) a + S16x1024.size a ≤ S896x1024.size a)
theorem k0_mult93_dvd : ∀ (v225 : BitVec 32) (k0_hw27 : k0_chk27 v225), 16 ∣ (k0_mult93 v225).toNat := fun v225 k0_hw27 => k0_hw27.1
theorem k0_off78_inb : ∀ (v225 : BitVec 32) (k0_hw27 : k0_chk27 v225), ∀ a, (k0_off78 v225) a + S16x1024.size a ≤ S896x1024.size a := fun v225 k0_hw27 => k0_hw27.2

def k0_off79 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_103 : BitVec 32 := 16#32
  let v230 : BitVec 32 := Scalar.muli v141 c16_i32_103
  let c11_i32_104 : BitVec 32 := 11#32
  let v231 : BitVec 32 := Scalar.addi v230 c11_i32_104
  let v232 : Index := Scalar.indexCast v231
  ![v232.toNat]
def k0_mult94 (v233 : BitVec 32) : BitVec 32 :=
  let c16_i32_105 : BitVec 32 := 16#32
  let v234 : BitVec 32 := Scalar.muli v233 c16_i32_105
  v234

def k0_off80 (v233 : BitVec 32) : Fin 2 → Nat :=
  let c16_i32_105 : BitVec 32 := 16#32
  let v234 : BitVec 32 := Scalar.muli v233 c16_i32_105
  let v235 : BitVec 32 := v234
  let v236 : Index := Scalar.indexCast v235
  let c0_106 : Index := 0#32
  ![v236.toNat, 0]

def k0_chk28 (v233 : BitVec 32) : Prop :=
  (16 ∣ (k0_mult94 v233).toNat) ∧
  (∀ a, (k0_off80 v233) a + S16x1024.size a ≤ S896x1024.size a)
theorem k0_mult94_dvd : ∀ (v233 : BitVec 32) (k0_hw28 : k0_chk28 v233), 16 ∣ (k0_mult94 v233).toNat := fun v233 k0_hw28 => k0_hw28.1
theorem k0_off80_inb : ∀ (v233 : BitVec 32) (k0_hw28 : k0_chk28 v233), ∀ a, (k0_off80 v233) a + S16x1024.size a ≤ S896x1024.size a := fun v233 k0_hw28 => k0_hw28.2

def k0_off81 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_107 : BitVec 32 := 16#32
  let v238 : BitVec 32 := Scalar.muli v141 c16_i32_107
  let c12_i32_108 : BitVec 32 := 12#32
  let v239 : BitVec 32 := Scalar.addi v238 c12_i32_108
  let v240 : Index := Scalar.indexCast v239
  ![v240.toNat]
def k0_mult95 (v241 : BitVec 32) : BitVec 32 :=
  let c16_i32_109 : BitVec 32 := 16#32
  let v242 : BitVec 32 := Scalar.muli v241 c16_i32_109
  v242

def k0_off82 (v241 : BitVec 32) : Fin 2 → Nat :=
  let c16_i32_109 : BitVec 32 := 16#32
  let v242 : BitVec 32 := Scalar.muli v241 c16_i32_109
  let v243 : BitVec 32 := v242
  let v244 : Index := Scalar.indexCast v243
  let c0_110 : Index := 0#32
  ![v244.toNat, 0]

def k0_chk29 (v241 : BitVec 32) : Prop :=
  (16 ∣ (k0_mult95 v241).toNat) ∧
  (∀ a, (k0_off82 v241) a + S16x1024.size a ≤ S896x1024.size a)
theorem k0_mult95_dvd : ∀ (v241 : BitVec 32) (k0_hw29 : k0_chk29 v241), 16 ∣ (k0_mult95 v241).toNat := fun v241 k0_hw29 => k0_hw29.1
theorem k0_off82_inb : ∀ (v241 : BitVec 32) (k0_hw29 : k0_chk29 v241), ∀ a, (k0_off82 v241) a + S16x1024.size a ≤ S896x1024.size a := fun v241 k0_hw29 => k0_hw29.2

def k0_off83 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_111 : BitVec 32 := 16#32
  let v246 : BitVec 32 := Scalar.muli v141 c16_i32_111
  let c13_i32_112 : BitVec 32 := 13#32
  let v247 : BitVec 32 := Scalar.addi v246 c13_i32_112
  let v248 : Index := Scalar.indexCast v247
  ![v248.toNat]
def k0_mult96 (v249 : BitVec 32) : BitVec 32 :=
  let c16_i32_113 : BitVec 32 := 16#32
  let v250 : BitVec 32 := Scalar.muli v249 c16_i32_113
  v250

def k0_off84 (v249 : BitVec 32) : Fin 2 → Nat :=
  let c16_i32_113 : BitVec 32 := 16#32
  let v250 : BitVec 32 := Scalar.muli v249 c16_i32_113
  let v251 : BitVec 32 := v250
  let v252 : Index := Scalar.indexCast v251
  let c0_114 : Index := 0#32
  ![v252.toNat, 0]

def k0_chk30 (v249 : BitVec 32) : Prop :=
  (16 ∣ (k0_mult96 v249).toNat) ∧
  (∀ a, (k0_off84 v249) a + S16x1024.size a ≤ S896x1024.size a)
theorem k0_mult96_dvd : ∀ (v249 : BitVec 32) (k0_hw30 : k0_chk30 v249), 16 ∣ (k0_mult96 v249).toNat := fun v249 k0_hw30 => k0_hw30.1
theorem k0_off84_inb : ∀ (v249 : BitVec 32) (k0_hw30 : k0_chk30 v249), ∀ a, (k0_off84 v249) a + S16x1024.size a ≤ S896x1024.size a := fun v249 k0_hw30 => k0_hw30.2

def k0_off85 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_115 : BitVec 32 := 16#32
  let v254 : BitVec 32 := Scalar.muli v141 c16_i32_115
  let c14_i32_116 : BitVec 32 := 14#32
  let v255 : BitVec 32 := Scalar.addi v254 c14_i32_116
  let v256 : Index := Scalar.indexCast v255
  ![v256.toNat]
def k0_mult97 (v257 : BitVec 32) : BitVec 32 :=
  let c16_i32_117 : BitVec 32 := 16#32
  let v258 : BitVec 32 := Scalar.muli v257 c16_i32_117
  v258

def k0_off86 (v257 : BitVec 32) : Fin 2 → Nat :=
  let c16_i32_117 : BitVec 32 := 16#32
  let v258 : BitVec 32 := Scalar.muli v257 c16_i32_117
  let v259 : BitVec 32 := v258
  let v260 : Index := Scalar.indexCast v259
  let c0_118 : Index := 0#32
  ![v260.toNat, 0]

def k0_chk31 (v257 : BitVec 32) : Prop :=
  (16 ∣ (k0_mult97 v257).toNat) ∧
  (∀ a, (k0_off86 v257) a + S16x1024.size a ≤ S896x1024.size a)
theorem k0_mult97_dvd : ∀ (v257 : BitVec 32) (k0_hw31 : k0_chk31 v257), 16 ∣ (k0_mult97 v257).toNat := fun v257 k0_hw31 => k0_hw31.1
theorem k0_off86_inb : ∀ (v257 : BitVec 32) (k0_hw31 : k0_chk31 v257), ∀ a, (k0_off86 v257) a + S16x1024.size a ≤ S896x1024.size a := fun v257 k0_hw31 => k0_hw31.2

def k0_off87 (i : grid0.Coords) : Fin 1 → Nat :=
  let arg1 : BitVec 32 := BitVec.ofNat 32 (i 1).val
  let c2_i32_57 : BitVec 32 := 2#32
  let v140 : BitVec 32 := Scalar.muli arg1 c2_i32_57
  let c1_i32_58 : BitVec 32 := 1#32
  let v141 : BitVec 32 := Scalar.addi v140 c1_i32_58
  let c16_i32_119 : BitVec 32 := 16#32
  let v262 : BitVec 32 := Scalar.muli v141 c16_i32_119
  let c15_i32_120 : BitVec 32 := 15#32
  let v263 : BitVec 32 := Scalar.addi v262 c15_i32_120
  let v264 : Index := Scalar.indexCast v263
  ![v264.toNat]
def k0_mult98 (v265 : BitVec 32) : BitVec 32 :=
  let c16_i32_121 : BitVec 32 := 16#32
  let v266 : BitVec 32 := Scalar.muli v265 c16_i32_121
  v266

def k0_off88 (v265 : BitVec 32) : Fin 2 → Nat :=
  let c16_i32_121 : BitVec 32 := 16#32
  let v266 : BitVec 32 := Scalar.muli v265 c16_i32_121
  let v267 : BitVec 32 := v266
  let v268 : Index := Scalar.indexCast v267
  let c0_122 : Index := 0#32
  ![v268.toNat, 0]

def k0_chk32 (v265 : BitVec 32) : Prop :=
  (16 ∣ (k0_mult98 v265).toNat) ∧
  (∀ a, (k0_off88 v265) a + S16x1024.size a ≤ S896x1024.size a)
theorem k0_mult98_dvd : ∀ (v265 : BitVec 32) (k0_hw32 : k0_chk32 v265), 16 ∣ (k0_mult98 v265).toNat := fun v265 k0_hw32 => k0_hw32.1
theorem k0_off88_inb : ∀ (v265 : BitVec 32) (k0_hw32 : k0_chk32 v265), ∀ a, (k0_off88 v265) a + S16x1024.size a ≤ S896x1024.size a := fun v265 k0_hw32 => k0_hw32.2

def k0_mult99 (i : grid0.Coords) : BitVec 32 :=
  let arg0 : BitVec 32 := BitVec.ofNat 32 (i 0).val
  let c8_i32_127 : BitVec 32 := 8#32
  let v278 : BitVec 32 := Scalar.muli arg0 c8_i32_127
  let c0_i32_128 : BitVec 32 := 0#32
  let v279 : BitVec 32 := Scalar.addi v278 c0_i32_128
  let c0_i32_143 : BitVec 32 := 0#32
  let v295 : BitVec 1 := Scalar.cmpi .sgt v279 c0_i32_143
  let v296 : BitVec 32 := Scalar.extui v295
  let c0_i32_144 : BitVec 32 := 0#32
  let v297 : BitVec 1 := Scalar.cmpi .slt v279 c0_i32_144
  let v298 : BitVec 32 := Scalar.extui v297
  let v299 : BitVec 32 := Scalar.subi v296 v298
  let c128_i32 : BitVec 32 := 128#32
  let c0_i32_145 : BitVec 32 := 0#32
  let v300 : BitVec 1 := Scalar.cmpi .sgt c128_i32 c0_i32_145
  let v301 : BitVec 32 := Scalar.extui v300
  let c0_i32_146 : BitVec 32 := 0#32
  let v302 : BitVec 1 := Scalar.cmpi .slt c128_i32 c0_i32_146
  let v303 : BitVec 32 := Scalar.extui v302
  let v304 : BitVec 32 := Scalar.subi v301 v303
  let v305 : BitVec 1 := Scalar.cmpi .ne v299 v304
  let v306 : BitVec 32 := Scalar.remsi v279 c128_i32
  let c0_i32_147 : BitVec 32 := 0#32
  let v307 : BitVec 1 := Scalar.cmpi .ne v306 c0_i32_147
  let v308 : BitVec 1 := Scalar.andi v305 v307
  let v294 : BitVec 32 := Scalar.divsi v279 c128_i32
  let c1_i32_148 : BitVec 32 := 1#32
  let v309 : BitVec 32 := Scalar.subi v294 c1_i32_148
  let v310 : BitVec 32 := Scalar.select v308 v309 v294
  let c128_i32_149 : BitVec 32 := 128#32
  let v311 : BitVec 32 := Scalar.muli v310 c128_i32_149
  v311
def k0_mult100 (i : grid0.Coords) : BitVec 32 :=
  let arg1 : BitVec 32 := BitVec.ofNat 32 (i 1).val
  let c384_i32 : BitVec 32 := 384#32
  let v313 : BitVec 32 := Scalar.muli arg1 c384_i32
  v313
def k0_off89 (i : grid0.Coords) : Fin 2 → Nat :=
  let arg1 : BitVec 32 := BitVec.ofNat 32 (i 1).val
  let c384_i32 : BitVec 32 := 384#32
  let v313 : BitVec 32 := Scalar.muli arg1 c384_i32
  let v314 : BitVec 32 := v313
  let v315 : Index := Scalar.indexCast v314
  let arg0 : BitVec 32 := BitVec.ofNat 32 (i 0).val
  let c8_i32_127 : BitVec 32 := 8#32
  let v278 : BitVec 32 := Scalar.muli arg0 c8_i32_127
  let c0_i32_128 : BitVec 32 := 0#32
  let v279 : BitVec 32 := Scalar.addi v278 c0_i32_128
  let c0_i32_143 : BitVec 32 := 0#32
  let v295 : BitVec 1 := Scalar.cmpi .sgt v279 c0_i32_143
  let v296 : BitVec 32 := Scalar.extui v295
  let c0_i32_144 : BitVec 32 := 0#32
  let v297 : BitVec 1 := Scalar.cmpi .slt v279 c0_i32_144
  let v298 : BitVec 32 := Scalar.extui v297
  let v299 : BitVec 32 := Scalar.subi v296 v298
  let c128_i32 : BitVec 32 := 128#32
  let c0_i32_145 : BitVec 32 := 0#32
  let v300 : BitVec 1 := Scalar.cmpi .sgt c128_i32 c0_i32_145
  let v301 : BitVec 32 := Scalar.extui v300
  let c0_i32_146 : BitVec 32 := 0#32
  let v302 : BitVec 1 := Scalar.cmpi .slt c128_i32 c0_i32_146
  let v303 : BitVec 32 := Scalar.extui v302
  let v304 : BitVec 32 := Scalar.subi v301 v303
  let v305 : BitVec 1 := Scalar.cmpi .ne v299 v304
  let v306 : BitVec 32 := Scalar.remsi v279 c128_i32
  let c0_i32_147 : BitVec 32 := 0#32
  let v307 : BitVec 1 := Scalar.cmpi .ne v306 c0_i32_147
  let v308 : BitVec 1 := Scalar.andi v305 v307
  let v294 : BitVec 32 := Scalar.divsi v279 c128_i32
  let c1_i32_148 : BitVec 32 := 1#32
  let v309 : BitVec 32 := Scalar.subi v294 c1_i32_148
  let v310 : BitVec 32 := Scalar.select v308 v309 v294
  let c128_i32_149 : BitVec 32 := 128#32
  let v311 : BitVec 32 := Scalar.muli v310 c128_i32_149
  let v312 : BitVec 32 := v311
  let v316 : Index := Scalar.indexCast v312
  ![v315.toNat, v316.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S640x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x40x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S6144x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S512 : Shape := ⟨1, ![512]⟩
abbrev S24x256x5120 : Shape := ⟨3, ![24, 256, 5120]⟩
abbrev S640x27648 : Shape := ⟨2, ![640, 27648]⟩
abbrev S40x27648 : Shape := ⟨2, ![40, 27648]⟩
abbrev S1500x27648 : Shape := ⟨2, ![1500, 27648]⟩
abbrev S6144x256 : Shape := ⟨2, ![6144, 256]⟩
abbrev S6144x5120 : Shape := ⟨2, ![6144, 5120]⟩
abbrev S40x16x27648 : Shape := ⟨3, ![40, 16, 27648]⟩
abbrev S_ : Shape := ⟨0, ![]⟩
abbrev S6144x640 : Shape := ⟨2, ![6144, 640]⟩
abbrev S6144x27648 : Shape := ⟨2, ![6144, 27648]⟩
abbrev S32x16x1 : Shape := ⟨3, ![32, 16, 1]⟩
abbrev S16 : Shape := ⟨1, ![16]⟩
abbrev S1x1x16 : Shape := ⟨3, ![1, 1, 16]⟩
abbrev S32x16x16 : Shape := ⟨3, ![32, 16, 16]⟩
abbrev S32x256 : Shape := ⟨2, ![32, 256]⟩
abbrev S32x256x1 : Shape := ⟨3, ![32, 256, 1]⟩
abbrev S32x256x27648 : Shape := ⟨3, ![32, 256, 27648]⟩
abbrev S32x192x256 : Shape := ⟨3, ![32, 192, 256]⟩
abbrev S32x192x27648 : Shape := ⟨3, ![32, 192, 27648]⟩
abbrev S6144x216x128 : Shape := ⟨3, ![6144, 216, 128]⟩
abbrev S6144x216 : Shape := ⟨2, ![6144, 216]⟩
abbrev S6144x216x1 : Shape := ⟨3, ![6144, 216, 1]⟩
abbrev S6144x40 : Shape := ⟨2, ![6144, 40]⟩

abbrev nBuf : Space → Nat
  | .hbm => 229
  | .vmem => 0
  | .smem => 0
  | _ => 0

abbrev hbmTy0_0 (i : Nat) : BufTy := match i % 128 with
  | 0 => ⟨S512, .i32⟩
  | 1 => ⟨S24x256x5120, .bf16⟩
  | 2 => ⟨S640x27648, .i32⟩
  | 3 => ⟨S40x27648, .i16⟩
  | 4 => ⟨S1500x27648, .bf16⟩
  | 5 => ⟨S6144x256, .bf16⟩
  | 6 => ⟨S6144x5120, .bf16⟩
  | 7 => ⟨S40x27648, .bf16⟩
  | 8 => ⟨S40x16x27648, .bf16⟩
  | 9 => ⟨S640x27648, .bf16⟩
  | 10 => ⟨S_, .i32⟩
  | 11 => ⟨S640x27648, .i32⟩
  | 12 => ⟨S640x27648, .i32⟩
  | 13 => ⟨S_, .i32⟩
  | 14 => ⟨S640x27648, .i32⟩
  | 15 => ⟨S640x27648, .i32⟩
  | 16 => ⟨S_, .i32⟩
  | 17 => ⟨S640x27648, .i32⟩
  | 18 => ⟨S640x27648, .i1⟩
  | 19 => ⟨S640x27648, .i32⟩
  | 20 => ⟨S_, .i32⟩
  | 21 => ⟨S640x27648, .i32⟩
  | 22 => ⟨S640x27648, .i32⟩
  | 23 => ⟨S640x27648, .i32⟩
  | 24 => ⟨S640x27648, .bf16⟩
  | 25 => ⟨S640x27648, .bf16⟩
  | 26 => ⟨S6144x640, .bf16⟩
  | 27 => ⟨S6144x27648, .f32⟩
  | 28 => ⟨S_, .i32⟩
  | 29 => ⟨S640x27648, .i32⟩
  | 30 => ⟨S640x27648, .i32⟩
  | 31 => ⟨S_, .i32⟩
  | 32 => ⟨S640x27648, .i32⟩
  | 33 => ⟨S640x27648, .i32⟩
  | 34 => ⟨S_, .i32⟩
  | 35 => ⟨S640x27648, .i32⟩
  | 36 => ⟨S640x27648, .i1⟩
  | 37 => ⟨S640x27648, .i32⟩
  | 38 => ⟨S_, .i32⟩
  | 39 => ⟨S640x27648, .i32⟩
  | 40 => ⟨S640x27648, .i32⟩
  | 41 => ⟨S640x27648, .i32⟩
  | 42 => ⟨S640x27648, .bf16⟩
  | 43 => ⟨S640x27648, .bf16⟩
  | 44 => ⟨S6144x640, .bf16⟩
  | 45 => ⟨S6144x27648, .f32⟩
  | 46 => ⟨S6144x27648, .f32⟩
  | 47 => ⟨S_, .i32⟩
  | 48 => ⟨S640x27648, .i32⟩
  | 49 => ⟨S640x27648, .i32⟩
  | 50 => ⟨S_, .i32⟩
  | 51 => ⟨S640x27648, .i32⟩
  | 52 => ⟨S640x27648, .i32⟩
  | 53 => ⟨S_, .i32⟩
  | 54 => ⟨S640x27648, .i32⟩
  | 55 => ⟨S640x27648, .i1⟩
  | 56 => ⟨S640x27648, .i32⟩
  | 57 => ⟨S_, .i32⟩
  | 58 => ⟨S640x27648, .i32⟩
  | 59 => ⟨S640x27648, .i32⟩
  | 60 => ⟨S640x27648, .i32⟩
  | 61 => ⟨S640x27648, .bf16⟩
  | 62 => ⟨S640x27648, .bf16⟩
  | 63 => ⟨S6144x640, .bf16⟩
  | 64 => ⟨S6144x27648, .f32⟩
  | 65 => ⟨S6144x27648, .f32⟩
  | 66 => ⟨S_, .i32⟩
  | 67 => ⟨S640x27648, .i32⟩
  | 68 => ⟨S640x27648, .i32⟩
  | 69 => ⟨S_, .i32⟩
  | 70 => ⟨S640x27648, .i32⟩
  | 71 => ⟨S640x27648, .i32⟩
  | 72 => ⟨S_, .i32⟩
  | 73 => ⟨S640x27648, .i32⟩
  | 74 => ⟨S640x27648, .i1⟩
  | 75 => ⟨S640x27648, .i32⟩
  | 76 => ⟨S_, .i32⟩
  | 77 => ⟨S640x27648, .i32⟩
  | 78 => ⟨S640x27648, .i32⟩
  | 79 => ⟨S640x27648, .i32⟩
  | 80 => ⟨S640x27648, .bf16⟩
  | 81 => ⟨S640x27648, .bf16⟩
  | 82 => ⟨S6144x640, .bf16⟩
  | 83 => ⟨S6144x27648, .f32⟩
  | 84 => ⟨S6144x27648, .f32⟩
  | 85 => ⟨S_, .i32⟩
  | 86 => ⟨S640x27648, .i32⟩
  | 87 => ⟨S640x27648, .i32⟩
  | 88 => ⟨S_, .i32⟩
  | 89 => ⟨S640x27648, .i32⟩
  | 90 => ⟨S640x27648, .i32⟩
  | 91 => ⟨S_, .i32⟩
  | 92 => ⟨S640x27648, .i32⟩
  | 93 => ⟨S640x27648, .i1⟩
  | 94 => ⟨S640x27648, .i32⟩
  | 95 => ⟨S_, .i32⟩
  | 96 => ⟨S640x27648, .i32⟩
  | 97 => ⟨S640x27648, .i32⟩
  | 98 => ⟨S640x27648, .i32⟩
  | 99 => ⟨S640x27648, .bf16⟩
  | 100 => ⟨S640x27648, .bf16⟩
  | 101 => ⟨S6144x640, .bf16⟩
  | 102 => ⟨S6144x27648, .f32⟩
  | 103 => ⟨S6144x27648, .f32⟩
  | 104 => ⟨S_, .i32⟩
  | 105 => ⟨S640x27648, .i32⟩
  | 106 => ⟨S640x27648, .i32⟩
  | 107 => ⟨S_, .i32⟩
  | 108 => ⟨S640x27648, .i32⟩
  | 109 => ⟨S640x27648, .i32⟩
  | 110 => ⟨S_, .i32⟩
  | 111 => ⟨S640x27648, .i32⟩
  | 112 => ⟨S640x27648, .i1⟩
  | 113 => ⟨S640x27648, .i32⟩
  | 114 => ⟨S_, .i32⟩
  | 115 => ⟨S640x27648, .i32⟩
  | 116 => ⟨S640x27648, .i32⟩
  | 117 => ⟨S640x27648, .i32⟩
  | 118 => ⟨S640x27648, .bf16⟩
  | 119 => ⟨S640x27648, .bf16⟩
  | 120 => ⟨S6144x640, .bf16⟩
  | 121 => ⟨S6144x27648, .f32⟩
  | 122 => ⟨S6144x27648, .f32⟩
  | 123 => ⟨S_, .i32⟩
  | 124 => ⟨S640x27648, .i32⟩
  | 125 => ⟨S640x27648, .i32⟩
  | 126 => ⟨S_, .i32⟩
  | 127 => ⟨S640x27648, .i32⟩
  | _ => ⟨S512, .i32⟩

abbrev hbmTy0_1 (i : Nat) : BufTy := match i % 128 with
  | 0 => ⟨S640x27648, .i32⟩
  | 1 => ⟨S_, .i32⟩
  | 2 => ⟨S640x27648, .i32⟩
  | 3 => ⟨S640x27648, .i1⟩
  | 4 => ⟨S640x27648, .i32⟩
  | 5 => ⟨S_, .i32⟩
  | 6 => ⟨S640x27648, .i32⟩
  | 7 => ⟨S640x27648, .i32⟩
  | 8 => ⟨S640x27648, .i32⟩
  | 9 => ⟨S640x27648, .bf16⟩
  | 10 => ⟨S640x27648, .bf16⟩
  | 11 => ⟨S6144x640, .bf16⟩
  | 12 => ⟨S6144x27648, .f32⟩
  | 13 => ⟨S6144x27648, .f32⟩
  | 14 => ⟨S_, .i32⟩
  | 15 => ⟨S640x27648, .i32⟩
  | 16 => ⟨S640x27648, .i32⟩
  | 17 => ⟨S_, .i32⟩
  | 18 => ⟨S640x27648, .i32⟩
  | 19 => ⟨S640x27648, .i32⟩
  | 20 => ⟨S_, .i32⟩
  | 21 => ⟨S640x27648, .i32⟩
  | 22 => ⟨S640x27648, .i1⟩
  | 23 => ⟨S640x27648, .i32⟩
  | 24 => ⟨S_, .i32⟩
  | 25 => ⟨S640x27648, .i32⟩
  | 26 => ⟨S640x27648, .i32⟩
  | 27 => ⟨S640x27648, .i32⟩
  | 28 => ⟨S640x27648, .bf16⟩
  | 29 => ⟨S640x27648, .bf16⟩
  | 30 => ⟨S6144x640, .bf16⟩
  | 31 => ⟨S6144x27648, .f32⟩
  | 32 => ⟨S6144x27648, .f32⟩
  | 33 => ⟨S32x16x1, .i32⟩
  | 34 => ⟨S_, .i32⟩
  | 35 => ⟨S32x16x1, .i32⟩
  | 36 => ⟨S32x16x1, .i32⟩
  | 37 => ⟨S16, .i32⟩
  | 38 => ⟨S1x1x16, .i32⟩
  | 39 => ⟨S32x16x16, .i32⟩
  | 40 => ⟨S32x16x16, .i32⟩
  | 41 => ⟨S32x16x16, .i32⟩
  | 42 => ⟨S32x256, .i32⟩
  | 43 => ⟨S_, .i32⟩
  | 44 => ⟨S32x256, .i32⟩
  | 45 => ⟨S32x256, .i1⟩
  | 46 => ⟨S_, .i32⟩
  | 47 => ⟨S32x256, .i32⟩
  | 48 => ⟨S32x256, .i32⟩
  | 49 => ⟨S32x256, .i32⟩
  | 50 => ⟨S32x256x1, .i32⟩
  | 51 => ⟨S32x256x27648, .bf16⟩
  | 52 => ⟨S32x192x256, .bf16⟩
  | 53 => ⟨S32x192x27648, .f32⟩
  | 54 => ⟨S6144x27648, .f32⟩
  | 55 => ⟨S6144x27648, .f32⟩
  | 56 => ⟨S6144x27648, .bf16⟩
  | 57 => ⟨S6144x216x128, .f32⟩
  | 58 => ⟨S6144x216x128, .f32⟩
  | 59 => ⟨S_, .f32⟩
  | 60 => ⟨S6144x216, .f32⟩
  | 61 => ⟨S_, .f32⟩
  | 62 => ⟨S6144x216, .f32⟩
  | 63 => ⟨S6144x216, .f32⟩
  | 64 => ⟨S6144x216, .f32⟩
  | 65 => ⟨S_, .f32⟩
  | 66 => ⟨S6144x216, .f32⟩
  | 67 => ⟨S6144x216, .f32⟩
  | 68 => ⟨S6144x216, .f32⟩
  | 69 => ⟨S6144x216, .f32⟩
  | 70 => ⟨S_, .f32⟩
  | 71 => ⟨S6144x216, .f32⟩
  | 72 => ⟨S6144x216, .f32⟩
  | 73 => ⟨S_, .f32⟩
  | 74 => ⟨S6144x216, .f32⟩
  | 75 => ⟨S6144x216, .i1⟩
  | 76 => ⟨S_, .f32⟩
  | 77 => ⟨S6144x216, .f32⟩
  | 78 => ⟨S6144x216, .f32⟩
  | 79 => ⟨S_, .f32⟩
  | 80 => ⟨S6144x216, .f32⟩
  | 81 => ⟨S6144x216, .f32⟩
  | 82 => ⟨S_, .f32⟩
  | 83 => ⟨S6144x216, .f32⟩
  | 84 => ⟨S6144x216, .f32⟩
  | 85 => ⟨S6144x216, .f32⟩
  | 86 => ⟨S6144x216x128, .f32⟩
  | 87 => ⟨S6144x216x1, .f32⟩
  | 88 => ⟨S6144x216x128, .f32⟩
  | 89 => ⟨S6144x216x128, .f32⟩
  | 90 => ⟨S_, .f32⟩
  | 91 => ⟨S6144x216x128, .f32⟩
  | 92 => ⟨S6144x216x128, .f32⟩
  | 93 => ⟨S_, .f32⟩
  | 94 => ⟨S6144x216x128, .f32⟩
  | 95 => ⟨S6144x216x128, .f32⟩
  | 96 => ⟨S6144x27648, .f32⟩
  | 97 => ⟨S6144x27648, .fp8e4m3⟩
  | 98 => ⟨S_, .f32⟩
  | 99 => ⟨S6144x40, .f32⟩
  | 100 => ⟨S6144x256, .f32⟩
  | _ => ⟨S512, .i32⟩

abbrev hbmTy (i : Nat) : BufTy := match i / 128 with
  | 0 => hbmTy0_0 i
  | 1 => hbmTy0_1 i
  | _ => ⟨S512, .i32⟩

abbrev bufTy : (tb : Table) → Fin (tcTables nBuf tb) → BufTy
  | .hbm, ⟨i, _⟩ => hbmTy i
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_11 : Ref sig .tc := ⟨.hbm, 66, rfl⟩
abbrev main_v48 : Ref sig .tc := ⟨.hbm, 67, rfl⟩
abbrev main_v49 : Ref sig .tc := ⟨.hbm, 68, rfl⟩
abbrev main_c_12 : Ref sig .tc := ⟨.hbm, 69, rfl⟩
abbrev main_v50 : Ref sig .tc := ⟨.hbm, 70, rfl⟩
abbrev main_v51 : Ref sig .tc := ⟨.hbm, 71, rfl⟩
abbrev main_c_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_14 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_15 : Ref sig .tc := ⟨.hbm, 85, rfl⟩
abbrev main_v63 : Ref sig .tc := ⟨.hbm, 86, rfl⟩
abbrev main_v64 : Ref sig .tc := ⟨.hbm, 87, rfl⟩
abbrev main_c_16 : Ref sig .tc := ⟨.hbm, 88, rfl⟩
abbrev main_v65 : Ref sig .tc := ⟨.hbm, 89, rfl⟩
abbrev main_v66 : Ref sig .tc := ⟨.hbm, 90, rfl⟩
abbrev main_c_17 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_18 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_19 : Ref sig .tc := ⟨.hbm, 104, rfl⟩
abbrev main_v78 : Ref sig .tc := ⟨.hbm, 105, rfl⟩
abbrev main_v79 : Ref sig .tc := ⟨.hbm, 106, rfl⟩
abbrev main_c_20 : Ref sig .tc := ⟨.hbm, 107, rfl⟩
abbrev main_v80 : Ref sig .tc := ⟨.hbm, 108, rfl⟩
abbrev main_v81 : Ref sig .tc := ⟨.hbm, 109, rfl⟩
abbrev main_c_21 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_22 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c_23 : Ref sig .tc := ⟨.hbm, 123, rfl⟩
abbrev main_v93 : Ref sig .tc := ⟨.hbm, 124, rfl⟩
abbrev main_v94 : Ref sig .tc := ⟨.hbm, 125, rfl⟩
abbrev main_c_24 : Ref sig .tc := ⟨.hbm, 126, rfl⟩
abbrev main_v95 : Ref sig .tc := ⟨.hbm, 127, rfl⟩
abbrev main_v96 : Ref sig .tc := ⟨.hbm, 128, rfl⟩
abbrev main_c_25 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_26 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_27 : Ref sig .tc := ⟨.hbm, 142, rfl⟩
abbrev main_v108 : Ref sig .tc := ⟨.hbm, 143, rfl⟩
abbrev main_v109 : Ref sig .tc := ⟨.hbm, 144, rfl⟩
abbrev main_c_28 : Ref sig .tc := ⟨.hbm, 145, rfl⟩
abbrev main_v110 : Ref sig .tc := ⟨.hbm, 146, rfl⟩
abbrev main_v111 : Ref sig .tc := ⟨.hbm, 147, rfl⟩
abbrev main_c_29 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_30 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_31 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_32 : Ref sig .tc := ⟨.hbm, 171, rfl⟩
abbrev main_v132 : Ref sig .tc := ⟨.hbm, 172, rfl⟩
abbrev main_v133 : Ref sig .tc := ⟨.hbm, 173, rfl⟩
abbrev main_c_33 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst : Ref sig .tc := ⟨.hbm, 187, rfl⟩
abbrev main_v146 : Ref sig .tc := ⟨.hbm, 188, rfl⟩
abbrev main_cst_34 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_35 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_cst_36 : Ref sig .tc := ⟨.hbm, 198, rfl⟩
abbrev main_v154 : Ref sig .tc := ⟨.hbm, 199, rfl⟩
abbrev main_v155 : Ref sig .tc := ⟨.hbm, 200, rfl⟩
abbrev main_cst_37 : Ref sig .tc := ⟨.hbm, 201, rfl⟩
abbrev main_v156 : Ref sig .tc := ⟨.hbm, 202, rfl⟩
abbrev main_v157 : Ref sig .tc := ⟨.hbm, 203, rfl⟩
abbrev main_cst_38 : Ref sig .tc := ⟨.hbm, 204, rfl⟩
abbrev main_v158 : Ref sig .tc := ⟨.hbm, 205, rfl⟩
abbrev main_v159 : Ref sig .tc := ⟨.hbm, 206, rfl⟩
abbrev main_cst_39 : Ref sig .tc := ⟨.hbm, 207, rfl⟩
abbrev main_v160 : Ref sig .tc := ⟨.hbm, 208, rfl⟩
abbrev main_v161 : Ref sig .tc := ⟨.hbm, 209, rfl⟩
abbrev main_cst_40 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_41 : Ref sig .tc := ⟨.hbm, 218, rfl⟩
abbrev main_v169 : Ref sig .tc := ⟨.hbm, 219, rfl⟩
abbrev main_v170 : Ref sig .tc := ⟨.hbm, 220, rfl⟩
abbrev main_cst_42 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_43 : Ref sig .tc := ⟨.hbm, 226, rfl⟩
abbrev main_v175 : Ref sig .tc := ⟨.hbm, 227, rfl⟩
abbrev main_v176 : Ref sig .tc := ⟨.hbm, 228, rfl⟩

abbrev nD : Nat := 1
abbrev τ : Topo := Topo.v7x

variable {F : FTy → Type} [FloatOps F]
-- ==== Proof.KernelFrame.Points.lean ====
/- The schedule of the pipeline of the kernel's call: at which points each window is fetched and written back, and the
   body as the pipeline calls it at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 1 (fun _ => rfl) (by decide)) (P := 16) (by decide) t : ∀ t : Fin grid0.N, Pipeline.Window.fetchOf grid0 false cc0_transform_1 t = true ↔ t.val % 16 = 0)
/-- Window 2 (operand 3 (%7)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
/-- Window 3 (operand 4 (%arg4)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 0 (by decide) (by decide) (Pipeline.Window.sep_of_coord cc0_transform_3 0 1 (fun _ => rfl) (by decide)) (P := 16) (by decide) t : ∀ t : Fin grid0.N, Pipeline.Window.fetchOf grid0 false cc0_transform_3 t = true ↔ t.val % 16 = 0)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (result 0 (%8#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)
/-- Window 6 (result 1 (%8#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)
/-- Window 7 (result 2 (%8#2)) is written back at the last point only, at any contents of the tables (its index map reads none). -/
theorem flush0_7 (a : (pcfg0 (F := F)).Adm) : ∀ t : Fin (cfg0 a).N, ((cfg0 a).win 7).flush t = true ↔ t.val % 432 = 431 :=
  (fun t => Pipeline.Window.flushOf_const cc0_transform_7 (fun _ _ => rfl) (n := 432) (by decide) rfl t : ∀ t : Fin grid0.N, Pipeline.Window.flushOf grid0 true cc0_transform_7 t = true ↔ t.val % 432 = 431)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_base_expand_quant (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.Kernel.Gen

end
-- ==== Proof.KernelFrame.Runs.lean ====
/- What the body's runs share: the contents of the arrays when the region is entered, the prefetched table, each input
   window's block at a point, the branch condition in closed form, and the side conditions of the words the body reads. -/
module

public import proofs.«01_k».proof.Proof.Gen.Kernel.Launch
public import proofs.«01_k».proof.Proof.Gen.Kernel.Skeleton
public import proofs.«01_k».proof.Proof.Gen.Kernel.Loops
public import proofs.«01_k».proof.Proof.KernelFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is of the clipped KIND (its block does not tile its array `S1500x27648`), but no block the grid
    reaches is cut, so no part of its staging buffer is left unfilled by a fetch. A default for such a part, which
    nothing reads. -/
def dflt0_3 (hO : Ok m) : ((cfgM m hO).win 3).block.Idx → Elt F ((cfgM m hO).win 3).elt := fun _ => Classical.choice inferInstance
/-- What input window 3's current staging buffer holds when the body runs at `t`: its block read off the array,
    filled over `dflt0_3` (block-typed, where `iblk` is typed at the cut). -/
def X0_3 (hO : Ok m) (c : Dev nD) (t : Fin (cfgM m hO).N) : ((cfgM m hO).win 3).block.Idx → Elt F ((cfgM m hO).win 3).elt :=
  ((cfgM m hO).win 3).fill ((cfgM m hO).grid.coords t) (dflt0_3 m hO) (iblk m hO c 3 t)
/-- At every point the cut's extent is the block's, decided over the grid: no transfer of input window 3 is cut. -/
theorem xsize0_3 (hO : Ok m) : ∀ t : Fin (cfgM m hO).N, ∀ a, ((cfgM m hO).win 3).xsize ((cfgM m hO).grid.coords t) a = ((cfgM m hO).win 3).size a :=
  (by decide +kernel : ∀ t : Fin grid0.N, ∀ a, (clip0_3 (grid0.coords t) a).extent (S896x1024.size a) = S896x1024.size a)
/-- Every index of input window 3's block is moved at every point. -/
theorem moved0_3 (hO : Ok m) (t : Fin (cfgM m hO).N) (j : ((cfgM m hO).win 3).block.Idx) : ((cfgM m hO).win 3).moved ((cfgM m hO).grid.coords t) j = true :=
  (((cfgM m hO).win 3).moved_iff _ j).mpr fun a => by rw [xsize0_3 m hO t a]; exact (j a).isLt
/-- A fill of input window 3's block covers the whole buffer, whatever it held. -/
theorem fill0_3 (hO : Ok m) (t : Fin (cfgM m hO).N) (d d' : ((cfgM m hO).win 3).block.Idx → Elt F ((cfgM m hO).win 3).elt) (g) :
    ((cfgM m hO).win 3).fill ((cfgM m hO).grid.coords t) d g = ((cfgM m hO).win 3).fill ((cfgM m hO).grid.coords t) d' g := by
  funext j; unfold Pipeline.Window.fill; rw [dif_pos (moved0_3 m hO t j), dif_pos (moved0_3 m hO t j)]
/-- Input window 3's current staging buffer holds `X0_3` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_3`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = X0_3 m hO c t) (t : Fin (cfgM m hO).N) (d) : dat.before 3 t d = X0_3 m hO c t :=
  (dat.before_in_eq_fetched 3 rfl (fun _ => rfl)
      (fun t t' h => funext fun a => congrArg (fun n => Pipeline.Clip.of n (((cfgM m hO).win 3).size a) (S1500x27648.size a)) (congrFun h a))
      (fun t => by rw [hafter]; unfold X0_3; rw [Pipeline.Window.cut_fill]; unfold Dat.blockOf iblk; rw [hA]; try rfl) t d).trans
    (by unfold Dat.fetched X0_3; rw [fill0_3 m hO t d (dflt0_3 m hO)]; unfold Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c))⟩) h

/-! ## Where the tile of scales is stored -/

/-- The tile of scales of point `i`, in closed form: the row block's 384 rows, and the 128 columns that hold the
    scales of sixteen column tiles. -/
theorem k0_off89_eq : ∀ i : grid0.Coords, k0_off89 i = ![384 * (i 1).val, 128 * ((i 0).val / 16)] := by decide +kernel
instance closedOff_k0_off89 (i : grid0.Coords) : ClosedOff (k0_off89 i) := ⟨![384 * (i 1).val, 128 * ((i 0).val / 16)], k0_off89_eq i⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin grid0.N, cond0_0 (grid0.coords t) ↔ t.val % 16 = 0 :=
  (fun t => by
    have ht : t.val < 432 := Nat.lt_of_lt_of_eq t.isLt N_0
    have e0 : (grid0.coords t 0).val = t.val / 16 % 27 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S384x5120 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S640x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x40x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S896x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S384x1024 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S6144x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos)))
    ∧ k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos)))
    ∧ k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos)))
    ∧ k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos)))
    ∧ k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos)))
    ∧ k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos)))
    ∧ k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos)))
    ∧ k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos)))
    ∧ k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos)))
    ∧ k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos)))
    ∧ k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos)))
    ∧ k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos)))
    ∧ k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos)))
    ∧ k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos)))
    ∧ k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos)))
    ∧ k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos)))
    ∧ k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos)))
    ∧ k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos)))
    ∧ k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos)))
    ∧ k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos)))
    ∧ k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos)))
    ∧ k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos)))
    ∧ k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos)))
    ∧ k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos)))
    ∧ k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos)))
    ∧ k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos)))
    ∧ k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos)))
    ∧ k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos)))
    ∧ k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos)))
    ∧ k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos)))
    ∧ k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos)))
    ∧ k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what the claim's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`. -/
abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos))) := (hH c t).2.2.2.2.2.2.2.2.2.2.2.2.1
/-- Conjunct 13 of `Gen.Hyps` at point `t`: the side condition `k0_chk14` the body assumes as `k0_hw14`. -/
abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos))) := (hH c t).2.2.2.2.2.2.2.2.2.2.2.2.2.1
/-- Conjunct 14 of `Gen.Hyps` at point `t`: the side condition `k0_chk15` the body assumes as `k0_hw15`. -/
abbrev Hyps.p14 (m : (ℓ : Loc nD τ sig) → Buf (Elt F) ℓ) (hO : Ok m) (c : Dev nD) (t : Fin (cfgM m hO).N) : Prop :=
  k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos)))
variable {m} in
theorem Hyps.c14 {hO : Ok m} (hH : Hyps m hO) (c : Dev nD) (t : Fin (cfgM m hO).N) :
    k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos))) := (hH c t).2.2.2.2.2.2.2.2.2.2.2.2.2.2.1
/-- Conjunct 15 of `Gen.Hyps` at point `t`: the side condition `k0_chk16` the body assumes as `k0_hw16`. -/
abbrev Hyps.p15 (m : (ℓ : Loc nD τ sig) → Buf (Elt F) ℓ) (hO : Ok m) (c : Dev nD) (t : Fin (cfgM m hO).N) : Prop :=
  k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos)))
variable {m} in
theorem Hyps.c15 {hO : Ok m} (hH : Hyps m hO) (c : Dev nD) (t : Fin (cfgM m hO).N) :
    k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos))) := (hH c t).2.2.2.2.2.2.2.2.2.2.2.2.2.2.2.1
/-- Conjunct 16 of `Gen.Hyps` at point `t`: the side condition `k0_chk17` the body assumes as `k0_hw17`. -/
abbrev Hyps.p16 (m : (ℓ : Loc nD τ sig) → Buf (Elt F) ℓ) (hO : Ok m) (c : Dev nD) (t : Fin (cfgM m hO).N) : Prop :=
  k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos)))
variable {m} in
theorem Hyps.c16 {hO : Ok m} (hH : Hyps m hO) (c : Dev nD) (t : Fin (cfgM m hO).N) :
    k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos))) := (hH c t).2.2.2.2.2.2.2.2.2.2.2.2.2.2.2.2.1
/-- Conjunct 17 of `Gen.Hyps` at point `t`: the side condition `k0_chk18` the body assumes as `k0_hw18`. -/
abbrev Hyps.p17 (m : (ℓ : Loc nD τ sig) → Buf (Elt F) ℓ) (hO : Ok m) (c : Dev nD) (t : Fin (cfgM m hO).N) : Prop :=
  k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos)))
variable {m} in
theorem Hyps.c17 {hO : Ok m} (hH : Hyps m hO) (c : Dev nD) (t : Fin (cfgM m hO).N) :
    k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos))) := (hH c t).2.2.2.2.2.2.2.2.2.2.2.2.2.2.2.2.2.1
/-- Conjunct 18 of `Gen.Hyps` at point `t`: the side condition `k0_chk19` the body assumes as `k0_hw19`. -/
abbrev Hyps.p18 (m : (ℓ : Loc nD τ sig) → Buf (Elt F) ℓ) (hO : Ok m) (c : Dev nD) (t : Fin (cfgM m hO).N) : Prop :=
  k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos)))
variable {m} in
theorem Hyps.c18 {hO : Ok m} (hH : Hyps m hO) (c : Dev nD) (t : Fin (cfgM m hO).N) :
    k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos))) := (hH c t).2.2.2.2.2.2.2.2.2.2.2.2.2.2.2.2.2.2.1
/-- Conjunct 19 of `Gen.Hyps` at point `t`: the side condition `k0_chk20` the body assumes as `k0_hw20`. -/
abbrev Hyps.p19 (m : (ℓ : Loc nD τ sig) → Buf (Elt F) ℓ) (hO : Ok m) (c : Dev nD) (t : Fin (cfgM m hO).N) : Prop :=
  k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos)))
variable {m} in
theorem Hyps.c19 {hO : Ok m} (hH : Hyps m hO) (c : Dev nD) (t : Fin (cfgM m hO).N) :
    k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos))) := (hH c t).2.2.2.2.2.2.2.2.2.2.2.2.2.2.2.2.2.2.2.1
/-- Conjunct 20 of `Gen.Hyps` at point `t`: the side condition `k0_chk21` the body assumes as `k0_hw21`. -/
abbrev Hyps.p20 (m : (ℓ : Loc nD τ sig) → Buf (Elt F) ℓ) (hO : Ok m) (c : Dev nD) (t : Fin (cfgM m hO).N) : Prop :=
  k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos)))
variable {m} in
theorem Hyps.c20 {hO : Ok m} (hH : Hyps m hO) (c : Dev nD) (t : Fin (cfgM m hO).N) :
    k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos))) := (hH c t).2.2.2.2.2.2.2.2.2.2.2.2.2.2.2.2.2.2.2.2.1
/-- Conjunct 21 of `Gen.Hyps` at point `t`: the side condition `k0_chk22` the body assumes as `k0_hw22`. -/
abbrev Hyps.p21 (m : (ℓ : Loc nD τ sig) → Buf (Elt F) ℓ) (hO : Ok m) (c : Dev nD) (t : Fin (cfgM m hO).N) : Prop :=
  k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos)))
variable {m} in
theorem Hyps.c21 {hO : Ok m} (hH : Hyps m hO) (c : Dev nD) (t : Fin (cfgM m hO).N) :
    k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos))) := (hH c t).2.2.2.2.2.2.2.2.2.2.2.2.2.2.2.2.2.2.2.2.2.1
/-- Conjunct 22 of `Gen.Hyps` at point `t`: the side condition `k0_chk23` the body assumes as `k0_hw23`. -/
abbrev Hyps.p22 (m : (ℓ : Loc nD τ sig) → Buf (Elt F) ℓ) (hO : Ok m) (c : Dev nD) (t : Fin (cfgM m hO).N) : Prop :=
  k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos)))
variable {m} in
theorem Hyps.c22 {hO : Ok m} (hH : Hyps m hO) (c : Dev nD) (t : Fin (cfgM m hO).N) :
    k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos))) := (hH c t).2.2.2.2.2.2.2.2.2.2.2.2.2.2.2.2.2.2.2.2.2.2.1
/-- Conjunct 23 of `Gen.Hyps` at point `t`: the side condition `k0_chk24` the body assumes as `k0_hw24`. -/
abbrev Hyps.p23 (m : (ℓ : Loc nD τ sig) → Buf (Elt F) ℓ) (hO : Ok m) (c : Dev nD) (t : Fin (cfgM m hO).N) : Prop :=
  k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos)))
variable {m} in
theorem Hyps.c23 {hO : Ok m} (hH : Hyps m hO) (c : Dev nD) (t : Fin (cfgM m hO).N) :
    k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos))) := (hH c t).2.2.2.2.2.2.2.2.2.2.2.2.2.2.2.2.2.2.2.2.2.2.2.1
/-- Conjunct 24 of `Gen.Hyps` at point `t`: the side condition `k0_chk25` the body assumes as `k0_hw25`. -/
abbrev Hyps.p24 (m : (ℓ : Loc nD τ sig) → Buf (Elt F) ℓ) (hO : Ok m) (c : Dev nD) (t : Fin (cfgM m hO).N) : Prop :=
  k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos)))
variable {m} in
theorem Hyps.c24 {hO : Ok m} (hH : Hyps m hO) (c : Dev nD) (t : Fin (cfgM m hO).N) :
    k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos))) := (hH c t).2.2.2.2.2.2.2.2.2.2.2.2.2.2.2.2.2.2.2.2.2.2.2.2.1
/-- Conjunct 25 of `Gen.Hyps` at point `t`: the side condition `k0_chk26` the body assumes as `k0_hw26`. -/
abbrev Hyps.p25 (m : (ℓ : Loc nD τ sig) → Buf (Elt F) ℓ) (hO : Ok m) (c : Dev nD) (t : Fin (cfgM m hO).N) : Prop :=
  k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos)))
variable {m} in
theorem Hyps.c25 {hO : Ok m} (hH : Hyps m hO) (c : Dev nD) (t : Fin (cfgM m hO).N) :
    k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos))) := (hH c t).2.2.2.2.2.2.2.2.2.2.2.2.2.2.2.2.2.2.2.2.2.2.2.2.2.1
/-- Conjunct 26 of `Gen.Hyps` at point `t`: the side condition `k0_chk27` the body assumes as `k0_hw27`. -/
abbrev Hyps.p26 (m : (ℓ : Loc nD τ sig) → Buf (Elt F) ℓ) (hO : Ok m) (c : Dev nD) (t : Fin (cfgM m hO).N) : Prop :=
  k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos)))
variable {m} in
theorem Hyps.c26 {hO : Ok m} (hH : Hyps m hO) (c : Dev nD) (t : Fin (cfgM m hO).N) :
    k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos))) := (hH c t).2.2.2.2.2.2.2.2.2.2.2.2.2.2.2.2.2.2.2.2.2.2.2.2.2.2.1
/-- Conjunct 27 of `Gen.Hyps` at point `t`: the side condition `k0_chk28` the body assumes as `k0_hw28`. -/
abbrev Hyps.p27 (m : (ℓ : Loc nD τ sig) → Buf (Elt F) ℓ) (hO : Ok m) (c : Dev nD) (t : Fin (cfgM m hO).N) : Prop :=
  k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos)))
variable {m} in
theorem Hyps.c27 {hO : Ok m} (hH : Hyps m hO) (c : Dev nD) (t : Fin (cfgM m hO).N) :
    k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos))) := (hH c t).2.2.2.2.2.2.2.2.2.2.2.2.2.2.2.2.2.2.2.2.2.2.2.2.2.2.2.1
/-- Conjunct 28 of `Gen.Hyps` at point `t`: the side condition `k0_chk29` the body assumes as `k0_hw29`. -/
abbrev Hyps.p28 (m : (ℓ : Loc nD τ sig) → Buf (Elt F) ℓ) (hO : Ok m) (c : Dev nD) (t : Fin (cfgM m hO).N) : Prop :=
  k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos)))
variable {m} in
theorem Hyps.c28 {hO : Ok m} (hH : Hyps m hO) (c : Dev nD) (t : Fin (cfgM m hO).N) :
    k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos))) := (hH c t).2.2.2.2.2.2.2.2.2.2.2.2.2.2.2.2.2.2.2.2.2.2.2.2.2.2.2.2.1
/-- Conjunct 29 of `Gen.Hyps` at point `t`: the side condition `k0_chk30` the body assumes as `k0_hw30`. -/
abbrev Hyps.p29 (m : (ℓ : Loc nD τ sig) → Buf (Elt F) ℓ) (hO : Ok m) (c : Dev nD) (t : Fin (cfgM m hO).N) : Prop :=
  k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos)))
variable {m} in
theorem Hyps.c29 {hO : Ok m} (hH : Hyps m hO) (c : Dev nD) (t : Fin (cfgM m hO).N) :
    k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.1
/-- Conjunct 30 of `Gen.Hyps` at point `t`: the side condition `k0_chk31` the body assumes as `k0_hw31`. -/
abbrev Hyps.p30 (m : (ℓ : Loc nD τ sig) → Buf (Elt F) ℓ) (hO : Ok m) (c : Dev nD) (t : Fin (cfgM m hO).N) : Prop :=
  k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos)))
variable {m} in
theorem Hyps.c30 {hO : Ok m} (hH : Hyps m hO) (c : Dev nD) (t : Fin (cfgM m hO).N) :
    k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.2.1
/-- Conjunct 31 of `Gen.Hyps` at point `t`: the side condition `k0_chk32` the body assumes as `k0_hw32`. -/
abbrev Hyps.p31 (m : (ℓ : Loc nD τ sig) → Buf (Elt F) ℓ) (hO : Ok m) (c : Dev nD) (t : Fin (cfgM m hO).N) : Prop :=
  k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos)))
variable {m} in
theorem Hyps.c31 {hO : Ok m} (hH : Hyps m hO) (c : Dev nD) (t : Fin (cfgM m hO).N) :
    k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t)
    (p20 : ∀ (c : Dev nD) (t : Fin (cfgM m hO).N), Hyps.p20 m hO c t)
    (p21 : ∀ (c : Dev nD) (t : Fin (cfgM m hO).N), Hyps.p21 m hO c t)
    (p22 : ∀ (c : Dev nD) (t : Fin (cfgM m hO).N), Hyps.p22 m hO c t)
    (p23 : ∀ (c : Dev nD) (t : Fin (cfgM m hO).N), Hyps.p23 m hO c t)
    (p24 : ∀ (c : Dev nD) (t : Fin (cfgM m hO).N), Hyps.p24 m hO c t)
    (p25 : ∀ (c : Dev nD) (t : Fin (cfgM m hO).N), Hyps.p25 m hO c t)
    (p26 : ∀ (c : Dev nD) (t : Fin (cfgM m hO).N), Hyps.p26 m hO c t)
    (p27 : ∀ (c : Dev nD) (t : Fin (cfgM m hO).N), Hyps.p27 m hO c t)
    (p28 : ∀ (c : Dev nD) (t : Fin (cfgM m hO).N), Hyps.p28 m hO c t)
    (p29 : ∀ (c : Dev nD) (t : Fin (cfgM m hO).N), Hyps.p29 m hO c t)
    (p30 : ∀ (c : Dev nD) (t : Fin (cfgM m hO).N), Hyps.p30 m hO c t)
    (p31 : ∀ (c : Dev nD) (t : Fin (cfgM m hO).N), Hyps.p31 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (And.intro (p19 c t) (And.intro (p20 c t) (And.intro (p21 c t) (And.intro (p22 c t) (And.intro (p23 c t) (And.intro (p24 c t) (And.intro (p25 c t) (And.intro (p26 c t) (And.intro (p27 c t) (And.intro (p28 c t) (And.intro (p29 c t) (And.intro (p30 c t) (p31 c t)))))))))))))))))))))))))))))))

/-- The scratch operands: whole scoped buffers of the kernel's own, passed beside the windows. -/
abbrev scM0_0 : Memref sig .tc .vmem S5120x1024 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.KernelFrame.RunA.lean ====
/- The body's run at the points where a column tile is entered (the weights are unpacked first): nothing is said of what
   it leaves in its outputs and its scratch. -/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1836000 in
/-- The body's triple IN CASE A (`scf.if` 0 taken: points 0, 16, … 416: 27 of 432): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_base_expand_quant i tbM0_0 htbM0_0 arg3 harg3 arg4 harg4 arg5 harg5 arg6 harg6 arg7 harg7 arg8 harg8 arg9 harg9 arg10 harg10 arg11 harg11) K := by
    intro E K
    simp only [cc0_base_expand_quant_eq_skeleton]; unfold cc0_base_expand_quant_skel
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexact HT0

end Cert.Kernel.Gen

end
-- ==== Proof.KernelFrame.RunB.lean ====
/- The body's run at every other point: nothing is said of what it leaves in its outputs and its scratch. -/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1732000 in
/-- The body's triple IN CASE B (`scf.if` 0 not taken: points 1, 2, … 431: 405 of 432): on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_base_expand_quant i tbM0_0 htbM0_0 arg3 harg3 arg4 harg4 arg5 harg5 arg6 harg6 arg7 harg7 arg8 harg8 arg9 harg9 arg10 harg10 arg11 harg11) K := by
    intro E K
    simp only [cc0_base_expand_quant_eq_skeleton]; unfold cc0_base_expand_quant_skel
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexact HT0

end Cert.Kernel.Gen

end
-- ==== Proof.KernelFrame.Frame.lean ====
/- The run of the whole program, with nothing said of its results: it ends, with every argument unchanged and every
   counter at zero. -/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => X0_3 m hO c t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = X0_3 m hO c t := by dsimp only [dats]; try rfl
theorem after0_4 (hO : Ok m) (hH : Hyps m hO) (c : Dev nD) (t : Fin (cfgM m hO).N) : (dats m hO hH 0 c).after 4 t = iblk m hO c 4 t := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = X0_3 m hO c t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d))

set_option maxHeartbeats 6400000 in
set_option maxRecDepth 131072 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4]
  rw [show (dats m hO hH 0 c).Φ t.castSucc = iprop(Pipeline.ΦA spec0 c ∗ Pipeline.ΦT pre0 (tbl m) c) from rfl, PhiT0_eq, PhiA0_eq]
  have hN : t.val < 432 := lt_of_lt_of_eq t.isLt (show (cfgM m hO).N = 432 from N_0)
  by_cases h0 : t.val % 16 = 0
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HT0]; · iexact HT0
    iintro ⟨H0, H1, H2, H3, H4, H5, H6, H7, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ (fun h => h0 ((hcond0_0 t).mp h)) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HT0]; · iexact HT0
    iintro ⟨H0, H1, H2, H3, H4, H5, H6, H7, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.Kernel.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.Kernel.Gen

end
-- ==== Proof.KernelFrame.Pre.lean ====
/- The precondition gives what the run of the kernel asks of the words it reads: each of the prefetched table's words names one
   of the 56 blocks of sixteen rows of the pool, so every block the body loads lies inside the pool. -/
module

public import proofs.«01_k».proof.Defs
public import proofs.«01_k».proof.Proof.KernelFrame.Runs
public import proofs.«01_k».proof.Proof.Gen.Pre_blocks_named

@[expose] public section

set_option maxRecDepth 16384

noncomputable section

namespace Cert.Kernel.Gen

open Idealize.ShloMosaic Idealize.ShloMosaic.TcCoe
open Idealize.SL Idealize.SL.RA Idealize.SL.BI

variable {F : FTy → Type} [FloatOps F]

/-- The predicate read at one word: the word is at most 55. -/
theorem word_named (blk : IVec Cert.Pre_blocks_named.S512 32) (x1 : FVec F Cert.Pre_blocks_named.S24x256x5120 .bf16)
    (x2 : IVec Cert.Pre_blocks_named.S640x27648 32) (x3 : IVec Cert.Pre_blocks_named.S40x27648 16)
    (x4 : FVec F Cert.Pre_blocks_named.S1500x27648 .bf16) (x5 : FVec F Cert.Pre_blocks_named.S6144x256 .bf16)
    (h : Cert.Pre_blocks_named.fn (F := F) blk x1 x2 x3 x4 x5 = fun _ => 1#1) (w : Cert.Pre_blocks_named.S512.Idx) :
    (blk w).toNat ≤ 55 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h w
  simp only [Cert.Pre_blocks_named.fn, constantI, broadcastInDim, cmpi, andi, andi_one] at pre
  generalize blk w = v at pre
  simp only [ofBool_eq_one, IntOp.cmpi, BitVec.sle, decide_eq_true_eq, BitVec.toInt, BitVec.toNat_ofNat] at pre
  obtain ⟨p, q⟩ := pre
  have := v.isLt
  split at p <;> simp at p q <;> omega

variable (m : (ℓ : Loc nD τ sig) → Buf (Elt F) ℓ)

/-- A word the body reads off the table is one of the table's words, as launched. -/
theorem word_read (hw : ∀ w, (m (((0 : Dev nD) : Thread nD τ).loc main_arg0) w).toNat ≤ 55) (r : LoadRect S512) (j : r.shape.Idx) :
    (tbM0_0.view.readAt (Elt F) r (tbl m 0) j : BitVec 32).toNat ≤ 55 := by
  have e : tbl m 0 = m (((0 : Dev nD) : Thread nD τ).loc main_arg0) := V_main_arg0 m 0
  rw [e]
  exact hw _

theorem chk1_of_le (v : BitVec 32) (h : v.toNat ≤ 55) : k0_chk1 v := by
  refine ⟨?_, fun a => ?_⟩
  · unfold k0_mult67; simp only [Scalar.muli, IntOp.muli, BitVec.toNat_mul, BitVec.toNat_ofNat]; omega
  · unfold k0_off26; fin_cases a
    · simp [Scalar.indexCast, Scalar.muli, IntOp.muli, BitVec.toNat_mul, BitVec.toNat_ofNat]; omega
    · simp

theorem chk2_of_le (v : BitVec 32) (h : v.toNat ≤ 55) : k0_chk2 v := by
  refine ⟨?_, fun a => ?_⟩
  · unfold k0_mult68; simp only [Scalar.muli, IntOp.muli, BitVec.toNat_mul, BitVec.toNat_ofNat]; omega
  · unfold k0_off28; fin_cases a
    · simp [Scalar.indexCast, Scalar.muli, IntOp.muli, BitVec.toNat_mul, BitVec.toNat_ofNat]; omega
    · simp

theorem chk3_of_le (v : BitVec 32) (h : v.toNat ≤ 55) : k0_chk3 v := by
  refine ⟨?_, fun a => ?_⟩
  · unfold k0_mult69; simp only [Scalar.muli, IntOp.muli, BitVec.toNat_mul, BitVec.toNat_ofNat]; omega
  · unfold k0_off30; fin_cases a
    · simp [Scalar.indexCast, Scalar.muli, IntOp.muli, BitVec.toNat_mul, BitVec.toNat_ofNat]; omega
    · simp

theorem chk4_of_le (v : BitVec 32) (h : v.toNat ≤ 55) : k0_chk4 v := by
  refine ⟨?_, fun a => ?_⟩
  · unfold k0_mult70; simp only [Scalar.muli, IntOp.muli, BitVec.toNat_mul, BitVec.toNat_ofNat]; omega
  · unfold k0_off32; fin_cases a
    · simp [Scalar.indexCast, Scalar.muli, IntOp.muli, BitVec.toNat_mul, BitVec.toNat_ofNat]; omega
    · simp

theorem chk5_of_le (v : BitVec 32) (h : v.toNat ≤ 55) : k0_chk5 v := by
  refine ⟨?_, fun a => ?_⟩
  · unfold k0_mult71; simp only [Scalar.muli, IntOp.muli, BitVec.toNat_mul, BitVec.toNat_ofNat]; omega
  · unfold k0_off34; fin_cases a
    · simp [Scalar.indexCast, Scalar.muli, IntOp.muli, BitVec.toNat_mul, BitVec.toNat_ofNat]; omega
    · simp

theorem chk6_of_le (v : BitVec 32) (h : v.toNat ≤ 55) : k0_chk6 v := by
  refine ⟨?_, fun a => ?_⟩
  · unfold k0_mult72; simp only [Scalar.muli, IntOp.muli, BitVec.toNat_mul, BitVec.toNat_ofNat]; omega
  · unfold k0_off36; fin_cases a
    · simp [Scalar.indexCast, Scalar.muli, IntOp.muli, BitVec.toNat_mul, BitVec.toNat_ofNat]; omega
    · simp

theorem chk7_of_le (v : BitVec 32) (h : v.toNat ≤ 55) : k0_chk7 v := by
  refine ⟨?_, fun a => ?_⟩
  · unfold k0_mult73; simp only [Scalar.muli, IntOp.muli, BitVec.toNat_mul, BitVec.toNat_ofNat]; omega
  · unfold k0_off38; fin_cases a
    · simp [Scalar.indexCast, Scalar.muli, IntOp.muli, BitVec.toNat_mul, BitVec.toNat_ofNat]; omega
    · simp

theorem chk8_of_le (v : BitVec 32) (h : v.toNat ≤ 55) : k0_chk8 v := by
  refine ⟨?_, fun a => ?_⟩
  · unfold k0_mult74; simp only [Scalar.muli, IntOp.muli, BitVec.toNat_mul, BitVec.toNat_ofNat]; omega
  · unfold k0_off40; fin_cases a
    · simp [Scalar.indexCast, Scalar.muli, IntOp.muli, BitVec.toNat_mul, BitVec.toNat_ofNat]; omega
    · simp

theorem chk9_of_le (v : BitVec 32) (h : v.toNat ≤ 55) : k0_chk9 v := by
  refine ⟨?_, fun a => ?_⟩
  · unfold k0_mult75; simp only [Scalar.muli, IntOp.muli, BitVec.toNat_mul, BitVec.toNat_ofNat]; omega
  · unfold k0_off42; fin_cases a
    · simp [Scalar.indexCast, Scalar.muli, IntOp.muli, BitVec.toNat_mul, BitVec.toNat_ofNat]; omega
    · simp

theorem chk10_of_le (v : BitVec 32) (h : v.toNat ≤ 55) : k0_chk10 v := by
  refine ⟨?_, fun a => ?_⟩
  · unfold k0_mult76; simp only [Scalar.muli, IntOp.muli, BitVec.toNat_mul, BitVec.toNat_ofNat]; omega
  · unfold k0_off44; fin_cases a
    · simp [Scalar.indexCast, Scalar.muli, IntOp.muli, BitVec.toNat_mul, BitVec.toNat_ofNat]; omega
    · simp

theorem chk11_of_le (v : BitVec 32) (h : v.toNat ≤ 55) : k0_chk11 v := by
  refine ⟨?_, fun a => ?_⟩
  · unfold k0_mult77; simp only [Scalar.muli, IntOp.muli, BitVec.toNat_mul, BitVec.toNat_ofNat]; omega
  · unfold k0_off46; fin_cases a
    · simp [Scalar.indexCast, Scalar.muli, IntOp.muli, BitVec.toNat_mul, BitVec.toNat_ofNat]; omega
    · simp

theorem chk12_of_le (v : BitVec 32) (h : v.toNat ≤ 55) : k0_chk12 v := by
  refine ⟨?_, fun a => ?_⟩
  · unfold k0_mult78; simp only [Scalar.muli, IntOp.muli, BitVec.toNat_mul, BitVec.toNat_ofNat]; omega
  · unfold k0_off48; fin_cases a
    · simp [Scalar.indexCast, Scalar.muli, IntOp.muli, BitVec.toNat_mul, BitVec.toNat_ofNat]; omega
    · simp

theorem chk13_of_le (v : BitVec 32) (h : v.toNat ≤ 55) : k0_chk13 v := by
  refine ⟨?_, fun a => ?_⟩
  · unfold k0_mult79; simp only [Scalar.muli, IntOp.muli, BitVec.toNat_mul, BitVec.toNat_ofNat]; omega
  · unfold k0_off50; fin_cases a
    · simp [Scalar.indexCast, Scalar.muli, IntOp.muli, BitVec.toNat_mul, BitVec.toNat_ofNat]; omega
    · simp

theorem chk14_of_le (v : BitVec 32) (h : v.toNat ≤ 55) : k0_chk14 v := by
  refine ⟨?_, fun a => ?_⟩
  · unfold k0_mult80; simp only [Scalar.muli, IntOp.muli, BitVec.toNat_mul, BitVec.toNat_ofNat]; omega
  · unfold k0_off52; fin_cases a
    · simp [Scalar.indexCast, Scalar.muli, IntOp.muli, BitVec.toNat_mul, BitVec.toNat_ofNat]; omega
    · simp

theorem chk15_of_le (v : BitVec 32) (h : v.toNat ≤ 55) : k0_chk15 v := by
  refine ⟨?_, fun a => ?_⟩
  · unfold k0_mult81; simp only [Scalar.muli, IntOp.muli, BitVec.toNat_mul, BitVec.toNat_ofNat]; omega
  · unfold k0_off54; fin_cases a
    · simp [Scalar.indexCast, Scalar.muli, IntOp.muli, BitVec.toNat_mul, BitVec.toNat_ofNat]; omega
    · simp

theorem chk16_of_le (v : BitVec 32) (h : v.toNat ≤ 55) : k0_chk16 v := by
  refine ⟨?_, fun a => ?_⟩
  · unfold k0_mult82; simp only [Scalar.muli, IntOp.muli, BitVec.toNat_mul, BitVec.toNat_ofNat]; omega
  · unfold k0_off56; fin_cases a
    · simp [Scalar.indexCast, Scalar.muli, IntOp.muli, BitVec.toNat_mul, BitVec.toNat_ofNat]; omega
    · simp

theorem chk17_of_le (v : BitVec 32) (h : v.toNat ≤ 55) : k0_chk17 v := by
  refine ⟨?_, fun a => ?_⟩
  · unfold k0_mult83; simp only [Scalar.muli, IntOp.muli, BitVec.toNat_mul, BitVec.toNat_ofNat]; omega
  · unfold k0_off58; fin_cases a
    · simp [Scalar.indexCast, Scalar.muli, IntOp.muli, BitVec.toNat_mul, BitVec.toNat_ofNat]; omega
    · simp

theorem chk18_of_le (v : BitVec 32) (h : v.toNat ≤ 55) : k0_chk18 v := by
  refine ⟨?_, fun a => ?_⟩
  · unfold k0_mult84; simp only [Scalar.muli, IntOp.muli, BitVec.toNat_mul, BitVec.toNat_ofNat]; omega
  · unfold k0_off60; fin_cases a
    · simp [Scalar.indexCast, Scalar.muli, IntOp.muli, BitVec.toNat_mul, BitVec.toNat_ofNat]; omega
    · simp

theorem chk19_of_le (v : BitVec 32) (h : v.toNat ≤ 55) : k0_chk19 v := by
  refine ⟨?_, fun a => ?_⟩
  · unfold k0_mult85; simp only [Scalar.muli, IntOp.muli, BitVec.toNat_mul, BitVec.toNat_ofNat]; omega
  · unfold k0_off62; fin_cases a
    · simp [Scalar.indexCast, Scalar.muli, IntOp.muli, BitVec.toNat_mul, BitVec.toNat_ofNat]; omega
    · simp

theorem chk20_of_le (v : BitVec 32) (h : v.toNat ≤ 55) : k0_chk20 v := by
  refine ⟨?_, fun a => ?_⟩
  · unfold k0_mult86; simp only [Scalar.muli, IntOp.muli, BitVec.toNat_mul, BitVec.toNat_ofNat]; omega
  · unfold k0_off64; fin_cases a
    · simp [Scalar.indexCast, Scalar.muli, IntOp.muli, BitVec.toNat_mul, BitVec.toNat_ofNat]; omega
    · simp

theorem chk21_of_le (v : BitVec 32) (h : v.toNat ≤ 55) : k0_chk21 v := by
  refine ⟨?_, fun a => ?_⟩
  · unfold k0_mult87; simp only [Scalar.muli, IntOp.muli, BitVec.toNat_mul, BitVec.toNat_ofNat]; omega
  · unfold k0_off66; fin_cases a
    · simp [Scalar.indexCast, Scalar.muli, IntOp.muli, BitVec.toNat_mul, BitVec.toNat_ofNat]; omega
    · simp

theorem chk22_of_le (v : BitVec 32) (h : v.toNat ≤ 55) : k0_chk22 v := by
  refine ⟨?_, fun a => ?_⟩
  · unfold k0_mult88; simp only [Scalar.muli, IntOp.muli, BitVec.toNat_mul, BitVec.toNat_ofNat]; omega
  · unfold k0_off68; fin_cases a
    · simp [Scalar.indexCast, Scalar.muli, IntOp.muli, BitVec.toNat_mul, BitVec.toNat_ofNat]; omega
    · simp

theorem chk23_of_le (v : BitVec 32) (h : v.toNat ≤ 55) : k0_chk23 v := by
  refine ⟨?_, fun a => ?_⟩
  · unfold k0_mult89; simp only [Scalar.muli, IntOp.muli, BitVec.toNat_mul, BitVec.toNat_ofNat]; omega
  · unfold k0_off70; fin_cases a
    · simp [Scalar.indexCast, Scalar.muli, IntOp.muli, BitVec.toNat_mul, BitVec.toNat_ofNat]; omega
    · simp

theorem chk24_of_le (v : BitVec 32) (h : v.toNat ≤ 55) : k0_chk24 v := by
  refine ⟨?_, fun a => ?_⟩
  · unfold k0_mult90; simp only [Scalar.muli, IntOp.muli, BitVec.toNat_mul, BitVec.toNat_ofNat]; omega
  · unfold k0_off72; fin_cases a
    · simp [Scalar.indexCast, Scalar.muli, IntOp.muli, BitVec.toNat_mul, BitVec.toNat_ofNat]; omega
    · simp

theorem chk25_of_le (v : BitVec 32) (h : v.toNat ≤ 55) : k0_chk25 v := by
  refine ⟨?_, fun a => ?_⟩
  · unfold k0_mult91; simp only [Scalar.muli, IntOp.muli, BitVec.toNat_mul, BitVec.toNat_ofNat]; omega
  · unfold k0_off74; fin_cases a
    · simp [Scalar.indexCast, Scalar.muli, IntOp.muli, BitVec.toNat_mul, BitVec.toNat_ofNat]; omega
    · simp

theorem chk26_of_le (v : BitVec 32) (h : v.toNat ≤ 55) : k0_chk26 v := by
  refine ⟨?_, fun a => ?_⟩
  · unfold k0_mult92; simp only [Scalar.muli, IntOp.muli, BitVec.toNat_mul, BitVec.toNat_ofNat]; omega
  · unfold k0_off76; fin_cases a
    · simp [Scalar.indexCast, Scalar.muli, IntOp.muli, BitVec.toNat_mul, BitVec.toNat_ofNat]; omega
    · simp

theorem chk27_of_le (v : BitVec 32) (h : v.toNat ≤ 55) : k0_chk27 v := by
  refine ⟨?_, fun a => ?_⟩
  · unfold k0_mult93; simp only [Scalar.muli, IntOp.muli, BitVec.toNat_mul, BitVec.toNat_ofNat]; omega
  · unfold k0_off78; fin_cases a
    · simp [Scalar.indexCast, Scalar.muli, IntOp.muli, BitVec.toNat_mul, BitVec.toNat_ofNat]; omega
    · simp

theorem chk28_of_le (v : BitVec 32) (h : v.toNat ≤ 55) : k0_chk28 v := by
  refine ⟨?_, fun a => ?_⟩
  · unfold k0_mult94; simp only [Scalar.muli, IntOp.muli, BitVec.toNat_mul, BitVec.toNat_ofNat]; omega
  · unfold k0_off80; fin_cases a
    · simp [Scalar.indexCast, Scalar.muli, IntOp.muli, BitVec.toNat_mul, BitVec.toNat_ofNat]; omega
    · simp

theorem chk29_of_le (v : BitVec 32) (h : v.toNat ≤ 55) : k0_chk29 v := by
  refine ⟨?_, fun a => ?_⟩
  · unfold k0_mult95; simp only [Scalar.muli, IntOp.muli, BitVec.toNat_mul, BitVec.toNat_ofNat]; omega
  · unfold k0_off82; fin_cases a
    · simp [Scalar.indexCast, Scalar.muli, IntOp.muli, BitVec.toNat_mul, BitVec.toNat_ofNat]; omega
    · simp

theorem chk30_of_le (v : BitVec 32) (h : v.toNat ≤ 55) : k0_chk30 v := by
  refine ⟨?_, fun a => ?_⟩
  · unfold k0_mult96; simp only [Scalar.muli, IntOp.muli, BitVec.toNat_mul, BitVec.toNat_ofNat]; omega
  · unfold k0_off84; fin_cases a
    · simp [Scalar.indexCast, Scalar.muli, IntOp.muli, BitVec.toNat_mul, BitVec.toNat_ofNat]; omega
    · simp

theorem chk31_of_le (v : BitVec 32) (h : v.toNat ≤ 55) : k0_chk31 v := by
  refine ⟨?_, fun a => ?_⟩
  · unfold k0_mult97; simp only [Scalar.muli, IntOp.muli, BitVec.toNat_mul, BitVec.toNat_ofNat]; omega
  · unfold k0_off86; fin_cases a
    · simp [Scalar.indexCast, Scalar.muli, IntOp.muli, BitVec.toNat_mul, BitVec.toNat_ofNat]; omega
    · simp

theorem chk32_of_le (v : BitVec 32) (h : v.toNat ≤ 55) : k0_chk32 v := by
  refine ⟨?_, fun a => ?_⟩
  · unfold k0_mult98; simp only [Scalar.muli, IntOp.muli, BitVec.toNat_mul, BitVec.toNat_ofNat]; omega
  · unfold k0_off88; fin_cases a
    · simp [Scalar.indexCast, Scalar.muli, IntOp.muli, BitVec.toNat_mul, BitVec.toNat_ofNat]; omega
    · simp

/-- Every side condition the body assumes of the words it reads holds. -/
theorem hyps_of_le (hw : ∀ w, (m (((0 : Dev nD) : Thread nD τ).loc main_arg0) w).toNat ≤ 55) (hO : Ok m) : Hyps m hO :=
  Hyps.of
    (fun c t => chk1_of_le _ (word_read m hw _ _))
    (fun c t => chk2_of_le _ (word_read m hw _ _))
    (fun c t => chk3_of_le _ (word_read m hw _ _))
    (fun c t => chk4_of_le _ (word_read m hw _ _))
    (fun c t => chk5_of_le _ (word_read m hw _ _))
    (fun c t => chk6_of_le _ (word_read m hw _ _))
    (fun c t => chk7_of_le _ (word_read m hw _ _))
    (fun c t => chk8_of_le _ (word_read m hw _ _))
    (fun c t => chk9_of_le _ (word_read m hw _ _))
    (fun c t => chk10_of_le _ (word_read m hw _ _))
    (fun c t => chk11_of_le _ (word_read m hw _ _))
    (fun c t => chk12_of_le _ (word_read m hw _ _))
    (fun c t => chk13_of_le _ (word_read m hw _ _))
    (fun c t => chk14_of_le _ (word_read m hw _ _))
    (fun c t => chk15_of_le _ (word_read m hw _ _))
    (fun c t => chk16_of_le _ (word_read m hw _ _))
    (fun c t => chk17_of_le _ (word_read m hw _ _))
    (fun c t => chk18_of_le _ (word_read m hw _ _))
    (fun c t => chk19_of_le _ (word_read m hw _ _))
    (fun c t => chk20_of_le _ (word_read m hw _ _))
    (fun c t => chk21_of_le _ (word_read m hw _ _))
    (fun c t => chk22_of_le _ (word_read m hw _ _))
    (fun c t => chk23_of_le _ (word_read m hw _ _))
    (fun c t => chk24_of_le _ (word_read m hw _ _))
    (fun c t => chk25_of_le _ (word_read m hw _ _))
    (fun c t => chk26_of_le _ (word_read m hw _ _))
    (fun c t => chk27_of_le _ (word_read m hw _ _))
    (fun c t => chk28_of_le _ (word_read m hw _ _))
    (fun c t => chk29_of_le _ (word_read m hw _ _))
    (fun c t => chk30_of_le _ (word_read m hw _ _))
    (fun c t => chk31_of_le _ (word_read m hw _ _))
    (fun c t => chk32_of_le _ (word_read m hw _ _))

/-- The precondition gives the side conditions. -/
theorem hyps_of_pre (m : (ℓ : Loc nD τ sig) → Buf (Elt Bits) ℓ) (h : Cert.Pre_Kernel m) (hO : Ok m) : Hyps m hO :=
  hyps_of_le m (fun w => word_named _ _ _ _ _ _ (h 0) w) hO

end Cert.Kernel.Gen

end
-- ==== Proof.KernelIdealFrame.Points.lean ====
/- The schedule of the pipeline of the kernel's call: at which points each window is fetched and written back, and the
   body as the pipeline calls it at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg2)) is fetched at the points ≡ 0 (mod 16), at any contents of the tables (its index map reads none). -/
theorem fetch0_1 (a : (pcfg0 (F := F)).Adm) : ∀ t : Fin (cfg0 a).N, ((cfg0 a).win 1).fetch t = true ↔ t.val % 16 = 0 :=
  (fun t => Pipeline.Window.fetchOf_reads cc0_transform_1 reads0_1 hreads0_1 0 (by decide) (by decide) (Pipeline.Window.sep_of_coord cc0_transform_1 0 1 (fun _ => rfl) (by decide)) (P := 16) (by decide) t : ∀ t : Fin grid0.N, Pipeline.Window.fetchOf grid0 false cc0_transform_1 t = true ↔ t.val % 16 = 0)
/-- Window 2 (operand 3 (%7)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 0 (by decide) (by decide) (Pipeline.Window.sep_of_coord cc0_transform_2 0 0 (fun _ => rfl) (by decide)) (P := 16) (by decide) t : ∀ t : Fin grid0.N, Pipeline.Window.fetchOf grid0 false cc0_transform_2 t = true ↔ t.val % 16 = 0)
/-- Window 3 (operand 4 (%arg4)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 0 (by decide) (by decide) (Pipeline.Window.sep_of_coord cc0_transform_3 0 1 (fun _ => rfl) (by decide)) (P := 16) (by decide) t : ∀ t : Fin grid0.N, Pipeline.Window.fetchOf grid0 false cc0_transform_3 t = true ↔ t.val % 16 = 0)
/-- Window 4 (operand 5 (%arg5)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 0 (fun _ => rfl) (by decide)) (P := 1) (by decide) t).mpr (Nat.mod_one _) : ∀ t : Fin grid0.N, Pipeline.Window.fetchOf grid0 false cc0_transform_4 t = true)
/-- Window 5 (result 0 (%8#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 0 (fun _ => rfl) (by decide)) (P := 1) (m := 0) (by decide) rfl t).mpr (Nat.mod_one _) : ∀ t : Fin grid0.N, Pipeline.Window.flushOf grid0 true cc0_transform_5 t = true)
/-- Window 6 (result 1 (%8#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 0 (fun _ => rfl) (by decide)) (P := 1) (m := 0) (by decide) rfl t).mpr (Nat.mod_one _) : ∀ t : Fin grid0.N, Pipeline.Window.flushOf grid0 true cc0_transform_6 t = true)
/-- Window 7 (result 2 (%8#2)) is written back at the last point only, at any contents of the tables (its index map reads none). -/
theorem flush0_7 (a : (pcfg0 (F := F)).Adm) : ∀ t : Fin (cfg0 a).N, ((cfg0 a).win 7).flush t = true ↔ t.val % 432 = 431 :=
  (fun t => Pipeline.Window.flushOf_const cc0_transform_7 (fun _ _ => rfl) (n := 432) (by decide) rfl t : ∀ t : Fin grid0.N, Pipeline.Window.flushOf grid0 true cc0_transform_7 t = true ↔ t.val % 432 = 431)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_base_expand_quant (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.KernelIdeal.Gen

end
-- ==== Proof.KernelIdealFrame.Runs.lean ====
/- What the body's runs share: the contents of the arrays when the region is entered, the prefetched table, each input
   window's block at a point, the branch condition in closed form, and the side conditions of the words the body reads. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdealFrame.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 is of the clipped KIND (its block does not tile its array `S1500x27648`), but no block the grid
    reaches is cut, so no part of its staging buffer is left unfilled by a fetch. A default for such a part, which
    nothing reads. -/
def dflt0_3 (hO : Ok m) : ((cfgM m hO).win 3).block.Idx → Elt F ((cfgM m hO).win 3).elt := fun _ => Classical.choice inferInstance
/-- What input window 3's current staging buffer holds when the body runs at `t`: its block read off the array,
    filled over `dflt0_3` (block-typed, where `iblk` is typed at the cut). -/
def X0_3 (hO : Ok m) (c : Dev nD) (t : Fin (cfgM m hO).N) : ((cfgM m hO).win 3).block.Idx → Elt F ((cfgM m hO).win 3).elt :=
  ((cfgM m hO).win 3).fill ((cfgM m hO).grid.coords t) (dflt0_3 m hO) (iblk m hO c 3 t)
/-- At every point the cut's extent is the block's, decided over the grid: no transfer of input window 3 is cut. -/
theorem xsize0_3 (hO : Ok m) : ∀ t : Fin (cfgM m hO).N, ∀ a, ((cfgM m hO).win 3).xsize ((cfgM m hO).grid.coords t) a = ((cfgM m hO).win 3).size a :=
  (by decide +kernel : ∀ t : Fin grid0.N, ∀ a, (clip0_3 (grid0.coords t) a).extent (S896x1024.size a) = S896x1024.size a)
/-- Every index of input window 3's block is moved at every point. -/
theorem moved0_3 (hO : Ok m) (t : Fin (cfgM m hO).N) (j : ((cfgM m hO).win 3).block.Idx) : ((cfgM m hO).win 3).moved ((cfgM m hO).grid.coords t) j = true :=
  (((cfgM m hO).win 3).moved_iff _ j).mpr fun a => by rw [xsize0_3 m hO t a]; exact (j a).isLt
/-- A fill of input window 3's block covers the whole buffer, whatever it held. -/
theorem fill0_3 (hO : Ok m) (t : Fin (cfgM m hO).N) (d d' : ((cfgM m hO).win 3).block.Idx → Elt F ((cfgM m hO).win 3).elt) (g) :
    ((cfgM m hO).win 3).fill ((cfgM m hO).grid.coords t) d g = ((cfgM m hO).win 3).fill ((cfgM m hO).grid.coords t) d' g := by
  funext j; unfold Pipeline.Window.fill; rw [dif_pos (moved0_3 m hO t j), dif_pos (moved0_3 m hO t j)]
/-- Input window 3's current staging buffer holds `X0_3` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_3`). -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = X0_3 m hO c t) (t : Fin (cfgM m hO).N) (d) : dat.before 3 t d = X0_3 m hO c t :=
  (dat.before_in_eq_fetched 3 rfl (fun _ => rfl)
      (fun t t' h => funext fun a => congrArg (fun n => Pipeline.Clip.of n (((cfgM m hO).win 3).size a) (S1500x27648.size a)) (congrFun h a))
      (fun t => by rw [hafter]; unfold X0_3; rw [Pipeline.Window.cut_fill]; unfold Dat.blockOf iblk; rw [hA]; try rfl) t d).trans
    (by unfold Dat.fetched X0_3; rw [fill0_3 m hO t d (dflt0_3 m hO)]; unfold Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 1 rfl).trans ((hA c 1).trans (V_main_arg2 m c)),
      ((h c).2 main_arg3 (by decide : main_arg3 ∈ Pipeline.restRefs sig spec0)).trans (V_main_arg3 m c),
      (Pipeline.RDat.FramePost.arr_in h c 3 rfl).trans ((hA c 3).trans (V_main_arg4 m c)),
      (Pipeline.RDat.FramePost.arr_in h c 4 rfl).trans ((hA c 4).trans (V_main_arg5 m c))⟩) h

/-! ## Where the tile of scales is stored -/

/-- The tile of scales of point `i`, in closed form: the row block's 384 rows, and the 128 columns that hold the
    scales of sixteen column tiles. -/
theorem k0_off89_eq : ∀ i : grid0.Coords, k0_off89 i = ![384 * (i 1).val, 128 * ((i 0).val / 16)] := by decide +kernel
instance closedOff_k0_off89 (i : grid0.Coords) : ClosedOff (k0_off89 i) := ⟨![384 * (i 1).val, 128 * ((i 0).val / 16)], k0_off89_eq i⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin grid0.N, cond0_0 (grid0.coords t) ↔ t.val % 16 = 0 :=
  (fun t => by
    have ht : t.val < 432 := Nat.lt_of_lt_of_eq t.isLt N_0
    have e0 : (grid0.coords t 0).val = t.val / 16 % 27 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-! ## The kernel body on any staging memrefs: a subtype the run finds -/

/-- One staging buffer of output window 5, through which its contents are stated (`View.read_writes_of_cover`: the
    choice does not matter). -/
abbrev VO0_5 : View sig .tc .vmem S384x1024 .bf16 := (Memref.whole cc0_stg5_0 : Memref sig .tc .vmem S384x1024 .bf16).view
/-- One staging buffer of output window 6, through which its contents are stated (`View.read_writes_of_cover`: the
    choice does not matter). -/
abbrev VO0_6 : View sig .tc .vmem S384x1024 .fp8e4m3 := (Memref.whole cc0_stg6_0 : Memref sig .tc .vmem S384x1024 .fp8e4m3).view
/-- Each window's current staging memref at point `t`, spelled as the pipeline passes it (`bodyAt0`), and its wholeness. -/
abbrev ms0_0 (hO : Ok m) (t : Fin (cfgM m hO).N) : Memref sig .tc .vmem S384x5120 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S640x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S8x40x128 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S896x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S384x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S384x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S384x1024 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S6144x256 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos)))
    ∧ k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos)))
    ∧ k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos)))
    ∧ k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos)))
    ∧ k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos)))
    ∧ k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos)))
    ∧ k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos)))
    ∧ k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos)))
    ∧ k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos)))
    ∧ k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos)))
    ∧ k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos)))
    ∧ k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos)))
    ∧ k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos)))
    ∧ k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos)))
    ∧ k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos)))
    ∧ k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos)))
    ∧ k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos)))
    ∧ k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos)))
    ∧ k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos)))
    ∧ k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos)))
    ∧ k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos)))
    ∧ k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos)))
    ∧ k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos)))
    ∧ k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos)))
    ∧ k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos)))
    ∧ k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos)))
    ∧ k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos)))
    ∧ k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos)))
    ∧ k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos)))
    ∧ k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos)))
    ∧ k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos)))
    ∧ k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what the claim's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S512) (k0_off25 (grid0.coords t)) S1.size (k0_off25_inb (grid0.coords t))).toLoadRect (tbl m 0) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (hO : Ok m) (c : Dev nD) (t : Fin (cfgM m hO).N) : Prop :=
  k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos)))
variable {m} in
theorem Hyps.c1 {hO : Ok m} (hH : Hyps m hO) (c : Dev nD) (t : Fin (cfgM m hO).N) :
    k0_chk2 (tbM0_0.view.readAt (Elt F) (Rect.unit (s := S512) (k0_off27 (grid0.coords t)) S1.size (k0_off27_inb (grid0.coords t))).toLoadRect (tbl m 0) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (hO : Ok m) (c : Dev nD) (t : Fin (cfgM m hO).N) : Prop :=
  k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos)))
variable {m} in
theorem Hyps.c2 {hO : Ok m} (hH : Hyps m hO) (c : Dev nD) (t : Fin (cfgM m hO).N) :
    k0_chk3 (tbM0_0.view.readAt (Elt F) (Rect.unit (s := S512) (k0_off29 (grid0.coords t)) S1.size (k0_off29_inb (grid0.coords t))).toLoadRect (tbl m 0) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (hO : Ok m) (c : Dev nD) (t : Fin (cfgM m hO).N) : Prop :=
  k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos)))
variable {m} in
theorem Hyps.c3 {hO : Ok m} (hH : Hyps m hO) (c : Dev nD) (t : Fin (cfgM m hO).N) :
    k0_chk4 (tbM0_0.view.readAt (Elt F) (Rect.unit (s := S512) (k0_off31 (grid0.coords t)) S1.size (k0_off31_inb (grid0.coords t))).toLoadRect (tbl m 0) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (hO : Ok m) (c : Dev nD) (t : Fin (cfgM m hO).N) : Prop :=
  k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos)))
variable {m} in
theorem Hyps.c4 {hO : Ok m} (hH : Hyps m hO) (c : Dev nD) (t : Fin (cfgM m hO).N) :
    k0_chk5 (tbM0_0.view.readAt (Elt F) (Rect.unit (s := S512) (k0_off33 (grid0.coords t)) S1.size (k0_off33_inb (grid0.coords t))).toLoadRect (tbl m 0) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (hO : Ok m) (c : Dev nD) (t : Fin (cfgM m hO).N) : Prop :=
  k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos)))
variable {m} in
theorem Hyps.c5 {hO : Ok m} (hH : Hyps m hO) (c : Dev nD) (t : Fin (cfgM m hO).N) :
    k0_chk6 (tbM0_0.view.readAt (Elt F) (Rect.unit (s := S512) (k0_off35 (grid0.coords t)) S1.size (k0_off35_inb (grid0.coords t))).toLoadRect (tbl m 0) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (hO : Ok m) (c : Dev nD) (t : Fin (cfgM m hO).N) : Prop :=
  k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos)))
variable {m} in
theorem Hyps.c6 {hO : Ok m} (hH : Hyps m hO) (c : Dev nD) (t : Fin (cfgM m hO).N) :
    k0_chk7 (tbM0_0.view.readAt (Elt F) (Rect.unit (s := S512) (k0_off37 (grid0.coords t)) S1.size (k0_off37_inb (grid0.coords t))).toLoadRect (tbl m 0) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (hO : Ok m) (c : Dev nD) (t : Fin (cfgM m hO).N) : Prop :=
  k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos)))
variable {m} in
theorem Hyps.c7 {hO : Ok m} (hH : Hyps m hO) (c : Dev nD) (t : Fin (cfgM m hO).N) :
    k0_chk8 (tbM0_0.view.readAt (Elt F) (Rect.unit (s := S512) (k0_off39 (grid0.coords t)) S1.size (k0_off39_inb (grid0.coords t))).toLoadRect (tbl m 0) (Shape.Idx.first (numel1_S1.symm ▸ Nat.one_pos))) := (hH c t).2.2.2.2.2.2.2.1
/-- Conjunct 8 of `Gen.Hyps` at point `t`: the side condition `k0_chk9` the body assumes as `k0_hw9`. -/
abbrev Hyps.p8 (m : (ℓ : Loc nD τ sig) → Buf (Elt F) ℓ) (hO : Ok m) (c : Dev nD) (t : Fin (cfgM m hO).N) : Prop :=
  k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos)))
variable {m} in
theorem Hyps.c8 {hO : Ok m} (hH : Hyps m hO) (c : Dev nD) (t : Fin (cfgM m hO).N) :
    k0_chk9 (tbM0_0.view.readAt (Elt F) (Rect.unit (s := S512) (k0_off41 (grid0.coords t)) S1.size (k0_off41_inb (grid0.coords t))).toLoadRect (tbl m 0) (Shape.Idx.first (numel1_S1.symm ▸ Nat.one_pos))) := (hH c t).2.2.2.2.2.2.2.2.1
/-- Conjunct 9 of `Gen.Hyps` at point `t`: the side condition `k0_chk10` the body assumes as `k0_hw10`. -/
abbrev Hyps.p9 (m : (ℓ : Loc nD τ sig) → Buf (Elt F) ℓ) (hO : Ok m) (c : Dev nD) (t : Fin (cfgM m hO).N) : Prop :=
  k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos)))
variable {m} in
theorem Hyps.c9 {hO : Ok m} (hH : Hyps m hO) (c : Dev nD) (t : Fin (cfgM m hO).N) :
    k0_chk10 (tbM0_0.view.readAt (Elt F) (Rect.unit (s := S512) (k0_off43 (grid0.coords t)) S1.size (k0_off43_inb (grid0.coords t))).toLoadRect (tbl m 0) (Shape.Idx.first (numel1_S1.symm ▸ Nat.one_pos))) := (hH c t).2.2.2.2.2.2.2.2.2.1
/-- Conjunct 10 of `Gen.Hyps` at point `t`: the side condition `k0_chk11` the body assumes as `k0_hw11`. -/
abbrev Hyps.p10 (m : (ℓ : Loc nD τ sig) → Buf (Elt F) ℓ) (hO : Ok m) (c : Dev nD) (t : Fin (cfgM m hO).N) : Prop :=
  k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos)))
variable {m} in
theorem Hyps.c10 {hO : Ok m} (hH : Hyps m hO) (c : Dev nD) (t : Fin (cfgM m hO).N) :
    k0_chk11 (tbM0_0.view.readAt (Elt F) (Rect.unit (s := S512) (k0_off45 (grid0.coords t)) S1.size (k0_off45_inb (grid0.coords t))).toLoadRect (tbl m 0) (Shape.Idx.first (numel1_S1.symm ▸ Nat.one_pos))) := (hH c t).2.2.2.2.2.2.2.2.2.2.1
/-- Conjunct 11 of `Gen.Hyps` at point `t`: the side condition `k0_chk12` the body assumes as `k0_hw12`. -/
abbrev Hyps.p11 (m : (ℓ : Loc nD τ sig) → Buf (Elt F) ℓ) (hO : Ok m) (c : Dev nD) (t : Fin (cfgM m hO).N) : Prop :=
  k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos)))
variable {m} in
theorem Hyps.c11 {hO : Ok m} (hH : Hyps m hO) (c : Dev nD) (t : Fin (cfgM m hO).N) :
    k0_chk12 (tbM0_0.view.readAt (Elt F) (Rect.unit (s := S512) (k0_off47 (grid0.coords t)) S1.size (k0_off47_inb (grid0.coords t))).toLoadRect (tbl m 0) (Shape.Idx.first (numel1_S1.symm ▸ Nat.one_pos))) := (hH c t).2.2.2.2.2.2.2.2.2.2.2.1
/-- Conjunct 12 of `Gen.Hyps` at point `t`: the side condition `k0_chk13` the body assumes as `k0_hw13`. -/
abbrev Hyps.p12 (m : (ℓ : Loc nD τ sig) → Buf (Elt F) ℓ) (hO : Ok m) (c : Dev nD) (t : Fin (cfgM m hO).N) : Prop :=
  k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos)))
variable {m} in
theorem Hyps.c12 {hO : Ok m} (hH : Hyps m hO) (c : Dev nD) (t : Fin (cfgM m hO).N) :
    k0_chk13 (tbM0_0.view.readAt (Elt F) (Rect.unit (s := S512) (k0_off49 (grid0.coords t)) S1.size (k0_off49_inb (grid0.coords t))).toLoadRect (tbl m 0) (Shape.Idx.first (numel1_S1.symm ▸ Nat.one_pos))) := (hH c t).2.2.2.2.2.2.2.2.2.2.2.2.1
/-- Conjunct 13 of `Gen.Hyps` at point `t`: the side condition `k0_chk14` the body assumes as `k0_hw14`. -/
abbrev Hyps.p13 (m : (ℓ : Loc nD τ sig) → Buf (Elt F) ℓ) (hO : Ok m) (c : Dev nD) (t : Fin (cfgM m hO).N) : Prop :=
  k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos)))
variable {m} in
theorem Hyps.c13 {hO : Ok m} (hH : Hyps m hO) (c : Dev nD) (t : Fin (cfgM m hO).N) :
    k0_chk14 (tbM0_0.view.readAt (Elt F) (Rect.unit (s := S512) (k0_off51 (grid0.coords t)) S1.size (k0_off51_inb (grid0.coords t))).toLoadRect (tbl m 0) (Shape.Idx.first (numel1_S1.symm ▸ Nat.one_pos))) := (hH c t).2.2.2.2.2.2.2.2.2.2.2.2.2.1
/-- Conjunct 14 of `Gen.Hyps` at point `t`: the side condition `k0_chk15` the body assumes as `k0_hw15`. -/
abbrev Hyps.p14 (m : (ℓ : Loc nD τ sig) → Buf (Elt F) ℓ) (hO : Ok m) (c : Dev nD) (t : Fin (cfgM m hO).N) : Prop :=
  k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos)))
variable {m} in
theorem Hyps.c14 {hO : Ok m} (hH : Hyps m hO) (c : Dev nD) (t : Fin (cfgM m hO).N) :
    k0_chk15 (tbM0_0.view.readAt (Elt F) (Rect.unit (s := S512) (k0_off53 (grid0.coords t)) S1.size (k0_off53_inb (grid0.coords t))).toLoadRect (tbl m 0) (Shape.Idx.first (numel1_S1.symm ▸ Nat.one_pos))) := (hH c t).2.2.2.2.2.2.2.2.2.2.2.2.2.2.1
/-- Conjunct 15 of `Gen.Hyps` at point `t`: the side condition `k0_chk16` the body assumes as `k0_hw16`. -/
abbrev Hyps.p15 (m : (ℓ : Loc nD τ sig) → Buf (Elt F) ℓ) (hO : Ok m) (c : Dev nD) (t : Fin (cfgM m hO).N) : Prop :=
  k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos)))
variable {m} in
theorem Hyps.c15 {hO : Ok m} (hH : Hyps m hO) (c : Dev nD) (t : Fin (cfgM m hO).N) :
    k0_chk16 (tbM0_0.view.readAt (Elt F) (Rect.unit (s := S512) (k0_off55 (grid0.coords t)) S1.size (k0_off55_inb (grid0.coords t))).toLoadRect (tbl m 0) (Shape.Idx.first (numel1_S1.symm ▸ Nat.one_pos))) := (hH c t).2.2.2.2.2.2.2.2.2.2.2.2.2.2.2.1
/-- Conjunct 16 of `Gen.Hyps` at point `t`: the side condition `k0_chk17` the body assumes as `k0_hw17`. -/
abbrev Hyps.p16 (m : (ℓ : Loc nD τ sig) → Buf (Elt F) ℓ) (hO : Ok m) (c : Dev nD) (t : Fin (cfgM m hO).N) : Prop :=
  k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos)))
variable {m} in
theorem Hyps.c16 {hO : Ok m} (hH : Hyps m hO) (c : Dev nD) (t : Fin (cfgM m hO).N) :
    k0_chk17 (tbM0_0.view.readAt (Elt F) (Rect.unit (s := S512) (k0_off57 (grid0.coords t)) S1.size (k0_off57_inb (grid0.coords t))).toLoadRect (tbl m 0) (Shape.Idx.first (numel1_S1.symm ▸ Nat.one_pos))) := (hH c t).2.2.2.2.2.2.2.2.2.2.2.2.2.2.2.2.1
/-- Conjunct 17 of `Gen.Hyps` at point `t`: the side condition `k0_chk18` the body assumes as `k0_hw18`. -/
abbrev Hyps.p17 (m : (ℓ : Loc nD τ sig) → Buf (Elt F) ℓ) (hO : Ok m) (c : Dev nD) (t : Fin (cfgM m hO).N) : Prop :=
  k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos)))
variable {m} in
theorem Hyps.c17 {hO : Ok m} (hH : Hyps m hO) (c : Dev nD) (t : Fin (cfgM m hO).N) :
    k0_chk18 (tbM0_0.view.readAt (Elt F) (Rect.unit (s := S512) (k0_off59 (grid0.coords t)) S1.size (k0_off59_inb (grid0.coords t))).toLoadRect (tbl m 0) (Shape.Idx.first (numel1_S1.symm ▸ Nat.one_pos))) := (hH c t).2.2.2.2.2.2.2.2.2.2.2.2.2.2.2.2.2.1
/-- Conjunct 18 of `Gen.Hyps` at point `t`: the side condition `k0_chk19` the body assumes as `k0_hw19`. -/
abbrev Hyps.p18 (m : (ℓ : Loc nD τ sig) → Buf (Elt F) ℓ) (hO : Ok m) (c : Dev nD) (t : Fin (cfgM m hO).N) : Prop :=
  k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos)))
variable {m} in
theorem Hyps.c18 {hO : Ok m} (hH : Hyps m hO) (c : Dev nD) (t : Fin (cfgM m hO).N) :
    k0_chk19 (tbM0_0.view.readAt (Elt F) (Rect.unit (s := S512) (k0_off61 (grid0.coords t)) S1.size (k0_off61_inb (grid0.coords t))).toLoadRect (tbl m 0) (Shape.Idx.first (numel1_S1.symm ▸ Nat.one_pos))) := (hH c t).2.2.2.2.2.2.2.2.2.2.2.2.2.2.2.2.2.2.1
/-- Conjunct 19 of `Gen.Hyps` at point `t`: the side condition `k0_chk20` the body assumes as `k0_hw20`. -/
abbrev Hyps.p19 (m : (ℓ : Loc nD τ sig) → Buf (Elt F) ℓ) (hO : Ok m) (c : Dev nD) (t : Fin (cfgM m hO).N) : Prop :=
  k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos)))
variable {m} in
theorem Hyps.c19 {hO : Ok m} (hH : Hyps m hO) (c : Dev nD) (t : Fin (cfgM m hO).N) :
    k0_chk20 (tbM0_0.view.readAt (Elt F) (Rect.unit (s := S512) (k0_off63 (grid0.coords t)) S1.size (k0_off63_inb (grid0.coords t))).toLoadRect (tbl m 0) (Shape.Idx.first (numel1_S1.symm ▸ Nat.one_pos))) := (hH c t).2.2.2.2.2.2.2.2.2.2.2.2.2.2.2.2.2.2.2.1
/-- Conjunct 20 of `Gen.Hyps` at point `t`: the side condition `k0_chk21` the body assumes as `k0_hw21`. -/
abbrev Hyps.p20 (m : (ℓ : Loc nD τ sig) → Buf (Elt F) ℓ) (hO : Ok m) (c : Dev nD) (t : Fin (cfgM m hO).N) : Prop :=
  k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos)))
variable {m} in
theorem Hyps.c20 {hO : Ok m} (hH : Hyps m hO) (c : Dev nD) (t : Fin (cfgM m hO).N) :
    k0_chk21 (tbM0_0.view.readAt (Elt F) (Rect.unit (s := S512) (k0_off65 (grid0.coords t)) S1.size (k0_off65_inb (grid0.coords t))).toLoadRect (tbl m 0) (Shape.Idx.first (numel1_S1.symm ▸ Nat.one_pos))) := (hH c t).2.2.2.2.2.2.2.2.2.2.2.2.2.2.2.2.2.2.2.2.1
/-- Conjunct 21 of `Gen.Hyps` at point `t`: the side condition `k0_chk22` the body assumes as `k0_hw22`. -/
abbrev Hyps.p21 (m : (ℓ : Loc nD τ sig) → Buf (Elt F) ℓ) (hO : Ok m) (c : Dev nD) (t : Fin (cfgM m hO).N) : Prop :=
  k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos)))
variable {m} in
theorem Hyps.c21 {hO : Ok m} (hH : Hyps m hO) (c : Dev nD) (t : Fin (cfgM m hO).N) :
    k0_chk22 (tbM0_0.view.readAt (Elt F) (Rect.unit (s := S512) (k0_off67 (grid0.coords t)) S1.size (k0_off67_inb (grid0.coords t))).toLoadRect (tbl m 0) (Shape.Idx.first (numel1_S1.symm ▸ Nat.one_pos))) := (hH c t).2.2.2.2.2.2.2.2.2.2.2.2.2.2.2.2.2.2.2.2.2.1
/-- Conjunct 22 of `Gen.Hyps` at point `t`: the side condition `k0_chk23` the body assumes as `k0_hw23`. -/
abbrev Hyps.p22 (m : (ℓ : Loc nD τ sig) → Buf (Elt F) ℓ) (hO : Ok m) (c : Dev nD) (t : Fin (cfgM m hO).N) : Prop :=
  k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos)))
variable {m} in
theorem Hyps.c22 {hO : Ok m} (hH : Hyps m hO) (c : Dev nD) (t : Fin (cfgM m hO).N) :
    k0_chk23 (tbM0_0.view.readAt (Elt F) (Rect.unit (s := S512) (k0_off69 (grid0.coords t)) S1.size (k0_off69_inb (grid0.coords t))).toLoadRect (tbl m 0) (Shape.Idx.first (numel1_S1.symm ▸ Nat.one_pos))) := (hH c t).2.2.2.2.2.2.2.2.2.2.2.2.2.2.2.2.2.2.2.2.2.2.1
/-- Conjunct 23 of `Gen.Hyps` at point `t`: the side condition `k0_chk24` the body assumes as `k0_hw24`. -/
abbrev Hyps.p23 (m : (ℓ : Loc nD τ sig) → Buf (Elt F) ℓ) (hO : Ok m) (c : Dev nD) (t : Fin (cfgM m hO).N) : Prop :=
  k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos)))
variable {m} in
theorem Hyps.c23 {hO : Ok m} (hH : Hyps m hO) (c : Dev nD) (t : Fin (cfgM m hO).N) :
    k0_chk24 (tbM0_0.view.readAt (Elt F) (Rect.unit (s := S512) (k0_off71 (grid0.coords t)) S1.size (k0_off71_inb (grid0.coords t))).toLoadRect (tbl m 0) (Shape.Idx.first (numel1_S1.symm ▸ Nat.one_pos))) := (hH c t).2.2.2.2.2.2.2.2.2.2.2.2.2.2.2.2.2.2.2.2.2.2.2.1
/-- Conjunct 24 of `Gen.Hyps` at point `t`: the side condition `k0_chk25` the body assumes as `k0_hw25`. -/
abbrev Hyps.p24 (m : (ℓ : Loc nD τ sig) → Buf (Elt F) ℓ) (hO : Ok m) (c : Dev nD) (t : Fin (cfgM m hO).N) : Prop :=
  k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos)))
variable {m} in
theorem Hyps.c24 {hO : Ok m} (hH : Hyps m hO) (c : Dev nD) (t : Fin (cfgM m hO).N) :
    k0_chk25 (tbM0_0.view.readAt (Elt F) (Rect.unit (s := S512) (k0_off73 (grid0.coords t)) S1.size (k0_off73_inb (grid0.coords t))).toLoadRect (tbl m 0) (Shape.Idx.first (numel1_S1.symm ▸ Nat.one_pos))) := (hH c t).2.2.2.2.2.2.2.2.2.2.2.2.2.2.2.2.2.2.2.2.2.2.2.2.1
/-- Conjunct 25 of `Gen.Hyps` at point `t`: the side condition `k0_chk26` the body assumes as `k0_hw26`. -/
abbrev Hyps.p25 (m : (ℓ : Loc nD τ sig) → Buf (Elt F) ℓ) (hO : Ok m) (c : Dev nD) (t : Fin (cfgM m hO).N) : Prop :=
  k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos)))
variable {m} in
theorem Hyps.c25 {hO : Ok m} (hH : Hyps m hO) (c : Dev nD) (t : Fin (cfgM m hO).N) :
    k0_chk26 (tbM0_0.view.readAt (Elt F) (Rect.unit (s := S512) (k0_off75 (grid0.coords t)) S1.size (k0_off75_inb (grid0.coords t))).toLoadRect (tbl m 0) (Shape.Idx.first (numel1_S1.symm ▸ Nat.one_pos))) := (hH c t).2.2.2.2.2.2.2.2.2.2.2.2.2.2.2.2.2.2.2.2.2.2.2.2.2.1
/-- Conjunct 26 of `Gen.Hyps` at point `t`: the side condition `k0_chk27` the body assumes as `k0_hw27`. -/
abbrev Hyps.p26 (m : (ℓ : Loc nD τ sig) → Buf (Elt F) ℓ) (hO : Ok m) (c : Dev nD) (t : Fin (cfgM m hO).N) : Prop :=
  k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos)))
variable {m} in
theorem Hyps.c26 {hO : Ok m} (hH : Hyps m hO) (c : Dev nD) (t : Fin (cfgM m hO).N) :
    k0_chk27 (tbM0_0.view.readAt (Elt F) (Rect.unit (s := S512) (k0_off77 (grid0.coords t)) S1.size (k0_off77_inb (grid0.coords t))).toLoadRect (tbl m 0) (Shape.Idx.first (numel1_S1.symm ▸ Nat.one_pos))) := (hH c t).2.2.2.2.2.2.2.2.2.2.2.2.2.2.2.2.2.2.2.2.2.2.2.2.2.2.1
/-- Conjunct 27 of `Gen.Hyps` at point `t`: the side condition `k0_chk28` the body assumes as `k0_hw28`. -/
abbrev Hyps.p27 (m : (ℓ : Loc nD τ sig) → Buf (Elt F) ℓ) (hO : Ok m) (c : Dev nD) (t : Fin (cfgM m hO).N) : Prop :=
  k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos)))
variable {m} in
theorem Hyps.c27 {hO : Ok m} (hH : Hyps m hO) (c : Dev nD) (t : Fin (cfgM m hO).N) :
    k0_chk28 (tbM0_0.view.readAt (Elt F) (Rect.unit (s := S512) (k0_off79 (grid0.coords t)) S1.size (k0_off79_inb (grid0.coords t))).toLoadRect (tbl m 0) (Shape.Idx.first (numel1_S1.symm ▸ Nat.one_pos))) := (hH c t).2.2.2.2.2.2.2.2.2.2.2.2.2.2.2.2.2.2.2.2.2.2.2.2.2.2.2.1
/-- Conjunct 28 of `Gen.Hyps` at point `t`: the side condition `k0_chk29` the body assumes as `k0_hw29`. -/
abbrev Hyps.p28 (m : (ℓ : Loc nD τ sig) → Buf (Elt F) ℓ) (hO : Ok m) (c : Dev nD) (t : Fin (cfgM m hO).N) : Prop :=
  k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos)))
variable {m} in
theorem Hyps.c28 {hO : Ok m} (hH : Hyps m hO) (c : Dev nD) (t : Fin (cfgM m hO).N) :
    k0_chk29 (tbM0_0.view.readAt (Elt F) (Rect.unit (s := S512) (k0_off81 (grid0.coords t)) S1.size (k0_off81_inb (grid0.coords t))).toLoadRect (tbl m 0) (Shape.Idx.first (numel1_S1.symm ▸ Nat.one_pos))) := (hH c t).2.2.2.2.2.2.2.2.2.2.2.2.2.2.2.2.2.2.2.2.2.2.2.2.2.2.2.2.1
/-- Conjunct 29 of `Gen.Hyps` at point `t`: the side condition `k0_chk30` the body assumes as `k0_hw30`. -/
abbrev Hyps.p29 (m : (ℓ : Loc nD τ sig) → Buf (Elt F) ℓ) (hO : Ok m) (c : Dev nD) (t : Fin (cfgM m hO).N) : Prop :=
  k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos)))
variable {m} in
theorem Hyps.c29 {hO : Ok m} (hH : Hyps m hO) (c : Dev nD) (t : Fin (cfgM m hO).N) :
    k0_chk30 (tbM0_0.view.readAt (Elt F) (Rect.unit (s := S512) (k0_off83 (grid0.coords t)) S1.size (k0_off83_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.1
/-- Conjunct 30 of `Gen.Hyps` at point `t`: the side condition `k0_chk31` the body assumes as `k0_hw31`. -/
abbrev Hyps.p30 (m : (ℓ : Loc nD τ sig) → Buf (Elt F) ℓ) (hO : Ok m) (c : Dev nD) (t : Fin (cfgM m hO).N) : Prop :=
  k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos)))
variable {m} in
theorem Hyps.c30 {hO : Ok m} (hH : Hyps m hO) (c : Dev nD) (t : Fin (cfgM m hO).N) :
    k0_chk31 (tbM0_0.view.readAt (Elt F) (Rect.unit (s := S512) (k0_off85 (grid0.coords t)) S1.size (k0_off85_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.2.1
/-- Conjunct 31 of `Gen.Hyps` at point `t`: the side condition `k0_chk32` the body assumes as `k0_hw32`. -/
abbrev Hyps.p31 (m : (ℓ : Loc nD τ sig) → Buf (Elt F) ℓ) (hO : Ok m) (c : Dev nD) (t : Fin (cfgM m hO).N) : Prop :=
  k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos)))
variable {m} in
theorem Hyps.c31 {hO : Ok m} (hH : Hyps m hO) (c : Dev nD) (t : Fin (cfgM m hO).N) :
    k0_chk32 (tbM0_0.view.readAt (Elt F) (Rect.unit (s := S512) (k0_off87 (grid0.coords t)) S1.size (k0_off87_inb (grid0.coords t))).toLoadRect (tbl m 0) (Shape.Idx.first (numel1_S1.symm ▸ Nat.one_pos))) := (hH c t).2.2.2.2.2.2.2.2.2.2.2.2.2.2.2.2.2.2.2.2.2.2.2.2.2.2.2.2.2.2.2
variable {m} in
theorem Hyps.of {hO : Ok m}
    (p0 : ∀ (c : Dev nD) (t : Fin (cfgM m hO).N), Hyps.p0 m hO c t)
    (p1 : ∀ (c : Dev nD) (t : Fin (cfgM m hO).N), Hyps.p1 m hO c t)
    (p2 : ∀ (c : Dev nD) (t : Fin (cfgM m hO).N), Hyps.p2 m hO c t)
    (p3 : ∀ (c : Dev nD) (t : Fin (cfgM m hO).N), Hyps.p3 m hO c t)
    (p4 : ∀ (c : Dev nD) (t : Fin (cfgM m hO).N), Hyps.p4 m hO c t)
    (p5 : ∀ (c : Dev nD) (t : Fin (cfgM m hO).N), Hyps.p5 m hO c t)
    (p6 : ∀ (c : Dev nD) (t : Fin (cfgM m hO).N), Hyps.p6 m hO c t)
    (p7 : ∀ (c : Dev nD) (t : Fin (cfgM m hO).N), Hyps.p7 m hO c t)
    (p8 : ∀ (c : Dev nD) (t : Fin (cfgM m hO).N), Hyps.p8 m hO c t)
    (p9 : ∀ (c : Dev nD) (t : Fin (cfgM m hO).N), Hyps.p9 m hO c t)
    (p10 : ∀ (c : Dev nD) (t : Fin (cfgM m hO).N), Hyps.p10 m hO c t)
    (p11 : ∀ (c : Dev nD) (t : Fin (cfgM m hO).N), Hyps.p11 m hO c t)
    (p12 : ∀ (c : Dev nD) (t : Fin (cfgM m hO).N), Hyps.p12 m hO c t)
    (p13 : ∀ (c : Dev nD) (t : Fin (cfgM m hO).N), Hyps.p13 m hO c t)
    (p14 : ∀ (c : Dev nD) (t : Fin (cfgM m hO).N), Hyps.p14 m hO c t)
    (p15 : ∀ (c : Dev nD) (t : Fin (cfgM m hO).N), Hyps.p15 m hO c t)
    (p16 : ∀ (c : Dev nD) (t : Fin (cfgM m hO).N), Hyps.p16 m hO c t)
    (p17 : ∀ (c : Dev nD) (t : Fin (cfgM m hO).N), Hyps.p17 m hO c t)
    (p18 : ∀ (c : Dev nD) (t : Fin (cfgM m hO).N), Hyps.p18 m hO c t)
    (p19 : ∀ (c : Dev nD) (t : Fin (cfgM m hO).N), Hyps.p19 m hO c t)
    (p20 : ∀ (c : Dev nD) (t : Fin (cfgM m hO).N), Hyps.p20 m hO c t)
    (p21 : ∀ (c : Dev nD) (t : Fin (cfgM m hO).N), Hyps.p21 m hO c t)
    (p22 : ∀ (c : Dev nD) (t : Fin (cfgM m hO).N), Hyps.p22 m hO c t)
    (p23 : ∀ (c : Dev nD) (t : Fin (cfgM m hO).N), Hyps.p23 m hO c t)
    (p24 : ∀ (c : Dev nD) (t : Fin (cfgM m hO).N), Hyps.p24 m hO c t)
    (p25 : ∀ (c : Dev nD) (t : Fin (cfgM m hO).N), Hyps.p25 m hO c t)
    (p26 : ∀ (c : Dev nD) (t : Fin (cfgM m hO).N), Hyps.p26 m hO c t)
    (p27 : ∀ (c : Dev nD) (t : Fin (cfgM m hO).N), Hyps.p27 m hO c t)
    (p28 : ∀ (c : Dev nD) (t : Fin (cfgM m hO).N), Hyps.p28 m hO c t)
    (p29 : ∀ (c : Dev nD) (t : Fin (cfgM m hO).N), Hyps.p29 m hO c t)
    (p30 : ∀ (c : Dev nD) (t : Fin (cfgM m hO).N), Hyps.p30 m hO c t)
    (p31 : ∀ (c : Dev nD) (t : Fin (cfgM m hO).N), Hyps.p31 m hO c t) :
    Hyps m hO := fun c t =>
  And.intro (p0 c t) (And.intro (p1 c t) (And.intro (p2 c t) (And.intro (p3 c t) (And.intro (p4 c t) (And.intro (p5 c t) (And.intro (p6 c t) (And.intro (p7 c t) (And.intro (p8 c t) (And.intro (p9 c t) (And.intro (p10 c t) (And.intro (p11 c t) (And.intro (p12 c t) (And.intro (p13 c t) (And.intro (p14 c t) (And.intro (p15 c t) (And.intro (p16 c t) (And.intro (p17 c t) (And.intro (p18 c t) (And.intro (p19 c t) (And.intro (p20 c t) (And.intro (p21 c t) (And.intro (p22 c t) (And.intro (p23 c t) (And.intro (p24 c t) (And.intro (p25 c t) (And.intro (p26 c t) (And.intro (p27 c t) (And.intro (p28 c t) (And.intro (p29 c t) (And.intro (p30 c t) (p31 c t)))))))))))))))))))))))))))))))

/-- The scratch operands: whole scoped buffers of the kernel's own, passed beside the windows. -/
abbrev scM0_0 : Memref sig .tc .vmem S5120x1024 .bf16 := Memref.whole cc0_scratch0
/-- The scratch `arg11` the kernel carries between points, as a view: what it holds is stated through it. -/
abbrev VS0_0 : View sig .tc .vmem S5120x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.KernelIdealFrame.RunA.lean ====
/- The body's run at the points where a column tile is entered (the weights are unpacked first): the pieces that it
   stores in `y`, the codes and the scratch that holds the unpacked weights. -/
module

public import proofs.«01_k».proof.Proof.KernelIdealFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1836000 in
/-- What the body's stores leave in each output's staging memref, as pieces (last first) IN CASE A (`scf.if` 0 taken: points 0, 16, … 416: 27 of 432), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) :
    Σ' (L5 : List (View.Piece (Elt F) S384x1024 .bf16)), Σ' (L6 : List (View.Piece (Elt F) S384x1024 .fp8e4m3)), { LS0 : List (View.Piece (Elt F) S5120x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ d, owns (c : Thread nD τ) arg10 fullShare d) ∗ (∃ f, arg11.view.loc (c : Thread nD τ) ↦[arg11.view.set]{fullShare} arg11.view.writes (Elt F) f LS0) ∗ tbPt0 c tbM0_0 xt0) -∗ K ⟨⟩))
          ⊢ wp frame (wpE (defs₀ (F := F)) Variants.none c none) E (cc0_base_expand_quant i tbM0_0 htbM0_0 arg3 harg3 arg4 harg4 arg5 harg5 arg6 harg6 arg7 harg7 arg8 harg8 arg9 harg9 arg10 harg10 arg11 harg11) K } := by
  refine ⟨?_, ?_, ?_, fun E K => ?run⟩
  case run =>
    simp only [cc0_base_expand_quant_eq_skeleton]; unfold cc0_base_expand_quant_skel
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4
    have hrd0 : ∀ (𝒱 : Variants) (c : Dev nD) (bd : Option 𝒱.V) (i : grid0.Coords) (arg2 : Memref sig .tc .smem S512 .i32) (harg2 : arg2.IsWhole) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (k0_h1 : k0_cond1 i = 1#1) (X_arg4 : BufTy.Contents (Elt F) arg4.view.ty) (X_arg5 : BufTy.Contents (Elt F) arg5.view.ty) (hrdF : BufTy.Contents (Elt F) arg11.view.ty) (hrdB : LoadRect S5120x1024), arg11.view.readAt (Elt F) hrdB (arg11.view.writes (Elt F) hrdF (pb_k0_t1 (F := F) 𝒱 c bd i arg2 harg2 arg3 harg3 arg4 harg4 arg5 harg5 arg6 harg6 arg7 harg7 arg8 harg8 arg9 harg9 arg10 harg10 arg11 harg11 k0_h1 X_arg4 X_arg5 (Scf.trips k0_t1_loop.lb k0_t1_loop.ub k0_t1_loop.st))) = arg11.view.readCov (pb_k0_t1 (F := F) 𝒱 c bd i arg2 harg2 arg3 harg3 arg4 harg4 arg5 harg5 arg6 harg6 arg7 harg7 arg8 harg8 arg9 harg9 arg10 harg10 arg11 harg11 k0_h1 X_arg4 X_arg5 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 k0_h1 X_arg4 X_arg5 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 k0_h1 X_arg4 X_arg5 (Scf.trips k0_t1_loop.lb k0_t1_loop.ub k0_t1_loop.st)) S16x128.size (by sl_kernel_rfl) (hrdB.idx hrdJ))
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]
    · iexists _, _; isplitr; swap; · iexact H7
      ipureintro; rfl
    isplitl [HS0]; · iexists _; iexact HS0
    iexact HT0

end Cert.KernelIdeal.Gen

end
-- ==== Proof.KernelIdealFrame.RunB.lean ====
/- The body's run at every other point: the pieces that it stores in `y` and the codes, the scratch unchanged. -/
module

public import proofs.«01_k».proof.Proof.KernelIdealFrame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1732000 in
/-- What the body's stores leave in each output's staging memref, as pieces (last first) IN CASE B (`scf.if` 0 not taken: points 1, 2, … 431: 405 of 432), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) :
    Σ' (L5 : List (View.Piece (Elt F) S384x1024 .bf16)), Σ' (L6 : List (View.Piece (Elt F) S384x1024 .fp8e4m3)), { LS0 : List (View.Piece (Elt F) S5120x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ d, owns (c : Thread nD τ) arg10 fullShare d) ∗ owns (c : Thread nD τ) arg11 fullShare xs0 ∗ tbPt0 c tbM0_0 xt0) -∗ K ⟨⟩))
          ⊢ wp frame (wpE (defs₀ (F := F)) Variants.none c none) E (cc0_base_expand_quant i tbM0_0 htbM0_0 arg3 harg3 arg4 harg4 arg5 harg5 arg6 harg6 arg7 harg7 arg8 harg8 arg9 harg9 arg10 harg10 arg11 harg11) K } := by
  refine ⟨?_, ?_, [], fun E K => ?run⟩
  case run =>
    simp only [cc0_base_expand_quant_eq_skeleton]; unfold cc0_base_expand_quant_skel
    simp only [k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs0
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]
    · iexists _, _; isplitr; swap; · iexact H7
      ipureintro; rfl
    isplitl [HS0]
    · iexists _; isplitr; · ipureintro; exact harg11.read_unread _
      iexact HS0
    iexact HT0

end Cert.KernelIdeal.Gen

end
-- ==== Proof.KernelIdealFrame.Frame.lean ====
/- The run of the whole program: it ends, with every argument unchanged and every counter at zero, and with `y` and the codes
   at what the body leaves in their blocks, point by point; nothing is said of the scales. -/
module

public import proofs.«01_k».proof.Proof.KernelIdealFrame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (1 store of `S384x1024`, checked by the kernel's evaluation: Lib/Ring.lean `Piece.tiledL`, linear in the pieces, through a loop's `@[irreducible]` trip theorem too), so they cover it. -/
theorem cover0_A_5 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) (y : S384x1024.Idx) :
    ∃ pc ∈ (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1 S384x1024.size (by sl_kernel_rfl) y

/-- What case A leaves in output 5's staging buffer: its pieces read back over junk. -/
def out0_A_5 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S384x1024 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1)

/-- Case A's pieces for output 6 tile its block (8 stores of `S384x128`, checked by the kernel's evaluation: Lib/Ring.lean `Piece.tiledL`, linear in the pieces, through a loop's `@[irreducible]` trip theorem too), so they cover it. -/
theorem cover0_A_6 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) (y : S384x1024.Idx) :
    ∃ pc ∈ (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1 S384x128.size (by sl_kernel_rfl) y

/-- What case A leaves in output 6's staging buffer: its pieces read back over junk. -/
def out0_A_6 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S384x1024 .fp8e4m3 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1)

/-- Case A's pieces for scratch `arg11`, which the kernel carries between points, cover it: 2560 pieces of `S16x128` tiling it (Lib/Ring.lean `Piece.tiledL`). -/
theorem scover0_A_0 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) (y : S5120x1024.Idx) :
    ∃ pc ∈ (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.2.1 S16x128.size (by sl_kernel_rfl) y

/-- What case A leaves in scratch `arg11`: its pieces read back over junk. -/
def sout0_A_0 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S5120x1024 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.2.1)

/-- Case B's pieces for output 5 tile its block (1 store of `S384x1024`, checked by the kernel's evaluation: Lib/Ring.lean `Piece.tiledL`, linear in the pieces, through a loop's `@[irreducible]` trip theorem too), so they cover it. -/
theorem cover0_B_5 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) (y : S384x1024.Idx) :
    ∃ pc ∈ (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1 S384x1024.size (by sl_kernel_rfl) y

/-- What case B leaves in output 5's staging buffer: its pieces read back over junk. -/
def out0_B_5 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S384x1024 .bf16 :=
  VO0_5.read (Elt F) (VO0_5.writes (Elt F) VO0_5.junk (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).1)

/-- Case B's pieces for output 6 tile its block (8 stores of `S384x128`, checked by the kernel's evaluation: Lib/Ring.lean `Piece.tiledL`, linear in the pieces, through a loop's `@[irreducible]` trip theorem too), so they cover it. -/
theorem cover0_B_6 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) (y : S384x1024.Idx) :
    ∃ pc ∈ (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1 S384x128.size (by sl_kernel_rfl) y

/-- What case B leaves in output 6's staging buffer: its pieces read back over junk. -/
def out0_B_6 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S384x1024 .fp8e4m3 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32).2.1)

/-- Case B stores nothing into scratch `arg11`: it holds what the point before left. -/
def sout0_B_0 (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec F S384x5120 .bf16) (x1 : Vec F S640x1024 .i32) (x2 : Vec F S8x40x128 .i32) (x3 : Vec F S896x1024 .bf16) (x4 : Vec F S384x256 .bf16) (xt0 : TbBuf0 (F := F) c tbM0_0) (xs0 : Vec F S5120x1024 .bf16) (k0_hw1 : k0_chk1 (tbM0_0.view.readAt (Elt F) (Rect.unit (s := S512) (k0_off25 i) S1.size (k0_off25_inb i)).toLoadRect xt0 (Shape.Idx.first (numel1_S1.symm ▸ Nat.one_pos)))) (k0_hw2 : k0_chk2 (tbM0_0.view.readAt (Elt F) (Rect.unit (s := S512) (k0_off27 i) S1.size (k0_off27_inb i)).toLoadRect xt0 (Shape.Idx.first (numel1_S1.symm ▸ Nat.one_pos)))) (k0_hw3 : k0_chk3 (tbM0_0.view.readAt (Elt F) (Rect.unit (s := S512) (k0_off29 i) S1.size (k0_off29_inb i)).toLoadRect xt0 (Shape.Idx.first (numel1_S1.symm ▸ Nat.one_pos)))) (k0_hw4 : k0_chk4 (tbM0_0.view.readAt (Elt F) (Rect.unit (s := S512) (k0_off31 i) S1.size (k0_off31_inb i)).toLoadRect xt0 (Shape.Idx.first (numel1_S1.symm ▸ Nat.one_pos)))) (k0_hw5 : k0_chk5 (tbM0_0.view.readAt (Elt F) (Rect.unit (s := S512) (k0_off33 i) S1.size (k0_off33_inb i)).toLoadRect xt0 (Shape.Idx.first (numel1_S1.symm ▸ Nat.one_pos)))) (k0_hw6 : k0_chk6 (tbM0_0.view.readAt (Elt F) (Rect.unit (s := S512) (k0_off35 i) S1.size (k0_off35_inb i)).toLoadRect xt0 (Shape.Idx.first (numel1_S1.symm ▸ Nat.one_pos)))) (k0_hw7 : k0_chk7 (tbM0_0.view.readAt (Elt F) (Rect.unit (s := S512) (k0_off37 i) S1.size (k0_off37_inb i)).toLoadRect xt0 (Shape.Idx.first (numel1_S1.symm ▸ Nat.one_pos)))) (k0_hw8 : k0_chk8 (tbM0_0.view.readAt (Elt F) (Rect.unit (s := S512) (k0_off39 i) S1.size (k0_off39_inb i)).toLoadRect xt0 (Shape.Idx.first (numel1_S1.symm ▸ Nat.one_pos)))) (k0_hw9 : k0_chk9 (tbM0_0.view.readAt (Elt F) (Rect.unit (s := S512) (k0_off41 i) S1.size (k0_off41_inb i)).toLoadRect xt0 (Shape.Idx.first (numel1_S1.symm ▸ Nat.one_pos)))) (k0_hw10 : k0_chk10 (tbM0_0.view.readAt (Elt F) (Rect.unit (s := S512) (k0_off43 i) S1.size (k0_off43_inb i)).toLoadRect xt0 (Shape.Idx.first (numel1_S1.symm ▸ Nat.one_pos)))) (k0_hw11 : k0_chk11 (tbM0_0.view.readAt (Elt F) (Rect.unit (s := S512) (k0_off45 i) S1.size (k0_off45_inb i)).toLoadRect xt0 (Shape.Idx.first (numel1_S1.symm ▸ Nat.one_pos)))) (k0_hw12 : k0_chk12 (tbM0_0.view.readAt (Elt F) (Rect.unit (s := S512) (k0_off47 i) S1.size (k0_off47_inb i)).toLoadRect xt0 (Shape.Idx.first (numel1_S1.symm ▸ Nat.one_pos)))) (k0_hw13 : k0_chk13 (tbM0_0.view.readAt (Elt F) (Rect.unit (s := S512) (k0_off49 i) S1.size (k0_off49_inb i)).toLoadRect xt0 (Shape.Idx.first (numel1_S1.symm ▸ Nat.one_pos)))) (k0_hw14 : k0_chk14 (tbM0_0.view.readAt (Elt F) (Rect.unit (s := S512) (k0_off51 i) S1.size (k0_off51_inb i)).toLoadRect xt0 (Shape.Idx.first (numel1_S1.symm ▸ Nat.one_pos)))) (k0_hw15 : k0_chk15 (tbM0_0.view.readAt (Elt F) (Rect.unit (s := S512) (k0_off53 i) S1.size (k0_off53_inb i)).toLoadRect xt0 (Shape.Idx.first (numel1_S1.symm ▸ Nat.one_pos)))) (k0_hw16 : k0_chk16 (tbM0_0.view.readAt (Elt F) (Rect.unit (s := S512) (k0_off55 i) S1.size (k0_off55_inb i)).toLoadRect xt0 (Shape.Idx.first (numel1_S1.symm ▸ Nat.one_pos)))) (k0_hw17 : k0_chk17 (tbM0_0.view.readAt (Elt F) (Rect.unit (s := S512) (k0_off57 i) S1.size (k0_off57_inb i)).toLoadRect xt0 (Shape.Idx.first (numel1_S1.symm ▸ Nat.one_pos)))) (k0_hw18 : k0_chk18 (tbM0_0.view.readAt (Elt F) (Rect.unit (s := S512) (k0_off59 i) S1.size (k0_off59_inb i)).toLoadRect xt0 (Shape.Idx.first (numel1_S1.symm ▸ Nat.one_pos)))) (k0_hw19 : k0_chk19 (tbM0_0.view.readAt (Elt F) (Rect.unit (s := S512) (k0_off61 i) S1.size (k0_off61_inb i)).toLoadRect xt0 (Shape.Idx.first (numel1_S1.symm ▸ Nat.one_pos)))) (k0_hw20 : k0_chk20 (tbM0_0.view.readAt (Elt F) (Rect.unit (s := S512) (k0_off63 i) S1.size (k0_off63_inb i)).toLoadRect xt0 (Shape.Idx.first (numel1_S1.symm ▸ Nat.one_pos)))) (k0_hw21 : k0_chk21 (tbM0_0.view.readAt (Elt F) (Rect.unit (s := S512) (k0_off65 i) S1.size (k0_off65_inb i)).toLoadRect xt0 (Shape.Idx.first (numel1_S1.symm ▸ Nat.one_pos)))) (k0_hw22 : k0_chk22 (tbM0_0.view.readAt (Elt F) (Rect.unit (s := S512) (k0_off67 i) S1.size (k0_off67_inb i)).toLoadRect xt0 (Shape.Idx.first (numel1_S1.symm ▸ Nat.one_pos)))) (k0_hw23 : k0_chk23 (tbM0_0.view.readAt (Elt F) (Rect.unit (s := S512) (k0_off69 i) S1.size (k0_off69_inb i)).toLoadRect xt0 (Shape.Idx.first (numel1_S1.symm ▸ Nat.one_pos)))) (k0_hw24 : k0_chk24 (tbM0_0.view.readAt (Elt F) (Rect.unit (s := S512) (k0_off71 i) S1.size (k0_off71_inb i)).toLoadRect xt0 (Shape.Idx.first (numel1_S1.symm ▸ Nat.one_pos)))) (k0_hw25 : k0_chk25 (tbM0_0.view.readAt (Elt F) (Rect.unit (s := S512) (k0_off73 i) S1.size (k0_off73_inb i)).toLoadRect xt0 (Shape.Idx.first (numel1_S1.symm ▸ Nat.one_pos)))) (k0_hw26 : k0_chk26 (tbM0_0.view.readAt (Elt F) (Rect.unit (s := S512) (k0_off75 i) S1.size (k0_off75_inb i)).toLoadRect xt0 (Shape.Idx.first (numel1_S1.symm ▸ Nat.one_pos)))) (k0_hw27 : k0_chk27 (tbM0_0.view.readAt (Elt F) (Rect.unit (s := S512) (k0_off77 i) S1.size (k0_off77_inb i)).toLoadRect xt0 (Shape.Idx.first (numel1_S1.symm ▸ Nat.one_pos)))) (k0_hw28 : k0_chk28 (tbM0_0.view.readAt (Elt F) (Rect.unit (s := S512) (k0_off79 i) S1.size (k0_off79_inb i)).toLoadRect xt0 (Shape.Idx.first (numel1_S1.symm ▸ Nat.one_pos)))) (k0_hw29 : k0_chk29 (tbM0_0.view.readAt (Elt F) (Rect.unit (s := S512) (k0_off81 i) S1.size (k0_off81_inb i)).toLoadRect xt0 (Shape.Idx.first (numel1_S1.symm ▸ Nat.one_pos)))) (k0_hw30 : k0_chk30 (tbM0_0.view.readAt (Elt F) (Rect.unit (s := S512) (k0_off83 i) S1.size (k0_off83_inb i)).toLoadRect xt0 (Shape.Idx.first (numel1_S1.symm ▸ Nat.one_pos)))) (k0_hw31 : k0_chk31 (tbM0_0.view.readAt (Elt F) (Rect.unit (s := S512) (k0_off85 i) S1.size (k0_off85_inb i)).toLoadRect xt0 (Shape.Idx.first (numel1_S1.symm ▸ Nat.one_pos)))) (k0_hw32 : k0_chk32 (tbM0_0.view.readAt (Elt F) (Rect.unit (s := S512) (k0_off87 i) S1.size (k0_off87_inb i)).toLoadRect xt0 (Shape.Idx.first (numel1_S1.symm ▸ Nat.one_pos)))) : Vec F S5120x1024 .bf16 := xs0

/-! ## What the outputs hold after each point -/

set_option maxHeartbeats 800000 in
set_option maxRecDepth 131072 in
/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (hH : Hyps m hO) (c : Dev nD) : (n : ℕ) → n < (cfgM m hO).N → Vec F S384x1024 .bf16 × Vec F S384x1024 .fp8e4m3 × Vec F S5120x1024 .bf16
  | 0, hn => (out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (X0_3 m hO c ⟨0, hn⟩) (iblk m hO c 4 ⟨0, hn⟩) (tbl m 0) (Hyps.c0 hH c ⟨0, hn⟩) (Hyps.c1 hH c ⟨0, hn⟩) (Hyps.c2 hH c ⟨0, hn⟩) (Hyps.c3 hH c ⟨0, hn⟩) (Hyps.c4 hH c ⟨0, hn⟩) (Hyps.c5 hH c ⟨0, hn⟩) (Hyps.c6 hH c ⟨0, hn⟩) (Hyps.c7 hH c ⟨0, hn⟩) (Hyps.c8 hH c ⟨0, hn⟩) (Hyps.c9 hH c ⟨0, hn⟩) (Hyps.c10 hH c ⟨0, hn⟩) (Hyps.c11 hH c ⟨0, hn⟩) (Hyps.c12 hH c ⟨0, hn⟩) (Hyps.c13 hH c ⟨0, hn⟩) (Hyps.c14 hH c ⟨0, hn⟩) (Hyps.c15 hH c ⟨0, hn⟩) (Hyps.c16 hH c ⟨0, hn⟩) (Hyps.c17 hH c ⟨0, hn⟩) (Hyps.c18 hH c ⟨0, hn⟩) (Hyps.c19 hH c ⟨0, hn⟩) (Hyps.c20 hH c ⟨0, hn⟩) (Hyps.c21 hH c ⟨0, hn⟩) (Hyps.c22 hH c ⟨0, hn⟩) (Hyps.c23 hH c ⟨0, hn⟩) (Hyps.c24 hH c ⟨0, hn⟩) (Hyps.c25 hH c ⟨0, hn⟩) (Hyps.c26 hH c ⟨0, hn⟩) (Hyps.c27 hH c ⟨0, hn⟩) (Hyps.c28 hH c ⟨0, hn⟩) (Hyps.c29 hH c ⟨0, hn⟩) (Hyps.c30 hH c ⟨0, hn⟩) (Hyps.c31 hH c ⟨0, hn⟩), out0_A_6 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (X0_3 m hO c ⟨0, hn⟩) (iblk m hO c 4 ⟨0, hn⟩) (tbl m 0) (Hyps.c0 hH c ⟨0, hn⟩) (Hyps.c1 hH c ⟨0, hn⟩) (Hyps.c2 hH c ⟨0, hn⟩) (Hyps.c3 hH c ⟨0, hn⟩) (Hyps.c4 hH c ⟨0, hn⟩) (Hyps.c5 hH c ⟨0, hn⟩) (Hyps.c6 hH c ⟨0, hn⟩) (Hyps.c7 hH c ⟨0, hn⟩) (Hyps.c8 hH c ⟨0, hn⟩) (Hyps.c9 hH c ⟨0, hn⟩) (Hyps.c10 hH c ⟨0, hn⟩) (Hyps.c11 hH c ⟨0, hn⟩) (Hyps.c12 hH c ⟨0, hn⟩) (Hyps.c13 hH c ⟨0, hn⟩) (Hyps.c14 hH c ⟨0, hn⟩) (Hyps.c15 hH c ⟨0, hn⟩) (Hyps.c16 hH c ⟨0, hn⟩) (Hyps.c17 hH c ⟨0, hn⟩) (Hyps.c18 hH c ⟨0, hn⟩) (Hyps.c19 hH c ⟨0, hn⟩) (Hyps.c20 hH c ⟨0, hn⟩) (Hyps.c21 hH c ⟨0, hn⟩) (Hyps.c22 hH c ⟨0, hn⟩) (Hyps.c23 hH c ⟨0, hn⟩) (Hyps.c24 hH c ⟨0, hn⟩) (Hyps.c25 hH c ⟨0, hn⟩) (Hyps.c26 hH c ⟨0, hn⟩) (Hyps.c27 hH c ⟨0, hn⟩) (Hyps.c28 hH c ⟨0, hn⟩) (Hyps.c29 hH c ⟨0, hn⟩) (Hyps.c30 hH c ⟨0, hn⟩) (Hyps.c31 hH c ⟨0, hn⟩), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) ((hcond0_0 ⟨0, hn⟩).mpr (Nat.zero_mod _)) (iblk m hO c 0 ⟨0, hn⟩) (iblk m hO c 1 ⟨0, hn⟩) (iblk m hO c 2 ⟨0, hn⟩) (X0_3 m hO c ⟨0, hn⟩) (iblk m hO c 4 ⟨0, hn⟩) (tbl m 0) (Hyps.c0 hH c ⟨0, hn⟩) (Hyps.c1 hH c ⟨0, hn⟩) (Hyps.c2 hH c ⟨0, hn⟩) (Hyps.c3 hH c ⟨0, hn⟩) (Hyps.c4 hH c ⟨0, hn⟩) (Hyps.c5 hH c ⟨0, hn⟩) (Hyps.c6 hH c ⟨0, hn⟩) (Hyps.c7 hH c ⟨0, hn⟩) (Hyps.c8 hH c ⟨0, hn⟩) (Hyps.c9 hH c ⟨0, hn⟩) (Hyps.c10 hH c ⟨0, hn⟩) (Hyps.c11 hH c ⟨0, hn⟩) (Hyps.c12 hH c ⟨0, hn⟩) (Hyps.c13 hH c ⟨0, hn⟩) (Hyps.c14 hH c ⟨0, hn⟩) (Hyps.c15 hH c ⟨0, hn⟩) (Hyps.c16 hH c ⟨0, hn⟩) (Hyps.c17 hH c ⟨0, hn⟩) (Hyps.c18 hH c ⟨0, hn⟩) (Hyps.c19 hH c ⟨0, hn⟩) (Hyps.c20 hH c ⟨0, hn⟩) (Hyps.c21 hH c ⟨0, hn⟩) (Hyps.c22 hH c ⟨0, hn⟩) (Hyps.c23 hH c ⟨0, hn⟩) (Hyps.c24 hH c ⟨0, hn⟩) (Hyps.c25 hH c ⟨0, hn⟩) (Hyps.c26 hH c ⟨0, hn⟩) (Hyps.c27 hH c ⟨0, hn⟩) (Hyps.c28 hH c ⟨0, hn⟩) (Hyps.c29 hH c ⟨0, hn⟩) (Hyps.c30 hH c ⟨0, hn⟩) (Hyps.c31 hH c ⟨0, hn⟩))
  | n + 1, hn =>
    if h0 : (n + 1) % 16 = 0 then
      (out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩), out0_A_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) ((hcond0_0 ⟨n + 1, hn⟩).mpr h0) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩))
    else
      (out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (outsAt0 hO hH c n (Nat.lt_of_succ_lt hn)).2.2 (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩), out0_B_6 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (outsAt0 hO hH c n (Nat.lt_of_succ_lt hn)).2.2 (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩), sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) (fun h => h0 ((hcond0_0 ⟨n + 1, hn⟩).mp h)) (iblk m hO c 0 ⟨n + 1, hn⟩) (iblk m hO c 1 ⟨n + 1, hn⟩) (iblk m hO c 2 ⟨n + 1, hn⟩) (X0_3 m hO c ⟨n + 1, hn⟩) (iblk m hO c 4 ⟨n + 1, hn⟩) (tbl m 0) (outsAt0 hO hH c n (Nat.lt_of_succ_lt hn)).2.2 (Hyps.c0 hH c ⟨n + 1, hn⟩) (Hyps.c1 hH c ⟨n + 1, hn⟩) (Hyps.c2 hH c ⟨n + 1, hn⟩) (Hyps.c3 hH c ⟨n + 1, hn⟩) (Hyps.c4 hH c ⟨n + 1, hn⟩) (Hyps.c5 hH c ⟨n + 1, hn⟩) (Hyps.c6 hH c ⟨n + 1, hn⟩) (Hyps.c7 hH c ⟨n + 1, hn⟩) (Hyps.c8 hH c ⟨n + 1, hn⟩) (Hyps.c9 hH c ⟨n + 1, hn⟩) (Hyps.c10 hH c ⟨n + 1, hn⟩) (Hyps.c11 hH c ⟨n + 1, hn⟩) (Hyps.c12 hH c ⟨n + 1, hn⟩) (Hyps.c13 hH c ⟨n + 1, hn⟩) (Hyps.c14 hH c ⟨n + 1, hn⟩) (Hyps.c15 hH c ⟨n + 1, hn⟩) (Hyps.c16 hH c ⟨n + 1, hn⟩) (Hyps.c17 hH c ⟨n + 1, hn⟩) (Hyps.c18 hH c ⟨n + 1, hn⟩) (Hyps.c19 hH c ⟨n + 1, hn⟩) (Hyps.c20 hH c ⟨n + 1, hn⟩) (Hyps.c21 hH c ⟨n + 1, hn⟩) (Hyps.c22 hH c ⟨n + 1, hn⟩) (Hyps.c23 hH c ⟨n + 1, hn⟩) (Hyps.c24 hH c ⟨n + 1, hn⟩) (Hyps.c25 hH c ⟨n + 1, hn⟩) (Hyps.c26 hH c ⟨n + 1, hn⟩) (Hyps.c27 hH c ⟨n + 1, hn⟩) (Hyps.c28 hH c ⟨n + 1, hn⟩) (Hyps.c29 hH c ⟨n + 1, hn⟩) (Hyps.c30 hH c ⟨n + 1, hn⟩) (Hyps.c31 hH c ⟨n + 1, hn⟩))

set_option maxHeartbeats 800000 in
set_option maxRecDepth 131072 in
/-- `outsAt0` at a point of case A: that case's contents. -/
theorem outsAt0_A (hO : Ok m) (hH : Hyps m hO) (c : Dev nD) (t : Fin (cfgM m hO).N) (h0 : t.val % 16 = 0) :
    outsAt0 m hO hH c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)) := by
  obtain ⟨n, hn⟩ := t
  cases n with
  | zero => exact rfl
  | succ n => exact (dif_pos h0).trans rfl

set_option maxHeartbeats 800000 in
set_option maxRecDepth 131072 in
/-- `outsAt0` at a point of case B: that case's contents, over what the point before left. -/
theorem outsAt0_B (hO : Ok m) (hH : Hyps m hO) (c : Dev nD) (t : Fin (cfgM m hO).N) (h0 : ¬t.val % 16 = 0) :
    outsAt0 m hO hH c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (fun h => h0 ((hcond0_0 t).mp h)) (iblk m hO c 0 t) (iblk m hO c 1 t) (iblk m hO c 2 t) (X0_3 m hO c t) (iblk m hO c 4 t) (tbl m 0) (outsAt0 m hO hH c (t.val - 1) (Nat.lt_of_le_of_lt (Nat.sub_le _ _) t.isLt)).2.2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t), out0_B_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (fun h => h0 ((hcond0_0 t).mp h)) (iblk m hO c 0 t) (iblk m hO c 1 t) (iblk m hO c 2 t) (X0_3 m hO c t) (iblk m hO c 4 t) (tbl m 0) (outsAt0 m hO hH c (t.val - 1) (Nat.lt_of_le_of_lt (Nat.sub_le _ _) t.isLt)).2.2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t), sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (fun h => h0 ((hcond0_0 t).mp h)) (iblk m hO c 0 t) (iblk m hO c 1 t) (iblk m hO c 2 t) (X0_3 m hO c t) (iblk m hO c 4 t) (tbl m 0) (outsAt0 m hO hH c (t.val - 1) (Nat.lt_of_le_of_lt (Nat.sub_le _ _) t.isLt)).2.2 (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (hH : Hyps m hO) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO hH c n hn).2.2)) ∗ (∃ r, prngReg c r)) ∗ Pipeline.ΦT pre0 (tbl m) c)

theorem PhiS_zero (hO : Ok m) (hH : Hyps m hO) (c : Dev nD) (n : ℕ) (h : n ≤ (cfgM m hO).N) (hz : n = 0) : PhiS m hO hH c n h = iprop(Pipeline.ΦA spec0 c ∗ Pipeline.ΦT pre0 (tbl m) c) := by
  subst hz; rfl

/-- After point `n` (before point `n + 1`): the carried scratch at that point's contents. -/
theorem PhiS_succ (hO : Ok m) (hH : Hyps m hO) (c : Dev nD) (n : ℕ) (hn : n < (cfgM m hO).N) :
    PhiS m hO hH c (n + 1) hn = iprop(iprop(iprop(owns (c : Thread nD τ) scM0_0 fullShare ((outsAt0 m hO hH c n hn).2.2)) ∗ (∃ r, prngReg c r)) ∗ Pipeline.ΦT pre0 (tbl m) c) := rfl

/-- Before a point that is not the first: the carried scratch at what the point before left. -/
theorem PhiS_pos (hO : Ok m) (hH : Hyps m hO) (c : Dev nD) (n : ℕ) (h : n ≤ (cfgM m hO).N) (hz : n ≠ 0) :
    PhiS m hO hH c n h = iprop(iprop(iprop(owns (c : Thread nD τ) scM0_0 fullShare ((outsAt0 m hO hH c (n - 1) (by omega)).2.2)) ∗ (∃ r, prngReg c r)) ∗ Pipeline.ΦT pre0 (tbl m) c) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 8 → Bool := fun w => w.val == 7
theorem forgets0_5 : forgets0 (5 : Fin 8) = false := by decide
theorem forgets0_6 : forgets0 (6 : Fin 8) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => X0_3 m hO c t
    | ⟨4, _⟩ => iblk m hO c 4 t
    | ⟨5, _⟩ => (outsAt0 m hO hH c t.val t.isLt).1
    | ⟨6, _⟩ => (outsAt0 m hO hH c t.val t.isLt).2.1
    | ⟨7, h⟩ => Pipeline.Dat.unnamed (cfg := (cfgM m hO)) ⟨7, h⟩ t
  Φ t := PhiS m hO hH c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- The invariant at a point's start (the proof data at `t.castSucc`), restated at `t.val`. -/
theorem PhiS_castSucc (hO : Ok m) (hH : Hyps m hO) (c : Dev nD) (t : Fin (cfgM m hO).N) :
    (dats m hO hH 0 c).Φ t.castSucc = PhiS m hO hH c t.val (Nat.le_of_lt t.isLt) := by
  dsimp only [dats]; exact Pipeline.Dat.Φ_castSucc (PhiS m hO hH c) t

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = X0_3 m hO c t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = (outsAt0 m hO hH c t.val t.isLt).1 := by dsimp only [dats]; try rfl
theorem after0_6 (hO : Ok m) (hH : Hyps m hO) (c : Dev nD) (t : Fin (cfgM m hO).N) : (dats m hO hH 0 c).after 6 t = (outsAt0 m hO hH c t.val t.isLt).2.1 := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = X0_3 m hO c t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare d))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ (∃ d, owns (c : Thread nD τ) (ms0_7 m hO t) fullShare d))

set_option maxHeartbeats 25600000 in
set_option maxRecDepth 131072 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4]
  rw [show (dats m hO hH 0 c).owesAt () t.succ = (dats m hO hH 0 c).owesAt () t.castSucc from rfl,
    after0_0, after0_1, after0_2, after0_3, after0_4, after0_5, after0_6]
  rw [show (dats m hO hH 0 c).Φ t.succ = PhiS m hO hH c (t.val + 1) t.isLt from rfl, PhiS_succ, PhiT0_eq]
  have hN : t.val < 432 := lt_of_lt_of_eq t.isLt (show (cfgM m hO).N = 432 from N_0)
  by_cases h0 : t.val % 16 = 0
  · by_cases hz : t.val = 0
    · rw [PhiS_castSucc m hO hH c t, PhiS_zero m hO hH c _ _ hz, PhiT0_eq, PhiA0_eq]
      rw [outsAt0_A m hO hH c t h0]
      unfold out0_A_5 out0_A_6 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HT0]; · iexact HT0
      iintro ⟨H0, H1, H2, H3, H4, ⟨%e5, H5⟩, ⟨%e6, H6⟩, H7, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _ _ _ _ _ _ _ _ _ _ _ _ _ _ _)
      iexact H7
    · rw [PhiS_castSucc m hO hH c t, PhiS_pos m hO hH c _ _ hz, PhiT0_eq]
      rw [outsAt0_A m hO hH c t h0]
      unfold out0_A_5 out0_A_6 sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m hO c 0 t) (iblk m hO c 1 t) (iblk m hO c 2 t) (X0_3 m hO c t) (iblk m hO c 4 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexists _; iexact HS0
      isplitl [HT0]; · iexact HT0
      iintro ⟨H0, H1, H2, H3, H4, ⟨%e5, H5⟩, ⟨%e6, H6⟩, H7, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _ _ _ _ _ _ _ _ _ _ _ _ _ _ _)
      iexact H7
  · by_cases hz : t.val = 0
    · exfalso; have hN : t.val < 432 := lt_of_lt_of_eq t.isLt (show (cfgM m hO).N = 432 from N_0); omega
    · rw [PhiS_castSucc m hO hH c t, PhiS_pos m hO hH c _ _ hz, PhiT0_eq]
      rw [outsAt0_B m hO hH c t h0]
      unfold out0_B_5 out0_B_6 sout0_B_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m hO c 0 t) (iblk m hO c 1 t) (iblk m hO c 2 t) (X0_3 m hO c t) (iblk m hO c 4 t) (tbl m 0) _ (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HT0]; · iexact HT0
      iintro ⟨H0, H1, H2, H3, H4, ⟨%e5, H5⟩, ⟨%e6, H6⟩, H7, HS0, HT0⟩
      isplitl [HS0 Hg HT0]
      · isplitl [HS0 Hg]
        · isplitl [HS0]
          · iexact HS0
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _)
      iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ forgets0 := fun t => by
  rw [bigSep_W0, bigSep_W0, defs₀_row m hO]
  exact triple_restated (sound_body m hO hH c t) rfl .rfl fun _ => .rfl

/-- What the launch hands the region (`ΦA`, the tables beside it) is the invariant before the first point. -/
theorem hin (hO : Ok m) (hH : Hyps m hO) (c : Dev nD) : iprop(Pipeline.ΦA spec0 c ∗ Pipeline.ΦT pre0 (tbl m) c) ⊢ (dats m hO hH 0 c).Φ 0 := by
  rw [show (dats m hO hH 0 c).Φ 0 = PhiS m hO hH c 0 (Nat.zero_le _) from rfl, PhiS_zero m hO hH c 0 _ rfl]
  try exact Idealize.SL.BI.Entails.refl _

/-- After any point but the first the invariant gives `ΦA` back: the carried scratch's named contents are forgotten (and the tables' halves dropped). -/
theorem Phi_out (hO : Ok m) (hH : Hyps m hO) (c : Dev nD) (t : Fin ((cfgM m hO).N + 1)) (ht : t.val ≠ 0) : (dats m hO hH 0 c).Φ t ⊢ Pipeline.ΦA spec0 c := by
  rw [show (dats m hO hH 0 c).Φ t = PhiS m hO hH c t.val (Nat.le_of_lt_succ t.isLt) from rfl, PhiS_pos m hO hH c _ _ ht, PhiA0_eq]
  iintro ⟨⟨HS0, Hg⟩, -⟩
  isplitl [HS0]
  · iexists _; iexact HS0
  iexact Hg

/-- The same after the last point. -/
theorem hout (hO : Ok m) (hH : Hyps m hO) (c : Dev nD) : (dats m hO hH 0 c).Φ (Fin.last (cfgM m hO).N) ⊢ Pipeline.ΦA spec0 c :=
  Phi_out m hO hH c _ (by rw [Fin.val_last]; have : (cfgM m hO).N = 432 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.RDat.FramePost ((Pipeline.pin pcfgs fun _ => adm m hO) 0) (fun c => (dats m hO hH 0 c).toRForget forgets0) (V m)) r ∧ r.2.sem = fun _ => 0) :=
  Pipeline.θ_run_frameP_track_forget (Q' := _) pcfgs (fun _ => adm m hO) (dats m hO hH) (0 : Fin 1) launch0 defs₀ Variants.none forgets0 m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main (hO : Ok m) (hH : Hyps m hO) : θ_run defs (onTc (τ := τ) (main (F := F))) (s₀ m ρ) (Pipeline.RDat.FramePost ((Pipeline.pin pcfgs fun _ => adm m hO) 0) (fun c => (dats m hO hH 0 c).toRForget forgets0) (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO hH 0 c).toRForget forgets0) (A_eq m hO hH) (run_main m ρ hO hH)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them) and `Gen.Hyps m hO` (the side conditions the body assumes, at every point), which Proof.lean proves from the precondition: `⟨…, fun m ρ h => Cert.KernelIdeal.Gen.frame m ρ (ok_of_pre m h) (hyps_of_pre m h _)⟩`. -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hH) ((θ_run defs _ _).mono (fun _ h => h.2) (run_main_quiescent m ρ hO hH))

end Cert.KernelIdeal.Gen

end
-- ==== Proof.KernelIdealFrame.Pre.lean ====
/- The precondition gives what the run of the kernel asks of the words it reads: each of the prefetched table's words names one
   of the 56 blocks of sixteen rows of the pool, so every block the body loads lies inside the pool. -/
module

public import proofs.«01_k».proof.Defs
public import proofs.«01_k».proof.Proof.KernelIdealFrame.Runs
public import proofs.«01_k».proof.Proof.Gen.Pre_blocks_named

@[expose] public section

set_option maxRecDepth 16384

noncomputable section

namespace Cert.KernelIdeal.Gen

open Idealize.ShloMosaic Idealize.ShloMosaic.TcCoe
open Idealize.SL Idealize.SL.RA Idealize.SL.BI

variable {F : FTy → Type} [FloatOps F]

/-- The predicate read at one word: the word is at most 55. -/
theorem word_named (blk : IVec Cert.Pre_blocks_named.S512 32) (x1 : FVec F Cert.Pre_blocks_named.S24x256x5120 .bf16)
    (x2 : IVec Cert.Pre_blocks_named.S640x27648 32) (x3 : IVec Cert.Pre_blocks_named.S40x27648 16)
    (x4 : FVec F Cert.Pre_blocks_named.S1500x27648 .bf16) (x5 : FVec F Cert.Pre_blocks_named.S6144x256 .bf16)
    (h : Cert.Pre_blocks_named.fn (F := F) blk x1 x2 x3 x4 x5 = fun _ => 1#1) (w : Cert.Pre_blocks_named.S512.Idx) :
    (blk w).toNat ≤ 55 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h w
  simp only [Cert.Pre_blocks_named.fn, constantI, broadcastInDim, cmpi, andi, andi_one] at pre
  generalize blk w = v at pre
  simp only [ofBool_eq_one, IntOp.cmpi, BitVec.sle, decide_eq_true_eq, BitVec.toInt, BitVec.toNat_ofNat] at pre
  obtain ⟨p, q⟩ := pre
  have := v.isLt
  split at p <;> simp at p q <;> omega

variable (m : (ℓ : Loc nD τ sig) → Buf (Elt F) ℓ)

/-- A word the body reads off the table is one of the table's words, as launched. -/
theorem word_read (hw : ∀ w, (m (((0 : Dev nD) : Thread nD τ).loc main_arg0) w).toNat ≤ 55) (r : LoadRect S512) (j : r.shape.Idx) :
    (tbM0_0.view.readAt (Elt F) r (tbl m 0) j : BitVec 32).toNat ≤ 55 := by
  have e : tbl m 0 = m (((0 : Dev nD) : Thread nD τ).loc main_arg0) := V_main_arg0 m 0
  rw [e]
  exact hw _

theorem chk1_of_le (v : BitVec 32) (h : v.toNat ≤ 55) : k0_chk1 v := by
  refine ⟨?_, fun a => ?_⟩
  · unfold k0_mult67; simp only [Scalar.muli, IntOp.muli, BitVec.toNat_mul, BitVec.toNat_ofNat]; omega
  · unfold k0_off26; fin_cases a
    · simp [Scalar.indexCast, Scalar.muli, IntOp.muli, BitVec.toNat_mul, BitVec.toNat_ofNat]; omega
    · simp

theorem chk2_of_le (v : BitVec 32) (h : v.toNat ≤ 55) : k0_chk2 v := by
  refine ⟨?_, fun a => ?_⟩
  · unfold k0_mult68; simp only [Scalar.muli, IntOp.muli, BitVec.toNat_mul, BitVec.toNat_ofNat]; omega
  · unfold k0_off28; fin_cases a
    · simp [Scalar.indexCast, Scalar.muli, IntOp.muli, BitVec.toNat_mul, BitVec.toNat_ofNat]; omega
    · simp

theorem chk3_of_le (v : BitVec 32) (h : v.toNat ≤ 55) : k0_chk3 v := by
  refine ⟨?_, fun a => ?_⟩
  · unfold k0_mult69; simp only [Scalar.muli, IntOp.muli, BitVec.toNat_mul, BitVec.toNat_ofNat]; omega
  · unfold k0_off30; fin_cases a
    · simp [Scalar.indexCast, Scalar.muli, IntOp.muli, BitVec.toNat_mul, BitVec.toNat_ofNat]; omega
    · simp

theorem chk4_of_le (v : BitVec 32) (h : v.toNat ≤ 55) : k0_chk4 v := by
  refine ⟨?_, fun a => ?_⟩
  · unfold k0_mult70; simp only [Scalar.muli, IntOp.muli, BitVec.toNat_mul, BitVec.toNat_ofNat]; omega
  · unfold k0_off32; fin_cases a
    · simp [Scalar.indexCast, Scalar.muli, IntOp.muli, BitVec.toNat_mul, BitVec.toNat_ofNat]; omega
    · simp

theorem chk5_of_le (v : BitVec 32) (h : v.toNat ≤ 55) : k0_chk5 v := by
  refine ⟨?_, fun a => ?_⟩
  · unfold k0_mult71; simp only [Scalar.muli, IntOp.muli, BitVec.toNat_mul, BitVec.toNat_ofNat]; omega
  · unfold k0_off34; fin_cases a
    · simp [Scalar.indexCast, Scalar.muli, IntOp.muli, BitVec.toNat_mul, BitVec.toNat_ofNat]; omega
    · simp

theorem chk6_of_le (v : BitVec 32) (h : v.toNat ≤ 55) : k0_chk6 v := by
  refine ⟨?_, fun a => ?_⟩
  · unfold k0_mult72; simp only [Scalar.muli, IntOp.muli, BitVec.toNat_mul, BitVec.toNat_ofNat]; omega
  · unfold k0_off36; fin_cases a
    · simp [Scalar.indexCast, Scalar.muli, IntOp.muli, BitVec.toNat_mul, BitVec.toNat_ofNat]; omega
    · simp

theorem chk7_of_le (v : BitVec 32) (h : v.toNat ≤ 55) : k0_chk7 v := by
  refine ⟨?_, fun a => ?_⟩
  · unfold k0_mult73; simp only [Scalar.muli, IntOp.muli, BitVec.toNat_mul, BitVec.toNat_ofNat]; omega
  · unfold k0_off38; fin_cases a
    · simp [Scalar.indexCast, Scalar.muli, IntOp.muli, BitVec.toNat_mul, BitVec.toNat_ofNat]; omega
    · simp

theorem chk8_of_le (v : BitVec 32) (h : v.toNat ≤ 55) : k0_chk8 v := by
  refine ⟨?_, fun a => ?_⟩
  · unfold k0_mult74; simp only [Scalar.muli, IntOp.muli, BitVec.toNat_mul, BitVec.toNat_ofNat]; omega
  · unfold k0_off40; fin_cases a
    · simp [Scalar.indexCast, Scalar.muli, IntOp.muli, BitVec.toNat_mul, BitVec.toNat_ofNat]; omega
    · simp

theorem chk9_of_le (v : BitVec 32) (h : v.toNat ≤ 55) : k0_chk9 v := by
  refine ⟨?_, fun a => ?_⟩
  · unfold k0_mult75; simp only [Scalar.muli, IntOp.muli, BitVec.toNat_mul, BitVec.toNat_ofNat]; omega
  · unfold k0_off42; fin_cases a
    · simp [Scalar.indexCast, Scalar.muli, IntOp.muli, BitVec.toNat_mul, BitVec.toNat_ofNat]; omega
    · simp

theorem chk10_of_le (v : BitVec 32) (h : v.toNat ≤ 55) : k0_chk10 v := by
  refine ⟨?_, fun a => ?_⟩
  · unfold k0_mult76; simp only [Scalar.muli, IntOp.muli, BitVec.toNat_mul, BitVec.toNat_ofNat]; omega
  · unfold k0_off44; fin_cases a
    · simp [Scalar.indexCast, Scalar.muli, IntOp.muli, BitVec.toNat_mul, BitVec.toNat_ofNat]; omega
    · simp

theorem chk11_of_le (v : BitVec 32) (h : v.toNat ≤ 55) : k0_chk11 v := by
  refine ⟨?_, fun a => ?_⟩
  · unfold k0_mult77; simp only [Scalar.muli, IntOp.muli, BitVec.toNat_mul, BitVec.toNat_ofNat]; omega
  · unfold k0_off46; fin_cases a
    · simp [Scalar.indexCast, Scalar.muli, IntOp.muli, BitVec.toNat_mul, BitVec.toNat_ofNat]; omega
    · simp

theorem chk12_of_le (v : BitVec 32) (h : v.toNat ≤ 55) : k0_chk12 v := by
  refine ⟨?_, fun a => ?_⟩
  · unfold k0_mult78; simp only [Scalar.muli, IntOp.muli, BitVec.toNat_mul, BitVec.toNat_ofNat]; omega
  · unfold k0_off48; fin_cases a
    · simp [Scalar.indexCast, Scalar.muli, IntOp.muli, BitVec.toNat_mul, BitVec.toNat_ofNat]; omega
    · simp

theorem chk13_of_le (v : BitVec 32) (h : v.toNat ≤ 55) : k0_chk13 v := by
  refine ⟨?_, fun a => ?_⟩
  · unfold k0_mult79; simp only [Scalar.muli, IntOp.muli, BitVec.toNat_mul, BitVec.toNat_ofNat]; omega
  · unfold k0_off50; fin_cases a
    · simp [Scalar.indexCast, Scalar.muli, IntOp.muli, BitVec.toNat_mul, BitVec.toNat_ofNat]; omega
    · simp

theorem chk14_of_le (v : BitVec 32) (h : v.toNat ≤ 55) : k0_chk14 v := by
  refine ⟨?_, fun a => ?_⟩
  · unfold k0_mult80; simp only [Scalar.muli, IntOp.muli, BitVec.toNat_mul, BitVec.toNat_ofNat]; omega
  · unfold k0_off52; fin_cases a
    · simp [Scalar.indexCast, Scalar.muli, IntOp.muli, BitVec.toNat_mul, BitVec.toNat_ofNat]; omega
    · simp

theorem chk15_of_le (v : BitVec 32) (h : v.toNat ≤ 55) : k0_chk15 v := by
  refine ⟨?_, fun a => ?_⟩
  · unfold k0_mult81; simp only [Scalar.muli, IntOp.muli, BitVec.toNat_mul, BitVec.toNat_ofNat]; omega
  · unfold k0_off54; fin_cases a
    · simp [Scalar.indexCast, Scalar.muli, IntOp.muli, BitVec.toNat_mul, BitVec.toNat_ofNat]; omega
    · simp

theorem chk16_of_le (v : BitVec 32) (h : v.toNat ≤ 55) : k0_chk16 v := by
  refine ⟨?_, fun a => ?_⟩
  · unfold k0_mult82; simp only [Scalar.muli, IntOp.muli, BitVec.toNat_mul, BitVec.toNat_ofNat]; omega
  · unfold k0_off56; fin_cases a
    · simp [Scalar.indexCast, Scalar.muli, IntOp.muli, BitVec.toNat_mul, BitVec.toNat_ofNat]; omega
    · simp

theorem chk17_of_le (v : BitVec 32) (h : v.toNat ≤ 55) : k0_chk17 v := by
  refine ⟨?_, fun a => ?_⟩
  · unfold k0_mult83; simp only [Scalar.muli, IntOp.muli, BitVec.toNat_mul, BitVec.toNat_ofNat]; omega
  · unfold k0_off58; fin_cases a
    · simp [Scalar.indexCast, Scalar.muli, IntOp.muli, BitVec.toNat_mul, BitVec.toNat_ofNat]; omega
    · simp

theorem chk18_of_le (v : BitVec 32) (h : v.toNat ≤ 55) : k0_chk18 v := by
  refine ⟨?_, fun a => ?_⟩
  · unfold k0_mult84; simp only [Scalar.muli, IntOp.muli, BitVec.toNat_mul, BitVec.toNat_ofNat]; omega
  · unfold k0_off60; fin_cases a
    · simp [Scalar.indexCast, Scalar.muli, IntOp.muli, BitVec.toNat_mul, BitVec.toNat_ofNat]; omega
    · simp

theorem chk19_of_le (v : BitVec 32) (h : v.toNat ≤ 55) : k0_chk19 v := by
  refine ⟨?_, fun a => ?_⟩
  · unfold k0_mult85; simp only [Scalar.muli, IntOp.muli, BitVec.toNat_mul, BitVec.toNat_ofNat]; omega
  · unfold k0_off62; fin_cases a
    · simp [Scalar.indexCast, Scalar.muli, IntOp.muli, BitVec.toNat_mul, BitVec.toNat_ofNat]; omega
    · simp

theorem chk20_of_le (v : BitVec 32) (h : v.toNat ≤ 55) : k0_chk20 v := by
  refine ⟨?_, fun a => ?_⟩
  · unfold k0_mult86; simp only [Scalar.muli, IntOp.muli, BitVec.toNat_mul, BitVec.toNat_ofNat]; omega
  · unfold k0_off64; fin_cases a
    · simp [Scalar.indexCast, Scalar.muli, IntOp.muli, BitVec.toNat_mul, BitVec.toNat_ofNat]; omega
    · simp

theorem chk21_of_le (v : BitVec 32) (h : v.toNat ≤ 55) : k0_chk21 v := by
  refine ⟨?_, fun a => ?_⟩
  · unfold k0_mult87; simp only [Scalar.muli, IntOp.muli, BitVec.toNat_mul, BitVec.toNat_ofNat]; omega
  · unfold k0_off66; fin_cases a
    · simp [Scalar.indexCast, Scalar.muli, IntOp.muli, BitVec.toNat_mul, BitVec.toNat_ofNat]; omega
    · simp

theorem chk22_of_le (v : BitVec 32) (h : v.toNat ≤ 55) : k0_chk22 v := by
  refine ⟨?_, fun a => ?_⟩
  · unfold k0_mult88; simp only [Scalar.muli, IntOp.muli, BitVec.toNat_mul, BitVec.toNat_ofNat]; omega
  · unfold k0_off68; fin_cases a
    · simp [Scalar.indexCast, Scalar.muli, IntOp.muli, BitVec.toNat_mul, BitVec.toNat_ofNat]; omega
    · simp

theorem chk23_of_le (v : BitVec 32) (h : v.toNat ≤ 55) : k0_chk23 v := by
  refine ⟨?_, fun a => ?_⟩
  · unfold k0_mult89; simp only [Scalar.muli, IntOp.muli, BitVec.toNat_mul, BitVec.toNat_ofNat]; omega
  · unfold k0_off70; fin_cases a
    · simp [Scalar.indexCast, Scalar.muli, IntOp.muli, BitVec.toNat_mul, BitVec.toNat_ofNat]; omega
    · simp

theorem chk24_of_le (v : BitVec 32) (h : v.toNat ≤ 55) : k0_chk24 v := by
  refine ⟨?_, fun a => ?_⟩
  · unfold k0_mult90; simp only [Scalar.muli, IntOp.muli, BitVec.toNat_mul, BitVec.toNat_ofNat]; omega
  · unfold k0_off72; fin_cases a
    · simp [Scalar.indexCast, Scalar.muli, IntOp.muli, BitVec.toNat_mul, BitVec.toNat_ofNat]; omega
    · simp

theorem chk25_of_le (v : BitVec 32) (h : v.toNat ≤ 55) : k0_chk25 v := by
  refine ⟨?_, fun a => ?_⟩
  · unfold k0_mult91; simp only [Scalar.muli, IntOp.muli, BitVec.toNat_mul, BitVec.toNat_ofNat]; omega
  · unfold k0_off74; fin_cases a
    · simp [Scalar.indexCast, Scalar.muli, IntOp.muli, BitVec.toNat_mul, BitVec.toNat_ofNat]; omega
    · simp

theorem chk26_of_le (v : BitVec 32) (h : v.toNat ≤ 55) : k0_chk26 v := by
  refine ⟨?_, fun a => ?_⟩
  · unfold k0_mult92; simp only [Scalar.muli, IntOp.muli, BitVec.toNat_mul, BitVec.toNat_ofNat]; omega
  · unfold k0_off76; fin_cases a
    · simp [Scalar.indexCast, Scalar.muli, IntOp.muli, BitVec.toNat_mul, BitVec.toNat_ofNat]; omega
    · simp

theorem chk27_of_le (v : BitVec 32) (h : v.toNat ≤ 55) : k0_chk27 v := by
  refine ⟨?_, fun a => ?_⟩
  · unfold k0_mult93; simp only [Scalar.muli, IntOp.muli, BitVec.toNat_mul, BitVec.toNat_ofNat]; omega
  · unfold k0_off78; fin_cases a
    · simp [Scalar.indexCast, Scalar.muli, IntOp.muli, BitVec.toNat_mul, BitVec.toNat_ofNat]; omega
    · simp

theorem chk28_of_le (v : BitVec 32) (h : v.toNat ≤ 55) : k0_chk28 v := by
  refine ⟨?_, fun a => ?_⟩
  · unfold k0_mult94; simp only [Scalar.muli, IntOp.muli, BitVec.toNat_mul, BitVec.toNat_ofNat]; omega
  · unfold k0_off80; fin_cases a
    · simp [Scalar.indexCast, Scalar.muli, IntOp.muli, BitVec.toNat_mul, BitVec.toNat_ofNat]; omega
    · simp

theorem chk29_of_le (v : BitVec 32) (h : v.toNat ≤ 55) : k0_chk29 v := by
  refine ⟨?_, fun a => ?_⟩
  · unfold k0_mult95; simp only [Scalar.muli, IntOp.muli, BitVec.toNat_mul, BitVec.toNat_ofNat]; omega
  · unfold k0_off82; fin_cases a
    · simp [Scalar.indexCast, Scalar.muli, IntOp.muli, BitVec.toNat_mul, BitVec.toNat_ofNat]; omega
    · simp

theorem chk30_of_le (v : BitVec 32) (h : v.toNat ≤ 55) : k0_chk30 v := by
  refine ⟨?_, fun a => ?_⟩
  · unfold k0_mult96; simp only [Scalar.muli, IntOp.muli, BitVec.toNat_mul, BitVec.toNat_ofNat]; omega
  · unfold k0_off84; fin_cases a
    · simp [Scalar.indexCast, Scalar.muli, IntOp.muli, BitVec.toNat_mul, BitVec.toNat_ofNat]; omega
    · simp

theorem chk31_of_le (v : BitVec 32) (h : v.toNat ≤ 55) : k0_chk31 v := by
  refine ⟨?_, fun a => ?_⟩
  · unfold k0_mult97; simp only [Scalar.muli, IntOp.muli, BitVec.toNat_mul, BitVec.toNat_ofNat]; omega
  · unfold k0_off86; fin_cases a
    · simp [Scalar.indexCast, Scalar.muli, IntOp.muli, BitVec.toNat_mul, BitVec.toNat_ofNat]; omega
    · simp

theorem chk32_of_le (v : BitVec 32) (h : v.toNat ≤ 55) : k0_chk32 v := by
  refine ⟨?_, fun a => ?_⟩
  · unfold k0_mult98; simp only [Scalar.muli, IntOp.muli, BitVec.toNat_mul, BitVec.toNat_ofNat]; omega
  · unfold k0_off88; fin_cases a
    · simp [Scalar.indexCast, Scalar.muli, IntOp.muli, BitVec.toNat_mul, BitVec.toNat_ofNat]; omega
    · simp

/-- Every side condition the body assumes of the words it reads holds. -/
theorem hyps_of_le (hw : ∀ w, (m (((0 : Dev nD) : Thread nD τ).loc main_arg0) w).toNat ≤ 55) (hO : Ok m) : Hyps m hO :=
  Hyps.of
    (fun c t => chk1_of_le _ (word_read m hw _ _))
    (fun c t => chk2_of_le _ (word_read m hw _ _))
    (fun c t => chk3_of_le _ (word_read m hw _ _))
    (fun c t => chk4_of_le _ (word_read m hw _ _))
    (fun c t => chk5_of_le _ (word_read m hw _ _))
    (fun c t => chk6_of_le _ (word_read m hw _ _))
    (fun c t => chk7_of_le _ (word_read m hw _ _))
    (fun c t => chk8_of_le _ (word_read m hw _ _))
    (fun c t => chk9_of_le _ (word_read m hw _ _))
    (fun c t => chk10_of_le _ (word_read m hw _ _))
    (fun c t => chk11_of_le _ (word_read m hw _ _))
    (fun c t => chk12_of_le _ (word_read m hw _ _))
    (fun c t => chk13_of_le _ (word_read m hw _ _))
    (fun c t => chk14_of_le _ (word_read m hw _ _))
    (fun c t => chk15_of_le _ (word_read m hw _ _))
    (fun c t => chk16_of_le _ (word_read m hw _ _))
    (fun c t => chk17_of_le _ (word_read m hw _ _))
    (fun c t => chk18_of_le _ (word_read m hw _ _))
    (fun c t => chk19_of_le _ (word_read m hw _ _))
    (fun c t => chk20_of_le _ (word_read m hw _ _))
    (fun c t => chk21_of_le _ (word_read m hw _ _))
    (fun c t => chk22_of_le _ (word_read m hw _ _))
    (fun c t => chk23_of_le _ (word_read m hw _ _))
    (fun c t => chk24_of_le _ (word_read m hw _ _))
    (fun c t => chk25_of_le _ (word_read m hw _ _))
    (fun c t => chk26_of_le _ (word_read m hw _ _))
    (fun c t => chk27_of_le _ (word_read m hw _ _))
    (fun c t => chk28_of_le _ (word_read m hw _ _))
    (fun c t => chk29_of_le _ (word_read m hw _ _))
    (fun c t => chk30_of_le _ (word_read m hw _ _))
    (fun c t => chk31_of_le _ (word_read m hw _ _))
    (fun c t => chk32_of_le _ (word_read m hw _ _))

/-- The precondition gives the side conditions. -/
theorem hyps_of_pre (m : (ℓ : Loc nD τ sig) → Buf (Elt Ideal) ℓ) (h : Cert.Pre_KernelIdeal m) (hO : Ok m) : Hyps m hO :=
  hyps_of_le m (fun w => word_named _ _ _ _ _ _ (h 0) w) hO

end Cert.KernelIdeal.Gen

end
-- ==== Proof.Value.Tile.lean ====
/- One tile of unpacked weights, read at an element: a signed four-bit field of a packed word times a scale. -/
module

public import proofs.«01_k».proof.Proof.Gen.KernelIdeal.Skeleton
public import Idealize.ShloMosaic.Lib.BitcastPair
public import Idealize.ShloMosaic.Lib.Pointwise

@[expose] public section

set_option maxRecDepth 16384

noncomputable section

namespace Cert.KernelIdeal.Val

open Idealize.ShloMosaic Idealize.ShloMosaic.TcCoe
open Cert.KernelIdeal.Gen

/-- Field `j` (four bits, the lowest first) of a packed word. -/
def nib (w : BitVec 32) (j : ℕ) : BitVec 32 := (w >>> (4 * j)) &&& 15#32

/-- The signed value of a four-bit field, as a real. -/
def sval (f : BitVec 32) : EReal := (((if f.toNat < 8 then (f.toNat : ℤ) else (f.toNat : ℤ) - 16) : ℤ) : ℝ)

theorem nib_lt (w : BitVec 32) (j : ℕ) : (nib w j).toNat < 16 := by
  unfold nib
  rw [BitVec.toNat_and]
  exact Nat.lt_of_le_of_lt Nat.and_le_right (by decide)

/-- A field of a word, put under the bits of 136 with its top bit inverted, is 136 more than its signed value. -/
theorem ofBits_field (n : Fin 16) :
    Ideal.ofBits .bf16 (0x4308#16 ^^^ BitVec.ofNat 16 n.val) - Ideal.ofBits .bf16 0x4308#16
      = sval (BitVec.ofNat 32 n.val) := by
  fin_cases n <;> simp [Ideal.ofBits, Ideal.ieee, sval, -EReal.coe_mul] <;> norm_cast <;> norm_num

/-- The lower half of a pair of fields. -/
theorem pair_lo (w : BitVec 32) :
    BitVec.extractLsb' 0 16 (((w &&& 15#32) ||| ((w &&& 240#32) <<< 12)) ^^^ 1124614920#32)
      = 0x4308#16 ^^^ BitVec.ofNat 16 (nib w 0).toNat := by
  apply BitVec.eq_of_getLsbD_eq
  intro i hi
  simp only [nib, BitVec.ofNat_toNat]
  interval_cases i <;> simp

/-- The upper half of a pair of fields. -/
theorem pair_hi (w : BitVec 32) :
    BitVec.extractLsb' 16 16 (((w &&& 15#32) ||| ((w &&& 240#32) <<< 12)) ^^^ 1124614920#32)
      = 0x4308#16 ^^^ BitVec.ofNat 16 (nib w 1).toNat := by
  apply BitVec.eq_of_getLsbD_eq
  intro i hi
  simp only [nib, BitVec.ofNat_toNat]
  interval_cases i <;> simp

/-- A field of a shifted word is a field of the word. -/
theorem nib_shift (w : BitVec 32) (a b : ℕ) : nib (w >>> (8 * a)) b = nib w (2 * a + b) := by
  unfold nib
  rw [← BitVec.shiftRight_add]
  congr 2
  omega

theorem ofBits_nib (w : BitVec 32) (j : ℕ) :
    Ideal.ofBits .bf16 (0x4308#16 ^^^ BitVec.ofNat 16 (nib w j).toNat) - Ideal.ofBits .bf16 0x4308#16 = sval (nib w j) := by
  have h := ofBits_field ⟨(nib w j).toNat, nib_lt w j⟩
  simpa only [BitVec.ofNat_toNat, BitVec.setWidth_eq] using h

/-- The value that a pair's half `h` of a shifted word denotes, less 136, is that field's signed value. -/
theorem field_val (w : BitVec 32) (a : ℕ) (h : Fin 2) :
    Ideal.ofBits .bf16 (BitVec.extractLsb' (16 * h.val) 16
        ((((w >>> (8 * a)) &&& 15#32) ||| (((w >>> (8 * a)) &&& 240#32) <<< 12)) ^^^ 1124614920#32))
      - Ideal.ofBits .bf16 0x4308#16 = sval (nib w (2 * a + h.val)) := by
  rw [← nib_shift]
  fin_cases h
  · exact (congrArg (fun b => Ideal.ofBits .bf16 b - Ideal.ofBits .bf16 0x4308#16) (pair_lo _)).trans (ofBits_nib _ _)
  · exact (congrArg (fun b => Ideal.ofBits .bf16 b - Ideal.ofBits .bf16 0x4308#16) (pair_hi _)).trans (ofBits_nib _ _)

/-- One tile of sixteen rows, unpacked from two rows of packed words and a row of scale words. -/
def dq (lo hi : IVec S1x128 32) (s : IVec S1x1x128 32) : FVec Ideal S16x128 .bf16 :=
  have sub : IVec S8x128 32 := iota .tc S8x128 32 [0] iota_S8x128_d0_w32
  have v996 : IVec S1x128 32 := shapeCast S1x128 lo shapeCasts_S1x128_S1x128
  have v997 : IVec S8x128 32 := broadcastTo S8x128 v996 broadcasts_S1x128_S8x128
  have v999 : IVec S1x128 32 := shapeCast S1x128 hi shapeCasts_S1x128_S1x128
  have v1000 : IVec S8x128 32 := broadcastTo S8x128 v999 broadcasts_S1x128_S8x128
  have v1001 : IVec S8x128 32 := broadcast S8x128 4#32
  have v1002 : IVec S8x128 1 := cmpi .slt sub v1001
  have v1003 : IVec S8x128 32 := select v1002 v997 v1000
  have v1004 : IVec S8x128 32 := shrui v1003 k0_pay2
  have v1006 : IVec S8x128 32 := andi v1004 (broadcast S8x128 15#32)
  have v1008 : IVec S8x128 32 := andi v1004 (broadcast S8x128 240#32)
  have v1010 : IVec S8x128 32 := shli v1008 (broadcast S8x128 12#32)
  have v1011 : IVec S8x128 32 := ori v1006 v1010
  have v1013 : IVec S8x128 32 := xori v1011 (broadcast S8x128 1124614920#32)
  have v1014 : FVec Ideal S16x128 .bf16 := bitcastToFloat .bf16 (bitcast S16x128 16 v1013 bitcasts_S8x128_w32_S16x128_w16)
  have v1016 : FVec Ideal S16x128 .bf16 := subf v1014 (broadcast S16x128 (Scalar.ofBits .bf16 0x4308#16))
  mulf v1016 (k0_pay3 s)

theorem srcIdx_eq (r : Fin 16) (l : Fin 128) (hp) :
    bitcasts_S8x128_w32_S16x128_w16.srcIdx (ix2 r l) (r.val / 2) hp = ix2 (⟨r.val / 2, by omega⟩ : Fin 8) l := by
  funext a
  fin_cases a
  · exact Fin.ext (Shape.Bitcasts.srcIdx_row _ _ _ _ _ rfl)
  · exact Fin.ext (Shape.Bitcasts.srcIdx_other _ _ _ _ _ (by decide))

theorem bitcast_at (x : IVec S8x128 32) (r : Fin 16) (l : Fin 128) :
    bitcast S16x128 16 x bitcasts_S8x128_w32_S16x128_w16 (ix2 r l)
      = (x (ix2 (⟨r.val / 2, by omega⟩ : Fin 8) l)).extractLsb' (16 * (r.val % 2)) 16 := by
  rw [bitcast_32_16]
  have e : Shape.row S16x128 (ix2 r l) = r.val := rfl
  rw [Shape.Bitcasts.srcIdx_congr _ _ (congrArg (· / 2) e) _ (fun a ha => by
      have := bitcasts_S8x128_w32_S16x128_w16.pos_lt (ix2 r l) 0 (by decide) a ha; rw [e] at this; omega), srcIdx_eq, e]

theorem dq_apply (lo hi : IVec S1x128 32) (s : IVec S1x1x128 32) (r : Fin 16) (l : Fin 128) :
    dq lo hi s (ix2 r l)
      = sval (nib (if r.val < 8 then lo (ix2 0 l) else hi (ix2 0 l)) (r.val % 8))
        * Ideal.ofBits .bf16 ((s (ix3 0 0 l)).extractLsb' (16 * (r.val % 2)) 16) := by
  pointwise [dq, k0_pay2, k0_pay3, bitcastToFloat]
  rw [bitcast_at, bitcast_at]
  pointwise
  congr 1
  fin_cases r
  · exact field_val (lo (ix2 0 l)) 0 0
  · exact field_val (lo (ix2 0 l)) 0 1
  · exact field_val (lo (ix2 0 l)) 1 0
  · exact field_val (lo (ix2 0 l)) 1 1
  · exact field_val (lo (ix2 0 l)) 2 0
  · exact field_val (lo (ix2 0 l)) 2 1
  · exact field_val (lo (ix2 0 l)) 3 0
  · exact field_val (lo (ix2 0 l)) 3 1
  · exact field_val (hi (ix2 0 l)) 0 0
  · exact field_val (hi (ix2 0 l)) 0 1
  · exact field_val (hi (ix2 0 l)) 1 0
  · exact field_val (hi (ix2 0 l)) 1 1
  · exact field_val (hi (ix2 0 l)) 2 0
  · exact field_val (hi (ix2 0 l)) 2 1
  · exact field_val (hi (ix2 0 l)) 3 0
  · exact field_val (hi (ix2 0 l)) 3 1

end Cert.KernelIdeal.Val

end
-- ==== Proof.Value.Trip.lean ====
/- What one trip of the unpacking loop stores. -/
module

public import proofs.«01_k».proof.Proof.Gen.KernelIdeal.Loops
public import proofs.«01_k».proof.Proof.Value.Tile

@[expose] public section

set_option maxRecDepth 16384

noncomputable section

namespace Cert.KernelIdeal.Val

open Idealize.ShloMosaic Idealize.ShloMosaic.TcCoe Idealize.ShloMosaic.Tactic
open Cert.KernelIdeal.Gen

/-- The unpacked weight at row `a`, column `b` of a column tile, from the tile's packed words and scale words. -/
def wAt (Xw : IVec S640x1024 32) (Xs : IVec S8x40x128 32) (a : Fin 5120) (b : Fin 1024) : EReal :=
  sval (nib (Xw (ix2 (⟨a.val / 8, by omega⟩ : Fin 640) b)) (a.val % 8))
    * Ideal.ofBits .bf16 ((Xs (ix3 (⟨b.val / 128, by omega⟩ : Fin 8) (⟨a.val / 128, by omega⟩ : Fin 40)
        (⟨b.val % 128, Nat.mod_lt _ (by decide)⟩ : Fin 128))).extractLsb' (16 * (a.val % 2)) 16)

/-- The unpacked weights of a column tile. -/
def wval (Xw : IVec S640x1024 32) (Xs : IVec S8x40x128 32) : Vec Ideal S5120x1024 .bf16 := fun y => wAt Xw Xs (y 0) (y 1)

theorem wval_apply (Xw : IVec S640x1024 32) (Xs : IVec S8x40x128 32) (a : Fin 5120) (b : Fin 1024) :
    wval Xw Xs (ix2 a b) = wAt Xw Xs a b := rfl

theorem emb_tile (o p : ℕ) (inb : ∀ a, (![o, p] : Fin 2 → ℕ) a + S16x128.size a ≤ S5120x1024.size a) (r : Fin 16) (l : Fin 128) :
    (Rect.unit (s := S5120x1024) ![o, p] S16x128.size inb).emb (ix2 r l)
      = ix2 (⟨o + r.val, by have : o + 16 ≤ 5120 := inb 0; omega⟩ : Fin 5120) (⟨p + l.val, by have : p + 128 ≤ 1024 := inb 1; omega⟩ : Fin 1024) := by
  funext a
  fin_cases a
  · exact Fin.ext (congrArg (o + ·) (Nat.one_mul _))
  · exact Fin.ext (congrArg (p + ·) (Nat.one_mul _))

/-- The unpacked weight at row `r` of tile `v` of half `h` of trip `k`, in chunk `c` of 128 columns. -/
theorem wAt_tile (Xw : IVec S640x1024 32) (Xs : IVec S8x40x128 32) (k h c v : ℕ) (hk : k < 40) (hh : h < 2) (hc : c < 8)
    (hv : v < 4) (r : Fin 16) (l : Fin 128) (pa : 128 * k + 64 * h + 16 * v + r.val < 5120) (pb : 128 * c + l.val < 1024) :
    wAt Xw Xs ⟨128 * k + 64 * h + 16 * v + r.val, pa⟩ ⟨128 * c + l.val, pb⟩
      = sval (nib (if r.val < 8 then Xw (ix2 (⟨16 * k + 8 * h + 2 * v, by omega⟩ : Fin 640) (⟨128 * c + l.val, pb⟩ : Fin 1024))
            else Xw (ix2 (⟨16 * k + 8 * h + (2 * v + 1), by omega⟩ : Fin 640) (⟨128 * c + l.val, pb⟩ : Fin 1024))) (r.val % 8))
        * Ideal.ofBits .bf16 ((Xs (ix3 (⟨c, hc⟩ : Fin 8) (⟨k, hk⟩ : Fin 40) l)).extractLsb' (16 * (r.val % 2)) 16) := by
  have hr := r.isLt
  have hl := l.isLt
  have e2 : (128 * k + 64 * h + 16 * v + r.val) % 2 = r.val % 2 := by omega
  have e8 : (128 * k + 64 * h + 16 * v + r.val) % 8 = r.val % 8 := by omega
  have eS : (128 * k + 64 * h + 16 * v + r.val) / 128 = k := by omega
  have eC : (128 * c + l.val) / 128 = c := by omega
  have eL : (128 * c + l.val) % 128 = l.val := by omega
  unfold wAt
  dsimp only
  simp only [e2, e8, eS, eC, eL]
  congr 2
  by_cases h8 : r.val < 8
  · have e : (128 * k + 64 * h + 16 * v + r.val) / 8 = 16 * k + 8 * h + 2 * v := by omega
    simp only [e, if_pos h8]
  · have e : (128 * k + 64 * h + 16 * v + r.val) / 8 = 16 * k + 8 * h + (2 * v + 1) := by omega
    simp only [e, if_neg h8]

/-- Tile 0 of eight rows of packed words is what `wval` says of its sixteen rows. -/
theorem tile0 (Xw : IVec S640x1024 32) (Xs : IVec S8x40x128 32) (k h c : ℕ) (hk : k < 40) (hh : h < 2) (hc : c < 8)
    {offW : Fin 2 → ℕ} {offS : Fin 3 → ℕ} {offT : Fin 2 → ℕ} (hW : offW = ![16 * k + 8 * h, 128 * c])
    (hS : offS = ![c, k, 0]) (hT : offT = ![128 * k + 64 * h + 16 * 0, 128 * c])
    {inbW : ∀ a, offW a + S8x128.size a ≤ S640x1024.size a} {inbS : ∀ a, offS a + S1x1x128.size a ≤ S8x40x128.size a}
    {inbT : ∀ a, offT a + S16x128.size a ≤ S5120x1024.size a} :
    ∀ x : S16x128.Idx,
      shapeCast S16x128 (dq
          (extractStridedSlice (s := S8x128) S1x128 ![0, 0] (View.ld (Val := Elt Ideal) (e' := .i32) Xw (Rect.unit (s := S640x1024) offW S8x128.size inbW) : IVec S8x128 32) slices_S8x128_o0_0_S1x128)
          (extractStridedSlice (s := S8x128) S1x128 ![1, 0] (View.ld (Val := Elt Ideal) (e' := .i32) Xw (Rect.unit (s := S640x1024) offW S8x128.size inbW) : IVec S8x128 32) slices_S8x128_o1_0_S1x128)
          (View.ld (Val := Elt Ideal) (e' := .i32) Xs (Rect.unit (s := S8x40x128) offS S1x1x128.size inbS) : IVec S1x1x128 32)) shapeCasts_S16x128_S16x128 x
        = wval Xw Xs ((Rect.unit (s := S5120x1024) offT S16x128.size inbT).emb x) := by
  subst hW hS hT
  intro x
  obtain ⟨r, l, rfl⟩ : ∃ (r : Fin 16) (l : Fin 128), x = ix2 r l := ⟨x 0, x 1, eq_ix2 x⟩
  rw [emb_tile, wval_apply, wAt_tile Xw Xs k h c 0 hk hh hc (by decide) r l]
  pointwise
  rw [dq_apply]
  pointwise
  done

/-- Tile 1 of eight rows of packed words is what `wval` says of its sixteen rows. -/
theorem tile1 (Xw : IVec S640x1024 32) (Xs : IVec S8x40x128 32) (k h c : ℕ) (hk : k < 40) (hh : h < 2) (hc : c < 8)
    {offW : Fin 2 → ℕ} {offS : Fin 3 → ℕ} {offT : Fin 2 → ℕ} (hW : offW = ![16 * k + 8 * h, 128 * c])
    (hS : offS = ![c, k, 0]) (hT : offT = ![128 * k + 64 * h + 16 * 1, 128 * c])
    {inbW : ∀ a, offW a + S8x128.size a ≤ S640x1024.size a} {inbS : ∀ a, offS a + S1x1x128.size a ≤ S8x40x128.size a}
    {inbT : ∀ a, offT a + S16x128.size a ≤ S5120x1024.size a} :
    ∀ x : S16x128.Idx,
      shapeCast S16x128 (dq
          (extractStridedSlice (s := S8x128) S1x128 ![2, 0] (View.ld (Val := Elt Ideal) (e' := .i32) Xw (Rect.unit (s := S640x1024) offW S8x128.size inbW) : IVec S8x128 32) slices_S8x128_o2_0_S1x128)
          (extractStridedSlice (s := S8x128) S1x128 ![3, 0] (View.ld (Val := Elt Ideal) (e' := .i32) Xw (Rect.unit (s := S640x1024) offW S8x128.size inbW) : IVec S8x128 32) slices_S8x128_o3_0_S1x128)
          (View.ld (Val := Elt Ideal) (e' := .i32) Xs (Rect.unit (s := S8x40x128) offS S1x1x128.size inbS) : IVec S1x1x128 32)) shapeCasts_S16x128_S16x128 x
        = wval Xw Xs ((Rect.unit (s := S5120x1024) offT S16x128.size inbT).emb x) := by
  subst hW hS hT
  intro x
  obtain ⟨r, l, rfl⟩ : ∃ (r : Fin 16) (l : Fin 128), x = ix2 r l := ⟨x 0, x 1, eq_ix2 x⟩
  rw [emb_tile, wval_apply, wAt_tile Xw Xs k h c 1 hk hh hc (by decide) r l]
  pointwise
  rw [dq_apply]
  pointwise
  done

/-- Tile 2 of eight rows of packed words is what `wval` says of its sixteen rows. -/
theorem tile2 (Xw : IVec S640x1024 32) (Xs : IVec S8x40x128 32) (k h c : ℕ) (hk : k < 40) (hh : h < 2) (hc : c < 8)
    {offW : Fin 2 → ℕ} {offS : Fin 3 → ℕ} {offT : Fin 2 → ℕ} (hW : offW = ![16 * k + 8 * h, 128 * c])
    (hS : offS = ![c, k, 0]) (hT : offT = ![128 * k + 64 * h + 16 * 2, 128 * c])
    {inbW : ∀ a, offW a + S8x128.size a ≤ S640x1024.size a} {inbS : ∀ a, offS a + S1x1x128.size a ≤ S8x40x128.size a}
    {inbT : ∀ a, offT a + S16x128.size a ≤ S5120x1024.size a} :
    ∀ x : S16x128.Idx,
      shapeCast S16x128 (dq
          (extractStridedSlice (s := S8x128) S1x128 ![4, 0] (View.ld (Val := Elt Ideal) (e' := .i32) Xw (Rect.unit (s := S640x1024) offW S8x128.size inbW) : IVec S8x128 32) slices_S8x128_o4_0_S1x128)
          (extractStridedSlice (s := S8x128) S1x128 ![5, 0] (View.ld (Val := Elt Ideal) (e' := .i32) Xw (Rect.unit (s := S640x1024) offW S8x128.size inbW) : IVec S8x128 32) slices_S8x128_o5_0_S1x128)
          (View.ld (Val := Elt Ideal) (e' := .i32) Xs (Rect.unit (s := S8x40x128) offS S1x1x128.size inbS) : IVec S1x1x128 32)) shapeCasts_S16x128_S16x128 x
        = wval Xw Xs ((Rect.unit (s := S5120x1024) offT S16x128.size inbT).emb x) := by
  subst hW hS hT
  intro x
  obtain ⟨r, l, rfl⟩ : ∃ (r : Fin 16) (l : Fin 128), x = ix2 r l := ⟨x 0, x 1, eq_ix2 x⟩
  rw [emb_tile, wval_apply, wAt_tile Xw Xs k h c 2 hk hh hc (by decide) r l]
  pointwise
  rw [dq_apply]
  pointwise
  done

/-- Tile 3 of eight rows of packed words is what `wval` says of its sixteen rows. -/
theorem tile3 (Xw : IVec S640x1024 32) (Xs : IVec S8x40x128 32) (k h c : ℕ) (hk : k < 40) (hh : h < 2) (hc : c < 8)
    {offW : Fin 2 → ℕ} {offS : Fin 3 → ℕ} {offT : Fin 2 → ℕ} (hW : offW = ![16 * k + 8 * h, 128 * c])
    (hS : offS = ![c, k, 0]) (hT : offT = ![128 * k + 64 * h + 16 * 3, 128 * c])
    {inbW : ∀ a, offW a + S8x128.size a ≤ S640x1024.size a} {inbS : ∀ a, offS a + S1x1x128.size a ≤ S8x40x128.size a}
    {inbT : ∀ a, offT a + S16x128.size a ≤ S5120x1024.size a} :
    ∀ x : S16x128.Idx,
      shapeCast S16x128 (dq
          (extractStridedSlice (s := S8x128) S1x128 ![6, 0] (View.ld (Val := Elt Ideal) (e' := .i32) Xw (Rect.unit (s := S640x1024) offW S8x128.size inbW) : IVec S8x128 32) slices_S8x128_o6_0_S1x128)
          (extractStridedSlice (s := S8x128) S1x128 ![7, 0] (View.ld (Val := Elt Ideal) (e' := .i32) Xw (Rect.unit (s := S640x1024) offW S8x128.size inbW) : IVec S8x128 32) slices_S8x128_o7_0_S1x128)
          (View.ld (Val := Elt Ideal) (e' := .i32) Xs (Rect.unit (s := S8x40x128) offS S1x1x128.size inbS) : IVec S1x1x128 32)) shapeCasts_S16x128_S16x128 x
        = wval Xw Xs ((Rect.unit (s := S5120x1024) offT S16x128.size inbT).emb x) := by
  subst hW hS hT
  intro x
  obtain ⟨r, l, rfl⟩ : ∃ (r : Fin 16) (l : Fin 128), x = ix2 r l := ⟨x 0, x 1, eq_ix2 x⟩
  rw [emb_tile, wval_apply, wAt_tile Xw Xs k h c 3 hk hh hc (by decide) r l]
  pointwise
  rw [dq_apply]
  pointwise
  done

/-- Every piece that one trip stores holds the unpacked weights of its rectangle. -/
theorem trip_pieces (𝒱 : Variants) (c : Dev nD) (bd : Option 𝒱.V) (i : grid0.Coords) (arg2 : Memref sig .tc .smem S512 .i32) (harg2 : arg2.IsWhole) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (k0_h1 : k0_cond1 i = 1#1) (X_arg4 : BufTy.Contents (Elt Ideal) arg4.view.ty) (X_arg5 : BufTy.Contents (Elt Ideal) arg5.view.ty) (k : Fin k0_t1_loop.trips)  :
    ∀ p ∈ tripL_k0_t1 (F := Ideal) 𝒱 c bd i arg2 harg2 arg3 harg3 arg4 harg4 arg5 harg5 arg6 harg6 arg7 harg7 arg8 harg8 arg9 harg9 arg10 harg10 arg11 harg11 k0_h1 X_arg4 X_arg5 k, ∀ x : p.1.shape.Idx,
      p.2 x = wval (arg4.view.read (Elt Ideal) X_arg4) (arg5.view.read (Elt Ideal) X_arg5) (p.1.emb x) := by
  have hk : k.val < 40 := Nat.lt_of_lt_of_le k.isLt k0_t1_abs.2.1
  unfold tripL_k0_t1 trip_k0_t1
  dsimp only
  sl_unfold_run_names
  refine List.forall_mem_cons.2 ⟨tile3 (arg4.view.read (Elt Ideal) X_arg4) (arg5.view.read (Elt Ideal) X_arg5) k.val 1 7 hk (by decide) (by decide) (k0_off22_eq k 1) (k0_off23_eq k) (k0_off24_eq k 1 3) (inbT := k0_off24_inb i k k0_h1 1 3), ?_⟩
  refine List.forall_mem_cons.2 ⟨tile2 (arg4.view.read (Elt Ideal) X_arg4) (arg5.view.read (Elt Ideal) X_arg5) k.val 1 7 hk (by decide) (by decide) (k0_off22_eq k 1) (k0_off23_eq k) (k0_off24_eq k 1 2) (inbT := k0_off24_inb i k k0_h1 1 2), ?_⟩
  refine List.forall_mem_cons.2 ⟨tile1 (arg4.view.read (Elt Ideal) X_arg4) (arg5.view.read (Elt Ideal) X_arg5) k.val 1 7 hk (by decide) (by decide) (k0_off22_eq k 1) (k0_off23_eq k) (k0_off24_eq k 1 1) (inbT := k0_off24_inb i k k0_h1 1 1), ?_⟩
  refine List.forall_mem_cons.2 ⟨tile0 (arg4.view.read (Elt Ideal) X_arg4) (arg5.view.read (Elt Ideal) X_arg5) k.val 1 7 hk (by decide) (by decide) (k0_off22_eq k 1) (k0_off23_eq k) (k0_off24_eq k 1 0) (inbT := k0_off24_inb i k k0_h1 1 0), ?_⟩
  refine List.forall_mem_cons.2 ⟨tile3 (arg4.view.read (Elt Ideal) X_arg4) (arg5.view.read (Elt Ideal) X_arg5) k.val 1 6 hk (by decide) (by decide) (k0_off19_eq k 1) (k0_off20_eq k) (k0_off21_eq k 1 3) (inbT := k0_off21_inb i k k0_h1 1 3), ?_⟩
  refine List.forall_mem_cons.2 ⟨tile2 (arg4.view.read (Elt Ideal) X_arg4) (arg5.view.read (Elt Ideal) X_arg5) k.val 1 6 hk (by decide) (by decide) (k0_off19_eq k 1) (k0_off20_eq k) (k0_off21_eq k 1 2) (inbT := k0_off21_inb i k k0_h1 1 2), ?_⟩
  refine List.forall_mem_cons.2 ⟨tile1 (arg4.view.read (Elt Ideal) X_arg4) (arg5.view.read (Elt Ideal) X_arg5) k.val 1 6 hk (by decide) (by decide) (k0_off19_eq k 1) (k0_off20_eq k) (k0_off21_eq k 1 1) (inbT := k0_off21_inb i k k0_h1 1 1), ?_⟩
  refine List.forall_mem_cons.2 ⟨tile0 (arg4.view.read (Elt Ideal) X_arg4) (arg5.view.read (Elt Ideal) X_arg5) k.val 1 6 hk (by decide) (by decide) (k0_off19_eq k 1) (k0_off20_eq k) (k0_off21_eq k 1 0) (inbT := k0_off21_inb i k k0_h1 1 0), ?_⟩
  refine List.forall_mem_cons.2 ⟨tile3 (arg4.view.read (Elt Ideal) X_arg4) (arg5.view.read (Elt Ideal) X_arg5) k.val 1 5 hk (by decide) (by decide) (k0_off16_eq k 1) (k0_off17_eq k) (k0_off18_eq k 1 3) (inbT := k0_off18_inb i k k0_h1 1 3), ?_⟩
  refine List.forall_mem_cons.2 ⟨tile2 (arg4.view.read (Elt Ideal) X_arg4) (arg5.view.read (Elt Ideal) X_arg5) k.val 1 5 hk (by decide) (by decide) (k0_off16_eq k 1) (k0_off17_eq k) (k0_off18_eq k 1 2) (inbT := k0_off18_inb i k k0_h1 1 2), ?_⟩
  refine List.forall_mem_cons.2 ⟨tile1 (arg4.view.read (Elt Ideal) X_arg4) (arg5.view.read (Elt Ideal) X_arg5) k.val 1 5 hk (by decide) (by decide) (k0_off16_eq k 1) (k0_off17_eq k) (k0_off18_eq k 1 1) (inbT := k0_off18_inb i k k0_h1 1 1), ?_⟩
  refine List.forall_mem_cons.2 ⟨tile0 (arg4.view.read (Elt Ideal) X_arg4) (arg5.view.read (Elt Ideal) X_arg5) k.val 1 5 hk (by decide) (by decide) (k0_off16_eq k 1) (k0_off17_eq k) (k0_off18_eq k 1 0) (inbT := k0_off18_inb i k k0_h1 1 0), ?_⟩
  refine List.forall_mem_cons.2 ⟨tile3 (arg4.view.read (Elt Ideal) X_arg4) (arg5.view.read (Elt Ideal) X_arg5) k.val 1 4 hk (by decide) (by decide) (k0_off13_eq k 1) (k0_off14_eq k) (k0_off15_eq k 1 3) (inbT := k0_off15_inb i k k0_h1 1 3), ?_⟩
  refine List.forall_mem_cons.2 ⟨tile2 (arg4.view.read (Elt Ideal) X_arg4) (arg5.view.read (Elt Ideal) X_arg5) k.val 1 4 hk (by decide) (by decide) (k0_off13_eq k 1) (k0_off14_eq k) (k0_off15_eq k 1 2) (inbT := k0_off15_inb i k k0_h1 1 2), ?_⟩
  refine List.forall_mem_cons.2 ⟨tile1 (arg4.view.read (Elt Ideal) X_arg4) (arg5.view.read (Elt Ideal) X_arg5) k.val 1 4 hk (by decide) (by decide) (k0_off13_eq k 1) (k0_off14_eq k) (k0_off15_eq k 1 1) (inbT := k0_off15_inb i k k0_h1 1 1), ?_⟩
  refine List.forall_mem_cons.2 ⟨tile0 (arg4.view.read (Elt Ideal) X_arg4) (arg5.view.read (Elt Ideal) X_arg5) k.val 1 4 hk (by decide) (by decide) (k0_off13_eq k 1) (k0_off14_eq k) (k0_off15_eq k 1 0) (inbT := k0_off15_inb i k k0_h1 1 0), ?_⟩
  refine List.forall_mem_cons.2 ⟨tile3 (arg4.view.read (Elt Ideal) X_arg4) (arg5.view.read (Elt Ideal) X_arg5) k.val 1 3 hk (by decide) (by decide) (k0_off10_eq k 1) (k0_off11_eq k) (k0_off12_eq k 1 3) (inbT := k0_off12_inb i k k0_h1 1 3), ?_⟩
  refine List.forall_mem_cons.2 ⟨tile2 (arg4.view.read (Elt Ideal) X_arg4) (arg5.view.read (Elt Ideal) X_arg5) k.val 1 3 hk (by decide) (by decide) (k0_off10_eq k 1) (k0_off11_eq k) (k0_off12_eq k 1 2) (inbT := k0_off12_inb i k k0_h1 1 2), ?_⟩
  refine List.forall_mem_cons.2 ⟨tile1 (arg4.view.read (Elt Ideal) X_arg4) (arg5.view.read (Elt Ideal) X_arg5) k.val 1 3 hk (by decide) (by decide) (k0_off10_eq k 1) (k0_off11_eq k) (k0_off12_eq k 1 1) (inbT := k0_off12_inb i k k0_h1 1 1), ?_⟩
  refine List.forall_mem_cons.2 ⟨tile0 (arg4.view.read (Elt Ideal) X_arg4) (arg5.view.read (Elt Ideal) X_arg5) k.val 1 3 hk (by decide) (by decide) (k0_off10_eq k 1) (k0_off11_eq k) (k0_off12_eq k 1 0) (inbT := k0_off12_inb i k k0_h1 1 0), ?_⟩
  refine List.forall_mem_cons.2 ⟨tile3 (arg4.view.read (Elt Ideal) X_arg4) (arg5.view.read (Elt Ideal) X_arg5) k.val 1 2 hk (by decide) (by decide) (k0_off7_eq k 1) (k0_off8_eq k) (k0_off9_eq k 1 3) (inbT := k0_off9_inb i k k0_h1 1 3), ?_⟩
  refine List.forall_mem_cons.2 ⟨tile2 (arg4.view.read (Elt Ideal) X_arg4) (arg5.view.read (Elt Ideal) X_arg5) k.val 1 2 hk (by decide) (by decide) (k0_off7_eq k 1) (k0_off8_eq k) (k0_off9_eq k 1 2) (inbT := k0_off9_inb i k k0_h1 1 2), ?_⟩
  refine List.forall_mem_cons.2 ⟨tile1 (arg4.view.read (Elt Ideal) X_arg4) (arg5.view.read (Elt Ideal) X_arg5) k.val 1 2 hk (by decide) (by decide) (k0_off7_eq k 1) (k0_off8_eq k) (k0_off9_eq k 1 1) (inbT := k0_off9_inb i k k0_h1 1 1), ?_⟩
  refine List.forall_mem_cons.2 ⟨tile0 (arg4.view.read (Elt Ideal) X_arg4) (arg5.view.read (Elt Ideal) X_arg5) k.val 1 2 hk (by decide) (by decide) (k0_off7_eq k 1) (k0_off8_eq k) (k0_off9_eq k 1 0) (inbT := k0_off9_inb i k k0_h1 1 0), ?_⟩
  refine List.forall_mem_cons.2 ⟨tile3 (arg4.view.read (Elt Ideal) X_arg4) (arg5.view.read (Elt Ideal) X_arg5) k.val 1 1 hk (by decide) (by decide) (k0_off4_eq k 1) (k0_off5_eq k) (k0_off6_eq k 1 3) (inbT := k0_off6_inb i k k0_h1 1 3), ?_⟩
  refine List.forall_mem_cons.2 ⟨tile2 (arg4.view.read (Elt Ideal) X_arg4) (arg5.view.read (Elt Ideal) X_arg5) k.val 1 1 hk (by decide) (by decide) (k0_off4_eq k 1) (k0_off5_eq k) (k0_off6_eq k 1 2) (inbT := k0_off6_inb i k k0_h1 1 2), ?_⟩
  refine List.forall_mem_cons.2 ⟨tile1 (arg4.view.read (Elt Ideal) X_arg4) (arg5.view.read (Elt Ideal) X_arg5) k.val 1 1 hk (by decide) (by decide) (k0_off4_eq k 1) (k0_off5_eq k) (k0_off6_eq k 1 1) (inbT := k0_off6_inb i k k0_h1 1 1), ?_⟩
  refine List.forall_mem_cons.2 ⟨tile0 (arg4.view.read (Elt Ideal) X_arg4) (arg5.view.read (Elt Ideal) X_arg5) k.val 1 1 hk (by decide) (by decide) (k0_off4_eq k 1) (k0_off5_eq k) (k0_off6_eq k 1 0) (inbT := k0_off6_inb i k k0_h1 1 0), ?_⟩
  refine List.forall_mem_cons.2 ⟨tile3 (arg4.view.read (Elt Ideal) X_arg4) (arg5.view.read (Elt Ideal) X_arg5) k.val 1 0 hk (by decide) (by decide) (k0_off1_eq k 1) (k0_off2_eq k) (k0_off3_eq k 1 3) (inbT := k0_off3_inb i k k0_h1 1 3), ?_⟩
  refine List.forall_mem_cons.2 ⟨tile2 (arg4.view.read (Elt Ideal) X_arg4) (arg5.view.read (Elt Ideal) X_arg5) k.val 1 0 hk (by decide) (by decide) (k0_off1_eq k 1) (k0_off2_eq k) (k0_off3_eq k 1 2) (inbT := k0_off3_inb i k k0_h1 1 2), ?_⟩
  refine List.forall_mem_cons.2 ⟨tile1 (arg4.view.read (Elt Ideal) X_arg4) (arg5.view.read (Elt Ideal) X_arg5) k.val 1 0 hk (by decide) (by decide) (k0_off1_eq k 1) (k0_off2_eq k) (k0_off3_eq k 1 1) (inbT := k0_off3_inb i k k0_h1 1 1), ?_⟩
  refine List.forall_mem_cons.2 ⟨tile0 (arg4.view.read (Elt Ideal) X_arg4) (arg5.view.read (Elt Ideal) X_arg5) k.val 1 0 hk (by decide) (by decide) (k0_off1_eq k 1) (k0_off2_eq k) (k0_off3_eq k 1 0) (inbT := k0_off3_inb i k k0_h1 1 0), ?_⟩
  refine List.forall_mem_cons.2 ⟨tile3 (arg4.view.read (Elt Ideal) X_arg4) (arg5.view.read (Elt Ideal) X_arg5) k.val 0 7 hk (by decide) (by decide) (k0_off22_eq k 0) (k0_off23_eq k) (k0_off24_eq k 0 3) (inbT := k0_off24_inb i k k0_h1 0 3), ?_⟩
  refine List.forall_mem_cons.2 ⟨tile2 (arg4.view.read (Elt Ideal) X_arg4) (arg5.view.read (Elt Ideal) X_arg5) k.val 0 7 hk (by decide) (by decide) (k0_off22_eq k 0) (k0_off23_eq k) (k0_off24_eq k 0 2) (inbT := k0_off24_inb i k k0_h1 0 2), ?_⟩
  refine List.forall_mem_cons.2 ⟨tile1 (arg4.view.read (Elt Ideal) X_arg4) (arg5.view.read (Elt Ideal) X_arg5) k.val 0 7 hk (by decide) (by decide) (k0_off22_eq k 0) (k0_off23_eq k) (k0_off24_eq k 0 1) (inbT := k0_off24_inb i k k0_h1 0 1), ?_⟩
  refine List.forall_mem_cons.2 ⟨tile0 (arg4.view.read (Elt Ideal) X_arg4) (arg5.view.read (Elt Ideal) X_arg5) k.val 0 7 hk (by decide) (by decide) (k0_off22_eq k 0) (k0_off23_eq k) (k0_off24_eq k 0 0) (inbT := k0_off24_inb i k k0_h1 0 0), ?_⟩
  refine List.forall_mem_cons.2 ⟨tile3 (arg4.view.read (Elt Ideal) X_arg4) (arg5.view.read (Elt Ideal) X_arg5) k.val 0 6 hk (by decide) (by decide) (k0_off19_eq k 0) (k0_off20_eq k) (k0_off21_eq k 0 3) (inbT := k0_off21_inb i k k0_h1 0 3), ?_⟩
  refine List.forall_mem_cons.2 ⟨tile2 (arg4.view.read (Elt Ideal) X_arg4) (arg5.view.read (Elt Ideal) X_arg5) k.val 0 6 hk (by decide) (by decide) (k0_off19_eq k 0) (k0_off20_eq k) (k0_off21_eq k 0 2) (inbT := k0_off21_inb i k k0_h1 0 2), ?_⟩
  refine List.forall_mem_cons.2 ⟨tile1 (arg4.view.read (Elt Ideal) X_arg4) (arg5.view.read (Elt Ideal) X_arg5) k.val 0 6 hk (by decide) (by decide) (k0_off19_eq k 0) (k0_off20_eq k) (k0_off21_eq k 0 1) (inbT := k0_off21_inb i k k0_h1 0 1), ?_⟩
  refine List.forall_mem_cons.2 ⟨tile0 (arg4.view.read (Elt Ideal) X_arg4) (arg5.view.read (Elt Ideal) X_arg5) k.val 0 6 hk (by decide) (by decide) (k0_off19_eq k 0) (k0_off20_eq k) (k0_off21_eq k 0 0) (inbT := k0_off21_inb i k k0_h1 0 0), ?_⟩
  refine List.forall_mem_cons.2 ⟨tile3 (arg4.view.read (Elt Ideal) X_arg4) (arg5.view.read (Elt Ideal) X_arg5) k.val 0 5 hk (by decide) (by decide) (k0_off16_eq k 0) (k0_off17_eq k) (k0_off18_eq k 0 3) (inbT := k0_off18_inb i k k0_h1 0 3), ?_⟩
  refine List.forall_mem_cons.2 ⟨tile2 (arg4.view.read (Elt Ideal) X_arg4) (arg5.view.read (Elt Ideal) X_arg5) k.val 0 5 hk (by decide) (by decide) (k0_off16_eq k 0) (k0_off17_eq k) (k0_off18_eq k 0 2) (inbT := k0_off18_inb i k k0_h1 0 2), ?_⟩
  refine List.forall_mem_cons.2 ⟨tile1 (arg4.view.read (Elt Ideal) X_arg4) (arg5.view.read (Elt Ideal) X_arg5) k.val 0 5 hk (by decide) (by decide) (k0_off16_eq k 0) (k0_off17_eq k) (k0_off18_eq k 0 1) (inbT := k0_off18_inb i k k0_h1 0 1), ?_⟩
  refine List.forall_mem_cons.2 ⟨tile0 (arg4.view.read (Elt Ideal) X_arg4) (arg5.view.read (Elt Ideal) X_arg5) k.val 0 5 hk (by decide) (by decide) (k0_off16_eq k 0) (k0_off17_eq k) (k0_off18_eq k 0 0) (inbT := k0_off18_inb i k k0_h1 0 0), ?_⟩
  refine List.forall_mem_cons.2 ⟨tile3 (arg4.view.read (Elt Ideal) X_arg4) (arg5.view.read (Elt Ideal) X_arg5) k.val 0 4 hk (by decide) (by decide) (k0_off13_eq k 0) (k0_off14_eq k) (k0_off15_eq k 0 3) (inbT := k0_off15_inb i k k0_h1 0 3), ?_⟩
  refine List.forall_mem_cons.2 ⟨tile2 (arg4.view.read (Elt Ideal) X_arg4) (arg5.view.read (Elt Ideal) X_arg5) k.val 0 4 hk (by decide) (by decide) (k0_off13_eq k 0) (k0_off14_eq k) (k0_off15_eq k 0 2) (inbT := k0_off15_inb i k k0_h1 0 2), ?_⟩
  refine List.forall_mem_cons.2 ⟨tile1 (arg4.view.read (Elt Ideal) X_arg4) (arg5.view.read (Elt Ideal) X_arg5) k.val 0 4 hk (by decide) (by decide) (k0_off13_eq k 0) (k0_off14_eq k) (k0_off15_eq k 0 1) (inbT := k0_off15_inb i k k0_h1 0 1), ?_⟩
  refine List.forall_mem_cons.2 ⟨tile0 (arg4.view.read (Elt Ideal) X_arg4) (arg5.view.read (Elt Ideal) X_arg5) k.val 0 4 hk (by decide) (by decide) (k0_off13_eq k 0) (k0_off14_eq k) (k0_off15_eq k 0 0) (inbT := k0_off15_inb i k k0_h1 0 0), ?_⟩
  refine List.forall_mem_cons.2 ⟨tile3 (arg4.view.read (Elt Ideal) X_arg4) (arg5.view.read (Elt Ideal) X_arg5) k.val 0 3 hk (by decide) (by decide) (k0_off10_eq k 0) (k0_off11_eq k) (k0_off12_eq k 0 3) (inbT := k0_off12_inb i k k0_h1 0 3), ?_⟩
  refine List.forall_mem_cons.2 ⟨tile2 (arg4.view.read (Elt Ideal) X_arg4) (arg5.view.read (Elt Ideal) X_arg5) k.val 0 3 hk (by decide) (by decide) (k0_off10_eq k 0) (k0_off11_eq k) (k0_off12_eq k 0 2) (inbT := k0_off12_inb i k k0_h1 0 2), ?_⟩
  refine List.forall_mem_cons.2 ⟨tile1 (arg4.view.read (Elt Ideal) X_arg4) (arg5.view.read (Elt Ideal) X_arg5) k.val 0 3 hk (by decide) (by decide) (k0_off10_eq k 0) (k0_off11_eq k) (k0_off12_eq k 0 1) (inbT := k0_off12_inb i k k0_h1 0 1), ?_⟩
  refine List.forall_mem_cons.2 ⟨tile0 (arg4.view.read (Elt Ideal) X_arg4) (arg5.view.read (Elt Ideal) X_arg5) k.val 0 3 hk (by decide) (by decide) (k0_off10_eq k 0) (k0_off11_eq k) (k0_off12_eq k 0 0) (inbT := k0_off12_inb i k k0_h1 0 0), ?_⟩
  refine List.forall_mem_cons.2 ⟨tile3 (arg4.view.read (Elt Ideal) X_arg4) (arg5.view.read (Elt Ideal) X_arg5) k.val 0 2 hk (by decide) (by decide) (k0_off7_eq k 0) (k0_off8_eq k) (k0_off9_eq k 0 3) (inbT := k0_off9_inb i k k0_h1 0 3), ?_⟩
  refine List.forall_mem_cons.2 ⟨tile2 (arg4.view.read (Elt Ideal) X_arg4) (arg5.view.read (Elt Ideal) X_arg5) k.val 0 2 hk (by decide) (by decide) (k0_off7_eq k 0) (k0_off8_eq k) (k0_off9_eq k 0 2) (inbT := k0_off9_inb i k k0_h1 0 2), ?_⟩
  refine List.forall_mem_cons.2 ⟨tile1 (arg4.view.read (Elt Ideal) X_arg4) (arg5.view.read (Elt Ideal) X_arg5) k.val 0 2 hk (by decide) (by decide) (k0_off7_eq k 0) (k0_off8_eq k) (k0_off9_eq k 0 1) (inbT := k0_off9_inb i k k0_h1 0 1), ?_⟩
  refine List.forall_mem_cons.2 ⟨tile0 (arg4.view.read (Elt Ideal) X_arg4) (arg5.view.read (Elt Ideal) X_arg5) k.val 0 2 hk (by decide) (by decide) (k0_off7_eq k 0) (k0_off8_eq k) (k0_off9_eq k 0 0) (inbT := k0_off9_inb i k k0_h1 0 0), ?_⟩
  refine List.forall_mem_cons.2 ⟨tile3 (arg4.view.read (Elt Ideal) X_arg4) (arg5.view.read (Elt Ideal) X_arg5) k.val 0 1 hk (by decide) (by decide) (k0_off4_eq k 0) (k0_off5_eq k) (k0_off6_eq k 0 3) (inbT := k0_off6_inb i k k0_h1 0 3), ?_⟩
  refine List.forall_mem_cons.2 ⟨tile2 (arg4.view.read (Elt Ideal) X_arg4) (arg5.view.read (Elt Ideal) X_arg5) k.val 0 1 hk (by decide) (by decide) (k0_off4_eq k 0) (k0_off5_eq k) (k0_off6_eq k 0 2) (inbT := k0_off6_inb i k k0_h1 0 2), ?_⟩
  refine List.forall_mem_cons.2 ⟨tile1 (arg4.view.read (Elt Ideal) X_arg4) (arg5.view.read (Elt Ideal) X_arg5) k.val 0 1 hk (by decide) (by decide) (k0_off4_eq k 0) (k0_off5_eq k) (k0_off6_eq k 0 1) (inbT := k0_off6_inb i k k0_h1 0 1), ?_⟩
  refine List.forall_mem_cons.2 ⟨tile0 (arg4.view.read (Elt Ideal) X_arg4) (arg5.view.read (Elt Ideal) X_arg5) k.val 0 1 hk (by decide) (by decide) (k0_off4_eq k 0) (k0_off5_eq k) (k0_off6_eq k 0 0) (inbT := k0_off6_inb i k k0_h1 0 0), ?_⟩
  refine List.forall_mem_cons.2 ⟨tile3 (arg4.view.read (Elt Ideal) X_arg4) (arg5.view.read (Elt Ideal) X_arg5) k.val 0 0 hk (by decide) (by decide) (k0_off1_eq k 0) (k0_off2_eq k) (k0_off3_eq k 0 3) (inbT := k0_off3_inb i k k0_h1 0 3), ?_⟩
  refine List.forall_mem_cons.2 ⟨tile2 (arg4.view.read (Elt Ideal) X_arg4) (arg5.view.read (Elt Ideal) X_arg5) k.val 0 0 hk (by decide) (by decide) (k0_off1_eq k 0) (k0_off2_eq k) (k0_off3_eq k 0 2) (inbT := k0_off3_inb i k k0_h1 0 2), ?_⟩
  refine List.forall_mem_cons.2 ⟨tile1 (arg4.view.read (Elt Ideal) X_arg4) (arg5.view.read (Elt Ideal) X_arg5) k.val 0 0 hk (by decide) (by decide) (k0_off1_eq k 0) (k0_off2_eq k) (k0_off3_eq k 0 1) (inbT := k0_off3_inb i k k0_h1 0 1), ?_⟩
  refine List.forall_mem_cons.2 ⟨tile0 (arg4.view.read (Elt Ideal) X_arg4) (arg5.view.read (Elt Ideal) X_arg5) k.val 0 0 hk (by decide) (by decide) (k0_off1_eq k 0) (k0_off2_eq k) (k0_off3_eq k 0 0) (inbT := k0_off3_inb i k k0_h1 0 0), ?_⟩
  exact List.forall_mem_nil _

end Cert.KernelIdeal.Val

end
-- ==== Proof.Value.Delta.lean ====
/- What one grid point computes of `y`, read at an element. -/
module

public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Val

open Idealize.ShloMosaic Idealize.ShloMosaic.TcCoe
open Cert.KernelIdeal.Gen

/-- Row `n` of the pool rows a grid point holds, zero past their end. -/
def rowAt (X : Vec Ideal S896x1024 .bf16) (n : ℕ) (b : Fin 1024) : EReal := if h : n < 896 then X (ix2 ⟨n, h⟩ b) else (0 : EReal)

/-- A load of sixteen pool rows from the row a word names. -/
theorem pool_piece (X : Vec Ideal S896x1024 .bf16) (w : BitVec 32) (off : Fin 2 → ℕ) (ho : off = ![(w * 16#32).toNat, 0])
    (inb : ∀ a, off a + S16x1024.size a ≤ S896x1024.size a) (r : Fin 16) (b : Fin 1024) :
    View.ld (Val := Elt Ideal) (e' := .bf16) X (Rect.unit (s := S896x1024) off S16x1024.size inb) (ix2 r b)
      = rowAt X ((w * 16#32).toNat + r.val) b := by
  subst ho
  have h0 : (w * 16#32).toNat + 16 ≤ 896 := inb 0
  have hr := r.isLt
  have h1 : (w * 16#32).toNat + r.val < 896 := by omega
  unfold rowAt
  rw [dif_pos h1]
  refine View.ld_unit_apply_of (Val := Elt Ideal) X _ _ inb _ _ fun a => ?_
  fin_cases a
  · rfl
  · exact (Nat.zero_add _).symm

set_option maxHeartbeats 8000000 in
/-- Sixteen stacked pieces of sixteen rows, read at a row. -/
theorem stack (R : ℕ → Fin 1024 → EReal) (T : ℕ → BitVec 32) (n0 : ℕ) (p0 p1 p2 p3 p4 p5 p6 p7 p8 p9 p10 p11 p12 p13 p14 p15 : Vec Ideal S16x1024 .bf16)
    (hp0 : ∀ (r : Fin 16) (b : Fin 1024), p0 (ix2 r b) = R ((T (n0 + 0) * 16#32).toNat + r.val) b)
    (hp1 : ∀ (r : Fin 16) (b : Fin 1024), p1 (ix2 r b) = R ((T (n0 + 1) * 16#32).toNat + r.val) b)
    (hp2 : ∀ (r : Fin 16) (b : Fin 1024), p2 (ix2 r b) = R ((T (n0 + 2) * 16#32).toNat + r.val) b)
    (hp3 : ∀ (r : Fin 16) (b : Fin 1024), p3 (ix2 r b) = R ((T (n0 + 3) * 16#32).toNat + r.val) b)
    (hp4 : ∀ (r : Fin 16) (b : Fin 1024), p4 (ix2 r b) = R ((T (n0 + 4) * 16#32).toNat + r.val) b)
    (hp5 : ∀ (r : Fin 16) (b : Fin 1024), p5 (ix2 r b) = R ((T (n0 + 5) * 16#32).toNat + r.val) b)
    (hp6 : ∀ (r : Fin 16) (b : Fin 1024), p6 (ix2 r b) = R ((T (n0 + 6) * 16#32).toNat + r.val) b)
    (hp7 : ∀ (r : Fin 16) (b : Fin 1024), p7 (ix2 r b) = R ((T (n0 + 7) * 16#32).toNat + r.val) b)
    (hp8 : ∀ (r : Fin 16) (b : Fin 1024), p8 (ix2 r b) = R ((T (n0 + 8) * 16#32).toNat + r.val) b)
    (hp9 : ∀ (r : Fin 16) (b : Fin 1024), p9 (ix2 r b) = R ((T (n0 + 9) * 16#32).toNat + r.val) b)
    (hp10 : ∀ (r : Fin 16) (b : Fin 1024), p10 (ix2 r b) = R ((T (n0 + 10) * 16#32).toNat + r.val) b)
    (hp11 : ∀ (r : Fin 16) (b : Fin 1024), p11 (ix2 r b) = R ((T (n0 + 11) * 16#32).toNat + r.val) b)
    (hp12 : ∀ (r : Fin 16) (b : Fin 1024), p12 (ix2 r b) = R ((T (n0 + 12) * 16#32).toNat + r.val) b)
    (hp13 : ∀ (r : Fin 16) (b : Fin 1024), p13 (ix2 r b) = R ((T (n0 + 13) * 16#32).toNat + r.val) b)
    (hp14 : ∀ (r : Fin 16) (b : Fin 1024), p14 (ix2 r b) = R ((T (n0 + 14) * 16#32).toNat + r.val) b)
    (hp15 : ∀ (r : Fin 16) (b : Fin 1024), p15 (ix2 r b) = R ((T (n0 + 15) * 16#32).toNat + r.val) b)
    (k : Fin 256) (b : Fin 1024) :
    (concatenate S256x1024 0 [⟨S16x1024, p0⟩, ⟨S16x1024, p1⟩, ⟨S16x1024, p2⟩, ⟨S16x1024, p3⟩, ⟨S16x1024, p4⟩, ⟨S16x1024, p5⟩, ⟨S16x1024, p6⟩, ⟨S16x1024, p7⟩, ⟨S16x1024, p8⟩, ⟨S16x1024, p9⟩, ⟨S16x1024, p10⟩, ⟨S16x1024, p11⟩, ⟨S16x1024, p12⟩, ⟨S16x1024, p13⟩, ⟨S16x1024, p14⟩, ⟨S16x1024, p15⟩] concatenates_S16x1024_S16x1024_S16x1024_S16x1024_S16x1024_S16x1024_S16x1024_S16x1024_S16x1024_S16x1024_S16x1024_S16x1024_S16x1024_S16x1024_S16x1024_S16x1024_S256x1024_d0 : FVec Ideal S256x1024 .bf16) (ix2 k b) = R ((T (n0 + k.val / 16) * 16#32).toNat + k.val % 16) b := by
  have hk := k.isLt
  let f : Fin 16 → Vec Ideal S16x1024 .bf16 := ![p0, p1, p2, p3, p4, p5, p6, p7, p8, p9, p10, p11, p12, p13, p14, p15]
  have H : ∀ (n : Fin 16) (r : Fin 16) (b : Fin 1024), f n (ix2 r b) = R ((T (n0 + n.val) * 16#32).toNat + r.val) b := by
    intro n
    fin_cases n
    exacts [hp0, hp1, hp2, hp3, hp4, hp5, hp6, hp7, hp8, hp9, hp10, hp11, hp12, hp13, hp14, hp15]
  have hn : k.val / 16 < 16 := by omega
  exact (concatenate_ofFn_apply (t := S256x1024) (s₁ := S16x1024) 0 f _ rfl 16 rfl (ix2 k b) ⟨k.val / 16, hn⟩ rfl
    (ix2 (⟨k.val % 16, Nat.mod_lt _ (by decide)⟩ : Fin 16) b) rfl (by
      intro c hc
      fin_cases c
      · exact absurd rfl hc
      · rfl)).trans (H ⟨k.val / 16, hn⟩ _ _)

/-- `y` at row `r`, column `b` of a block: the base product, and the product with the pool rows the row's half names. -/
def yAt (x : Vec Ideal S384x5120 .bf16) (W : Vec Ideal S5120x1024 .bf16) (R : ℕ → Fin 1024 → EReal) (T : ℕ → BitVec 32)
    (n0 : ℕ) (e : Vec Ideal S384x256 .bf16) (r : Fin 384) (b : Fin 1024) : EReal :=
  (∑ k : Fin 5120, x (ix2 r k) * W (ix2 k b))
    + ∑ k : Fin 256, e (ix2 r k) * R ((T (n0 + 16 * (r.val / 192) + k.val / 16) * 16#32).toNat + k.val % 16) b

theorem pay218_apply (x : Vec Ideal S384x5120 .bf16) (W : Vec Ideal S5120x1024 .bf16) (R : ℕ → Fin 1024 → EReal)
    (T : ℕ → BitVec 32) (n0 : ℕ) (e : Vec Ideal S384x256 .bf16)
    (p0 p1 p2 p3 p4 p5 p6 p7 p8 p9 p10 p11 p12 p13 p14 p15 q0 q1 q2 q3 q4 q5 q6 q7 q8 q9 q10 q11 q12 q13 q14 q15 : Vec Ideal S16x1024 .bf16) (e0 e1 : Vec Ideal S192x256 .bf16)
    (hp0 : ∀ (r : Fin 16) (b : Fin 1024), p0 (ix2 r b) = R ((T (n0 + 0) * 16#32).toNat + r.val) b)
    (hp1 : ∀ (r : Fin 16) (b : Fin 1024), p1 (ix2 r b) = R ((T (n0 + 1) * 16#32).toNat + r.val) b)
    (hp2 : ∀ (r : Fin 16) (b : Fin 1024), p2 (ix2 r b) = R ((T (n0 + 2) * 16#32).toNat + r.val) b)
    (hp3 : ∀ (r : Fin 16) (b : Fin 1024), p3 (ix2 r b) = R ((T (n0 + 3) * 16#32).toNat + r.val) b)
    (hp4 : ∀ (r : Fin 16) (b : Fin 1024), p4 (ix2 r b) = R ((T (n0 + 4) * 16#32).toNat + r.val) b)
    (hp5 : ∀ (r : Fin 16) (b : Fin 1024), p5 (ix2 r b) = R ((T (n0 + 5) * 16#32).toNat + r.val) b)
    (hp6 : ∀ (r : Fin 16) (b : Fin 1024), p6 (ix2 r b) = R ((T (n0 + 6) * 16#32).toNat + r.val) b)
    (hp7 : ∀ (r : Fin 16) (b : Fin 1024), p7 (ix2 r b) = R ((T (n0 + 7) * 16#32).toNat + r.val) b)
    (hp8 : ∀ (r : Fin 16) (b : Fin 1024), p8 (ix2 r b) = R ((T (n0 + 8) * 16#32).toNat + r.val) b)
    (hp9 : ∀ (r : Fin 16) (b : Fin 1024), p9 (ix2 r b) = R ((T (n0 + 9) * 16#32).toNat + r.val) b)
    (hp10 : ∀ (r : Fin 16) (b : Fin 1024), p10 (ix2 r b) = R ((T (n0 + 10) * 16#32).toNat + r.val) b)
    (hp11 : ∀ (r : Fin 16) (b : Fin 1024), p11 (ix2 r b) = R ((T (n0 + 11) * 16#32).toNat + r.val) b)
    (hp12 : ∀ (r : Fin 16) (b : Fin 1024), p12 (ix2 r b) = R ((T (n0 + 12) * 16#32).toNat + r.val) b)
    (hp13 : ∀ (r : Fin 16) (b : Fin 1024), p13 (ix2 r b) = R ((T (n0 + 13) * 16#32).toNat + r.val) b)
    (hp14 : ∀ (r : Fin 16) (b : Fin 1024), p14 (ix2 r b) = R ((T (n0 + 14) * 16#32).toNat + r.val) b)
    (hp15 : ∀ (r : Fin 16) (b : Fin 1024), p15 (ix2 r b) = R ((T (n0 + 15) * 16#32).toNat + r.val) b)
    (hq0 : ∀ (r : Fin 16) (b : Fin 1024), q0 (ix2 r b) = R ((T (n0 + 16 + 0) * 16#32).toNat + r.val) b)
    (hq1 : ∀ (r : Fin 16) (b : Fin 1024), q1 (ix2 r b) = R ((T (n0 + 16 + 1) * 16#32).toNat + r.val) b)
    (hq2 : ∀ (r : Fin 16) (b : Fin 1024), q2 (ix2 r b) = R ((T (n0 + 16 + 2) * 16#32).toNat + r.val) b)
    (hq3 : ∀ (r : Fin 16) (b : Fin 1024), q3 (ix2 r b) = R ((T (n0 + 16 + 3) * 16#32).toNat + r.val) b)
    (hq4 : ∀ (r : Fin 16) (b : Fin 1024), q4 (ix2 r b) = R ((T (n0 + 16 + 4) * 16#32).toNat + r.val) b)
    (hq5 : ∀ (r : Fin 16) (b : Fin 1024), q5 (ix2 r b) = R ((T (n0 + 16 + 5) * 16#32).toNat + r.val) b)
    (hq6 : ∀ (r : Fin 16) (b : Fin 1024), q6 (ix2 r b) = R ((T (n0 + 16 + 6) * 16#32).toNat + r.val) b)
    (hq7 : ∀ (r : Fin 16) (b : Fin 1024), q7 (ix2 r b) = R ((T (n0 + 16 + 7) * 16#32).toNat + r.val) b)
    (hq8 : ∀ (r : Fin 16) (b : Fin 1024), q8 (ix2 r b) = R ((T (n0 + 16 + 8) * 16#32).toNat + r.val) b)
    (hq9 : ∀ (r : Fin 16) (b : Fin 1024), q9 (ix2 r b) = R ((T (n0 + 16 + 9) * 16#32).toNat + r.val) b)
    (hq10 : ∀ (r : Fin 16) (b : Fin 1024), q10 (ix2 r b) = R ((T (n0 + 16 + 10) * 16#32).toNat + r.val) b)
    (hq11 : ∀ (r : Fin 16) (b : Fin 1024), q11 (ix2 r b) = R ((T (n0 + 16 + 11) * 16#32).toNat + r.val) b)
    (hq12 : ∀ (r : Fin 16) (b : Fin 1024), q12 (ix2 r b) = R ((T (n0 + 16 + 12) * 16#32).toNat + r.val) b)
    (hq13 : ∀ (r : Fin 16) (b : Fin 1024), q13 (ix2 r b) = R ((T (n0 + 16 + 13) * 16#32).toNat + r.val) b)
    (hq14 : ∀ (r : Fin 16) (b : Fin 1024), q14 (ix2 r b) = R ((T (n0 + 16 + 14) * 16#32).toNat + r.val) b)
    (hq15 : ∀ (r : Fin 16) (b : Fin 1024), q15 (ix2 r b) = R ((T (n0 + 16 + 15) * 16#32).toNat + r.val) b)
    (he0 : ∀ (r : Fin 192) (k : Fin 256), e0 (ix2 r k) = e (ix2 (⟨r.val, by omega⟩ : Fin 384) k))
    (he1 : ∀ (r : Fin 192) (k : Fin 256), e1 (ix2 r k) = e (ix2 (⟨192 + r.val, by omega⟩ : Fin 384) k))
    (r : Fin 384) (b : Fin 1024) :
    k0_pay218 (k0_pay215 x W) (k0_pay216 p0 p1 p2 p3 p4 p5 p6 p7 p8 p9 p10 p11 p12 p13 p14 p15 e0) q0 q1 q2 q3 q4 q5 q6 q7 q8 q9 q10 q11 q12 q13 q14 q15 e1 (ix2 r b) = yAt x W R T n0 e r b := by
  have hr := r.isLt
  have c0 := stack R T n0 p0 p1 p2 p3 p4 p5 p6 p7 p8 p9 p10 p11 p12 p13 p14 p15 hp0 hp1 hp2 hp3 hp4 hp5 hp6 hp7 hp8 hp9 hp10 hp11 hp12 hp13 hp14 hp15
  have c1 := stack R T (n0 + 16) q0 q1 q2 q3 q4 q5 q6 q7 q8 q9 q10 q11 q12 q13 q14 q15 hq0 hq1 hq2 hq3 hq4 hq5 hq6 hq7 hq8 hq9 hq10 hq11 hq12 hq13 hq14 hq15
  unfold k0_pay218 k0_pay217 k0_pay216 k0_pay215 yAt
  dsimp only
  generalize (concatenate S256x1024 0 [⟨S16x1024, p0⟩, ⟨S16x1024, p1⟩, ⟨S16x1024, p2⟩, ⟨S16x1024, p3⟩, ⟨S16x1024, p4⟩, ⟨S16x1024, p5⟩, ⟨S16x1024, p6⟩, ⟨S16x1024, p7⟩, ⟨S16x1024, p8⟩, ⟨S16x1024, p9⟩, ⟨S16x1024, p10⟩, ⟨S16x1024, p11⟩, ⟨S16x1024, p12⟩, ⟨S16x1024, p13⟩, ⟨S16x1024, p14⟩, ⟨S16x1024, p15⟩] concatenates_S16x1024_S16x1024_S16x1024_S16x1024_S16x1024_S16x1024_S16x1024_S16x1024_S16x1024_S16x1024_S16x1024_S16x1024_S16x1024_S16x1024_S16x1024_S16x1024_S256x1024_d0 : FVec Ideal S256x1024 .bf16) = C0 at c0 ⊢
  generalize (concatenate S256x1024 0 [⟨S16x1024, q0⟩, ⟨S16x1024, q1⟩, ⟨S16x1024, q2⟩, ⟨S16x1024, q3⟩, ⟨S16x1024, q4⟩, ⟨S16x1024, q5⟩, ⟨S16x1024, q6⟩, ⟨S16x1024, q7⟩, ⟨S16x1024, q8⟩, ⟨S16x1024, q9⟩, ⟨S16x1024, q10⟩, ⟨S16x1024, q11⟩, ⟨S16x1024, q12⟩, ⟨S16x1024, q13⟩, ⟨S16x1024, q14⟩, ⟨S16x1024, q15⟩] concatenates_S16x1024_S16x1024_S16x1024_S16x1024_S16x1024_S16x1024_S16x1024_S16x1024_S16x1024_S16x1024_S16x1024_S16x1024_S16x1024_S16x1024_S16x1024_S16x1024_S256x1024_d0 : FVec Ideal S256x1024 .bf16) = C1 at c1 ⊢
  pointwise
  refine congrArg₂ (· + ·) rfl ?_
  split
  · next h =>
    refine Finset.sum_congr rfl fun k _ => ?_
    rw [he0, c0]
    have e : r.val / 192 = 0 := by omega
    rw [e]
    rfl
  · next h =>
    refine Finset.sum_congr rfl fun k _ => ?_
    rw [he1, c1]
    have e : r.val / 192 = 1 := by omega
    have e' : (⟨192 + (r.val - 192), by omega⟩ : Fin 384) = r := Fin.ext (by dsimp only; omega)
    rw [e, e']

end Cert.KernelIdeal.Val
-- ==== Proof.Value.Block.lean ====
/- What a column tile's scratch holds: the unpacked weights. -/
module

public import proofs.«01_k».proof.Proof.KernelIdealFrame.Frame
public import proofs.«01_k».proof.Proof.Value.Trip
public import proofs.«01_k».proof.Proof.Value.Delta

@[expose] public section

set_option maxRecDepth 16384

noncomputable section

namespace Cert.KernelIdeal.Val

open Idealize.ShloMosaic Idealize.ShloMosaic.TcCoe Idealize.ShloMosaic.Tactic
open Cert.KernelIdeal.Gen

/-- Every piece that the trips before `n` store holds the unpacked weights of its rectangle. -/
theorem loop_pieces (𝒱 : Variants) (c : Dev nD) (bd : Option 𝒱.V) (i : grid0.Coords) (arg2 : Memref sig .tc .smem S512 .i32) (harg2 : arg2.IsWhole) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (k0_h1 : k0_cond1 i = 1#1) (X_arg4 : BufTy.Contents (Elt Ideal) arg4.view.ty) (X_arg5 : BufTy.Contents (Elt Ideal) arg5.view.ty)  (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 k0_h1 X_arg4 X_arg5 n, ∀ x : p.1.shape.Idx,
      p.2 x = wval (arg4.view.read (Elt Ideal) X_arg4) (arg5.view.read (Elt Ideal) X_arg5) (p.1.emb x) := by
  induction n with
  | zero =>
    intro p hp
    unfold pb_k0_t1 at hp
    exact absurd hp (List.not_mem_nil)
  | succ n ih =>
    intro p hp
    have e := pb_k0_t1_succ (F := Ideal) 𝒱 c bd i arg2 harg2 arg3 harg3 arg4 harg4 arg5 harg5 arg6 harg6 arg7 harg7 arg8 harg8 arg9 harg9 arg10 harg10 arg11 harg11 k0_h1 X_arg4 X_arg5 ⟨n, hn⟩
    rw [e] at hp
    rcases List.mem_append.1 hp with h | h
    · exact trip_pieces 𝒱 c bd i arg2 harg2 arg3 harg3 arg4 harg4 arg5 harg5 arg6 harg6 arg7 harg7 arg8 harg8 arg9 harg9 arg10 harg10 arg11 harg11 k0_h1 X_arg4 X_arg5 ⟨n, hn⟩ p h
    · exact ih (Nat.le_of_succ_le hn) p h

/-- The word of the table at position `n`. -/
def word (c : Dev nD) (xt : TbBuf0 (F := Ideal) c tbM0_0) (n : ℕ) : BitVec 32 :=
  if h : n < 512 then (tbM0_0.view.read (Elt Ideal) xt : Vec Ideal S512 .i32) (ix1 ⟨n, h⟩) else 0#32

theorem word_eq (c : Dev nD) (xt : TbBuf0 (F := Ideal) c tbM0_0) (o : Fin 1 → ℕ) (inb : ∀ a, o a + S1.size a ≤ S512.size a)
    (n : ℕ) (ho : o 0 = n) (hp : 0 < S1.numel) :
    (tbM0_0.view.readAt (Elt Ideal) (Rect.unit (s := S512) o S1.size inb).toLoadRect xt (Shape.Idx.first hp) : BitVec 32) = word c xt n := by
  have h : o 0 + 1 ≤ 512 := inb 0
  have hn : n < 512 := by omega
  unfold word
  rw [dif_pos hn, View.readAt_eq_ld]
  refine View.ld_unit_apply_of (Val := Elt Ideal) _ _ _ inb _ _ fun a => ?_
  fin_cases a
  exact ho.symm.trans (Nat.add_zero _).symm

/-- Sixteen pool rows loaded from the row that the table's word at position `n` names. -/
theorem piece_eq (c : Dev nD) (arg6 : Memref sig .tc .vmem S896x1024 .bf16) (harg6 : arg6.IsWhole) (X : Vec Ideal S896x1024 .bf16)
    (xt : TbBuf0 (F := Ideal) c tbM0_0) (o : Fin 1 → ℕ) (inb : ∀ a, o a + S1.size a ≤ S512.size a) (n : ℕ) (ho : o 0 = n)
    (hp : 0 < S1.numel) (off : Fin 2 → ℕ) (inb2 : ∀ a, off a + S16x1024.size a ≤ S896x1024.size a)
    (hoff : off = ![((tbM0_0.view.readAt (Elt Ideal) (Rect.unit (s := S512) o S1.size inb).toLoadRect xt (Shape.Idx.first hp) : BitVec 32) * 16#32).toNat, 0])
    (r : Fin 16) (b : Fin 1024) :
    (arg6.view.readAt (Elt Ideal) (Rect.unit (s := S896x1024) off S16x1024.size inb2).toLoadRect (harg6.unread X) : Vec Ideal S16x1024 .bf16) (ix2 r b)
      = rowAt X ((word c xt n * 16#32).toNat + r.val) b := by
  rw [word_eq c xt o inb n ho hp] at hoff
  rw [View.readAt_eq_ld, harg6.read_unread]
  exact pool_piece X (word c xt n) off hoff inb2 r b

theorem hz : (![0, 0] : Fin 2 → ℕ) = fun _ => 0 := funext fun a => by fin_cases a <;> rfl

/-- A load of one half of the rows of the second operand. -/
theorem half_eq (arg7 : Memref sig .tc .vmem S384x256 .bf16) (harg7 : arg7.IsWhole) (X : Vec Ideal S384x256 .bf16) (p : ℕ)
    (inb : ∀ a, (![p, 0] : Fin 2 → ℕ) a + S192x256.size a ≤ S384x256.size a) (r : Fin 192) (k : Fin 256) (q : Fin 384) (hq : q.val = p + r.val) :
    (arg7.view.readAt (Elt Ideal) (Rect.unit (s := S384x256) ![p, 0] S192x256.size inb).toLoadRect (harg7.unread X) : Vec Ideal S192x256 .bf16) (ix2 r k)
      = X (ix2 q k) := by
  rw [View.readAt_eq_ld, harg7.read_unread]
  refine View.ld_unit_apply_of (Val := Elt Ideal) X _ _ inb _ _ fun a => ?_
  fin_cases a
  · exact hq
  · exact (Nat.zero_add _).symm

set_option maxHeartbeats 4000000 in
/-- After a column tile's first grid point the scratch holds the tile's unpacked weights. -/
theorem sout_eq (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec Ideal S384x5120 .bf16) (x1 : Vec Ideal S640x1024 .i32) (x2 : Vec Ideal S8x40x128 .i32) (x3 : Vec Ideal S896x1024 .bf16) (x4 : Vec Ideal S384x256 .bf16) (xt0 : TbBuf0 (F := Ideal) c tbM0_0) (k0_hw1 : k0_chk1 (tbM0_0.view.readAt (Elt Ideal) (Rect.unit (s := S512) (k0_off25 i) S1.size (k0_off25_inb i)).toLoadRect xt0 (Shape.Idx.first (numel1_S1.symm ▸ Nat.one_pos)))) (k0_hw2 : k0_chk2 (tbM0_0.view.readAt (Elt Ideal) (Rect.unit (s := S512) (k0_off27 i) S1.size (k0_off27_inb i)).toLoadRect xt0 (Shape.Idx.first (numel1_S1.symm ▸ Nat.one_pos)))) (k0_hw3 : k0_chk3 (tbM0_0.view.readAt (Elt Ideal) (Rect.unit (s := S512) (k0_off29 i) S1.size (k0_off29_inb i)).toLoadRect xt0 (Shape.Idx.first (numel1_S1.symm ▸ Nat.one_pos)))) (k0_hw4 : k0_chk4 (tbM0_0.view.readAt (Elt Ideal) (Rect.unit (s := S512) (k0_off31 i) S1.size (k0_off31_inb i)).toLoadRect xt0 (Shape.Idx.first (numel1_S1.symm ▸ Nat.one_pos)))) (k0_hw5 : k0_chk5 (tbM0_0.view.readAt (Elt Ideal) (Rect.unit (s := S512) (k0_off33 i) S1.size (k0_off33_inb i)).toLoadRect xt0 (Shape.Idx.first (numel1_S1.symm ▸ Nat.one_pos)))) (k0_hw6 : k0_chk6 (tbM0_0.view.readAt (Elt Ideal) (Rect.unit (s := S512) (k0_off35 i) S1.size (k0_off35_inb i)).toLoadRect xt0 (Shape.Idx.first (numel1_S1.symm ▸ Nat.one_pos)))) (k0_hw7 : k0_chk7 (tbM0_0.view.readAt (Elt Ideal) (Rect.unit (s := S512) (k0_off37 i) S1.size (k0_off37_inb i)).toLoadRect xt0 (Shape.Idx.first (numel1_S1.symm ▸ Nat.one_pos)))) (k0_hw8 : k0_chk8 (tbM0_0.view.readAt (Elt Ideal) (Rect.unit (s := S512) (k0_off39 i) S1.size (k0_off39_inb i)).toLoadRect xt0 (Shape.Idx.first (numel1_S1.symm ▸ Nat.one_pos)))) (k0_hw9 : k0_chk9 (tbM0_0.view.readAt (Elt Ideal) (Rect.unit (s := S512) (k0_off41 i) S1.size (k0_off41_inb i)).toLoadRect xt0 (Shape.Idx.first (numel1_S1.symm ▸ Nat.one_pos)))) (k0_hw10 : k0_chk10 (tbM0_0.view.readAt (Elt Ideal) (Rect.unit (s := S512) (k0_off43 i) S1.size (k0_off43_inb i)).toLoadRect xt0 (Shape.Idx.first (numel1_S1.symm ▸ Nat.one_pos)))) (k0_hw11 : k0_chk11 (tbM0_0.view.readAt (Elt Ideal) (Rect.unit (s := S512) (k0_off45 i) S1.size (k0_off45_inb i)).toLoadRect xt0 (Shape.Idx.first (numel1_S1.symm ▸ Nat.one_pos)))) (k0_hw12 : k0_chk12 (tbM0_0.view.readAt (Elt Ideal) (Rect.unit (s := S512) (k0_off47 i) S1.size (k0_off47_inb i)).toLoadRect xt0 (Shape.Idx.first (numel1_S1.symm ▸ Nat.one_pos)))) (k0_hw13 : k0_chk13 (tbM0_0.view.readAt (Elt Ideal) (Rect.unit (s := S512) (k0_off49 i) S1.size (k0_off49_inb i)).toLoadRect xt0 (Shape.Idx.first (numel1_S1.symm ▸ Nat.one_pos)))) (k0_hw14 : k0_chk14 (tbM0_0.view.readAt (Elt Ideal) (Rect.unit (s := S512) (k0_off51 i) S1.size (k0_off51_inb i)).toLoadRect xt0 (Shape.Idx.first (numel1_S1.symm ▸ Nat.one_pos)))) (k0_hw15 : k0_chk15 (tbM0_0.view.readAt (Elt Ideal) (Rect.unit (s := S512) (k0_off53 i) S1.size (k0_off53_inb i)).toLoadRect xt0 (Shape.Idx.first (numel1_S1.symm ▸ Nat.one_pos)))) (k0_hw16 : k0_chk16 (tbM0_0.view.readAt (Elt Ideal) (Rect.unit (s := S512) (k0_off55 i) S1.size (k0_off55_inb i)).toLoadRect xt0 (Shape.Idx.first (numel1_S1.symm ▸ Nat.one_pos)))) (k0_hw17 : k0_chk17 (tbM0_0.view.readAt (Elt Ideal) (Rect.unit (s := S512) (k0_off57 i) S1.size (k0_off57_inb i)).toLoadRect xt0 (Shape.Idx.first (numel1_S1.symm ▸ Nat.one_pos)))) (k0_hw18 : k0_chk18 (tbM0_0.view.readAt (Elt Ideal) (Rect.unit (s := S512) (k0_off59 i) S1.size (k0_off59_inb i)).toLoadRect xt0 (Shape.Idx.first (numel1_S1.symm ▸ Nat.one_pos)))) (k0_hw19 : k0_chk19 (tbM0_0.view.readAt (Elt Ideal) (Rect.unit (s := S512) (k0_off61 i) S1.size (k0_off61_inb i)).toLoadRect xt0 (Shape.Idx.first (numel1_S1.symm ▸ Nat.one_pos)))) (k0_hw20 : k0_chk20 (tbM0_0.view.readAt (Elt Ideal) (Rect.unit (s := S512) (k0_off63 i) S1.size (k0_off63_inb i)).toLoadRect xt0 (Shape.Idx.first (numel1_S1.symm ▸ Nat.one_pos)))) (k0_hw21 : k0_chk21 (tbM0_0.view.readAt (Elt Ideal) (Rect.unit (s := S512) (k0_off65 i) S1.size (k0_off65_inb i)).toLoadRect xt0 (Shape.Idx.first (numel1_S1.symm ▸ Nat.one_pos)))) (k0_hw22 : k0_chk22 (tbM0_0.view.readAt (Elt Ideal) (Rect.unit (s := S512) (k0_off67 i) S1.size (k0_off67_inb i)).toLoadRect xt0 (Shape.Idx.first (numel1_S1.symm ▸ Nat.one_pos)))) (k0_hw23 : k0_chk23 (tbM0_0.view.readAt (Elt Ideal) (Rect.unit (s := S512) (k0_off69 i) S1.size (k0_off69_inb i)).toLoadRect xt0 (Shape.Idx.first (numel1_S1.symm ▸ Nat.one_pos)))) (k0_hw24 : k0_chk24 (tbM0_0.view.readAt (Elt Ideal) (Rect.unit (s := S512) (k0_off71 i) S1.size (k0_off71_inb i)).toLoadRect xt0 (Shape.Idx.first (numel1_S1.symm ▸ Nat.one_pos)))) (k0_hw25 : k0_chk25 (tbM0_0.view.readAt (Elt Ideal) (Rect.unit (s := S512) (k0_off73 i) S1.size (k0_off73_inb i)).toLoadRect xt0 (Shape.Idx.first (numel1_S1.symm ▸ Nat.one_pos)))) (k0_hw26 : k0_chk26 (tbM0_0.view.readAt (Elt Ideal) (Rect.unit (s := S512) (k0_off75 i) S1.size (k0_off75_inb i)).toLoadRect xt0 (Shape.Idx.first (numel1_S1.symm ▸ Nat.one_pos)))) (k0_hw27 : k0_chk27 (tbM0_0.view.readAt (Elt Ideal) (Rect.unit (s := S512) (k0_off77 i) S1.size (k0_off77_inb i)).toLoadRect xt0 (Shape.Idx.first (numel1_S1.symm ▸ Nat.one_pos)))) (k0_hw28 : k0_chk28 (tbM0_0.view.readAt (Elt Ideal) (Rect.unit (s := S512) (k0_off79 i) S1.size (k0_off79_inb i)).toLoadRect xt0 (Shape.Idx.first (numel1_S1.symm ▸ Nat.one_pos)))) (k0_hw29 : k0_chk29 (tbM0_0.view.readAt (Elt Ideal) (Rect.unit (s := S512) (k0_off81 i) S1.size (k0_off81_inb i)).toLoadRect xt0 (Shape.Idx.first (numel1_S1.symm ▸ Nat.one_pos)))) (k0_hw30 : k0_chk30 (tbM0_0.view.readAt (Elt Ideal) (Rect.unit (s := S512) (k0_off83 i) S1.size (k0_off83_inb i)).toLoadRect xt0 (Shape.Idx.first (numel1_S1.symm ▸ Nat.one_pos)))) (k0_hw31 : k0_chk31 (tbM0_0.view.readAt (Elt Ideal) (Rect.unit (s := S512) (k0_off85 i) S1.size (k0_off85_inb i)).toLoadRect xt0 (Shape.Idx.first (numel1_S1.symm ▸ Nat.one_pos)))) (k0_hw32 : k0_chk32 (tbM0_0.view.readAt (Elt Ideal) (Rect.unit (s := S512) (k0_off87 i) S1.size (k0_off87_inb i)).toLoadRect xt0 (Shape.Idx.first (numel1_S1.symm ▸ Nat.one_pos)))) :
    sout0_A_0 (F := Ideal) c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 = wval x1 x2 := by
  have hc := scover0_A_0 (F := Ideal) c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32
  unfold sout0_A_0
  funext y
  refine View.read_writes_apply_of_pieces (Val := Elt Ideal) VS0_0 _ (wval x1 x2) _ ?_ y (hc y)
  unfold kernelRun0_A
  dsimp only
  sl_unfold_run_names
  have e := loop_pieces Variants.none c none i tbM0_0 htbM0_0 arg3 harg3 arg4 harg4 arg5 harg5 arg6 harg6 arg7 harg7 arg8 harg8 arg9 harg9 arg10 harg10 arg11 harg11 hc0 (harg4.unread x1) (harg5.unread x2) _ (le_refl _)
  rw [harg4.read_unread, harg5.read_unread] at e
  exact e

set_option maxHeartbeats 8000000 in
/-- The block of `y` at a column tile's first grid point. -/
theorem out_A_eq (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : cond0_0 i)
    (x0 : Vec Ideal S384x5120 .bf16) (x1 : Vec Ideal S640x1024 .i32) (x2 : Vec Ideal S8x40x128 .i32) (x3 : Vec Ideal S896x1024 .bf16) (x4 : Vec Ideal S384x256 .bf16) (xt0 : TbBuf0 (F := Ideal) c tbM0_0) (k0_hw1 : k0_chk1 (tbM0_0.view.readAt (Elt Ideal) (Rect.unit (s := S512) (k0_off25 i) S1.size (k0_off25_inb i)).toLoadRect xt0 (Shape.Idx.first (numel1_S1.symm ▸ Nat.one_pos)))) (k0_hw2 : k0_chk2 (tbM0_0.view.readAt (Elt Ideal) (Rect.unit (s := S512) (k0_off27 i) S1.size (k0_off27_inb i)).toLoadRect xt0 (Shape.Idx.first (numel1_S1.symm ▸ Nat.one_pos)))) (k0_hw3 : k0_chk3 (tbM0_0.view.readAt (Elt Ideal) (Rect.unit (s := S512) (k0_off29 i) S1.size (k0_off29_inb i)).toLoadRect xt0 (Shape.Idx.first (numel1_S1.symm ▸ Nat.one_pos)))) (k0_hw4 : k0_chk4 (tbM0_0.view.readAt (Elt Ideal) (Rect.unit (s := S512) (k0_off31 i) S1.size (k0_off31_inb i)).toLoadRect xt0 (Shape.Idx.first (numel1_S1.symm ▸ Nat.one_pos)))) (k0_hw5 : k0_chk5 (tbM0_0.view.readAt (Elt Ideal) (Rect.unit (s := S512) (k0_off33 i) S1.size (k0_off33_inb i)).toLoadRect xt0 (Shape.Idx.first (numel1_S1.symm ▸ Nat.one_pos)))) (k0_hw6 : k0_chk6 (tbM0_0.view.readAt (Elt Ideal) (Rect.unit (s := S512) (k0_off35 i) S1.size (k0_off35_inb i)).toLoadRect xt0 (Shape.Idx.first (numel1_S1.symm ▸ Nat.one_pos)))) (k0_hw7 : k0_chk7 (tbM0_0.view.readAt (Elt Ideal) (Rect.unit (s := S512) (k0_off37 i) S1.size (k0_off37_inb i)).toLoadRect xt0 (Shape.Idx.first (numel1_S1.symm ▸ Nat.one_pos)))) (k0_hw8 : k0_chk8 (tbM0_0.view.readAt (Elt Ideal) (Rect.unit (s := S512) (k0_off39 i) S1.size (k0_off39_inb i)).toLoadRect xt0 (Shape.Idx.first (numel1_S1.symm ▸ Nat.one_pos)))) (k0_hw9 : k0_chk9 (tbM0_0.view.readAt (Elt Ideal) (Rect.unit (s := S512) (k0_off41 i) S1.size (k0_off41_inb i)).toLoadRect xt0 (Shape.Idx.first (numel1_S1.symm ▸ Nat.one_pos)))) (k0_hw10 : k0_chk10 (tbM0_0.view.readAt (Elt Ideal) (Rect.unit (s := S512) (k0_off43 i) S1.size (k0_off43_inb i)).toLoadRect xt0 (Shape.Idx.first (numel1_S1.symm ▸ Nat.one_pos)))) (k0_hw11 : k0_chk11 (tbM0_0.view.readAt (Elt Ideal) (Rect.unit (s := S512) (k0_off45 i) S1.size (k0_off45_inb i)).toLoadRect xt0 (Shape.Idx.first (numel1_S1.symm ▸ Nat.one_pos)))) (k0_hw12 : k0_chk12 (tbM0_0.view.readAt (Elt Ideal) (Rect.unit (s := S512) (k0_off47 i) S1.size (k0_off47_inb i)).toLoadRect xt0 (Shape.Idx.first (numel1_S1.symm ▸ Nat.one_pos)))) (k0_hw13 : k0_chk13 (tbM0_0.view.readAt (Elt Ideal) (Rect.unit (s := S512) (k0_off49 i) S1.size (k0_off49_inb i)).toLoadRect xt0 (Shape.Idx.first (numel1_S1.symm ▸ Nat.one_pos)))) (k0_hw14 : k0_chk14 (tbM0_0.view.readAt (Elt Ideal) (Rect.unit (s := S512) (k0_off51 i) S1.size (k0_off51_inb i)).toLoadRect xt0 (Shape.Idx.first (numel1_S1.symm ▸ Nat.one_pos)))) (k0_hw15 : k0_chk15 (tbM0_0.view.readAt (Elt Ideal) (Rect.unit (s := S512) (k0_off53 i) S1.size (k0_off53_inb i)).toLoadRect xt0 (Shape.Idx.first (numel1_S1.symm ▸ Nat.one_pos)))) (k0_hw16 : k0_chk16 (tbM0_0.view.readAt (Elt Ideal) (Rect.unit (s := S512) (k0_off55 i) S1.size (k0_off55_inb i)).toLoadRect xt0 (Shape.Idx.first (numel1_S1.symm ▸ Nat.one_pos)))) (k0_hw17 : k0_chk17 (tbM0_0.view.readAt (Elt Ideal) (Rect.unit (s := S512) (k0_off57 i) S1.size (k0_off57_inb i)).toLoadRect xt0 (Shape.Idx.first (numel1_S1.symm ▸ Nat.one_pos)))) (k0_hw18 : k0_chk18 (tbM0_0.view.readAt (Elt Ideal) (Rect.unit (s := S512) (k0_off59 i) S1.size (k0_off59_inb i)).toLoadRect xt0 (Shape.Idx.first (numel1_S1.symm ▸ Nat.one_pos)))) (k0_hw19 : k0_chk19 (tbM0_0.view.readAt (Elt Ideal) (Rect.unit (s := S512) (k0_off61 i) S1.size (k0_off61_inb i)).toLoadRect xt0 (Shape.Idx.first (numel1_S1.symm ▸ Nat.one_pos)))) (k0_hw20 : k0_chk20 (tbM0_0.view.readAt (Elt Ideal) (Rect.unit (s := S512) (k0_off63 i) S1.size (k0_off63_inb i)).toLoadRect xt0 (Shape.Idx.first (numel1_S1.symm ▸ Nat.one_pos)))) (k0_hw21 : k0_chk21 (tbM0_0.view.readAt (Elt Ideal) (Rect.unit (s := S512) (k0_off65 i) S1.size (k0_off65_inb i)).toLoadRect xt0 (Shape.Idx.first (numel1_S1.symm ▸ Nat.one_pos)))) (k0_hw22 : k0_chk22 (tbM0_0.view.readAt (Elt Ideal) (Rect.unit (s := S512) (k0_off67 i) S1.size (k0_off67_inb i)).toLoadRect xt0 (Shape.Idx.first (numel1_S1.symm ▸ Nat.one_pos)))) (k0_hw23 : k0_chk23 (tbM0_0.view.readAt (Elt Ideal) (Rect.unit (s := S512) (k0_off69 i) S1.size (k0_off69_inb i)).toLoadRect xt0 (Shape.Idx.first (numel1_S1.symm ▸ Nat.one_pos)))) (k0_hw24 : k0_chk24 (tbM0_0.view.readAt (Elt Ideal) (Rect.unit (s := S512) (k0_off71 i) S1.size (k0_off71_inb i)).toLoadRect xt0 (Shape.Idx.first (numel1_S1.symm ▸ Nat.one_pos)))) (k0_hw25 : k0_chk25 (tbM0_0.view.readAt (Elt Ideal) (Rect.unit (s := S512) (k0_off73 i) S1.size (k0_off73_inb i)).toLoadRect xt0 (Shape.Idx.first (numel1_S1.symm ▸ Nat.one_pos)))) (k0_hw26 : k0_chk26 (tbM0_0.view.readAt (Elt Ideal) (Rect.unit (s := S512) (k0_off75 i) S1.size (k0_off75_inb i)).toLoadRect xt0 (Shape.Idx.first (numel1_S1.symm ▸ Nat.one_pos)))) (k0_hw27 : k0_chk27 (tbM0_0.view.readAt (Elt Ideal) (Rect.unit (s := S512) (k0_off77 i) S1.size (k0_off77_inb i)).toLoadRect xt0 (Shape.Idx.first (numel1_S1.symm ▸ Nat.one_pos)))) (k0_hw28 : k0_chk28 (tbM0_0.view.readAt (Elt Ideal) (Rect.unit (s := S512) (k0_off79 i) S1.size (k0_off79_inb i)).toLoadRect xt0 (Shape.Idx.first (numel1_S1.symm ▸ Nat.one_pos)))) (k0_hw29 : k0_chk29 (tbM0_0.view.readAt (Elt Ideal) (Rect.unit (s := S512) (k0_off81 i) S1.size (k0_off81_inb i)).toLoadRect xt0 (Shape.Idx.first (numel1_S1.symm ▸ Nat.one_pos)))) (k0_hw30 : k0_chk30 (tbM0_0.view.readAt (Elt Ideal) (Rect.unit (s := S512) (k0_off83 i) S1.size (k0_off83_inb i)).toLoadRect xt0 (Shape.Idx.first (numel1_S1.symm ▸ Nat.one_pos)))) (k0_hw31 : k0_chk31 (tbM0_0.view.readAt (Elt Ideal) (Rect.unit (s := S512) (k0_off85 i) S1.size (k0_off85_inb i)).toLoadRect xt0 (Shape.Idx.first (numel1_S1.symm ▸ Nat.one_pos)))) (k0_hw32 : k0_chk32 (tbM0_0.view.readAt (Elt Ideal) (Rect.unit (s := S512) (k0_off87 i) S1.size (k0_off87_inb i)).toLoadRect xt0 (Shape.Idx.first (numel1_S1.symm ▸ Nat.one_pos)))) (r : Fin 384) (b : Fin 1024) :
    out0_A_5 (F := Ideal) c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 (ix2 r b)
      = yAt x0 (wval x1 x2) (rowAt x3) (word c xt0) (32 * (i 1).val) x4 r b := by
  have hc := scover0_A_0 (F := Ideal) c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32
  have hs := sout_eq c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32
  have e := loop_pieces Variants.none c none i tbM0_0 htbM0_0 arg3 harg3 arg4 harg4 arg5 harg5 arg6 harg6 arg7 harg7 arg8 harg8 arg9 harg9 arg10 harg10 arg11 harg11 hc0 (harg4.unread x1) (harg5.unread x2) _ (le_refl _)
  rw [harg4.read_unread, harg5.read_unread] at e
  unfold out0_A_5
  rw [View.read_writes_eq_canon _ _ _ (cover0_A_5 (F := Ideal) c i arg3 harg3 arg4 harg4 arg5 harg5 arg6 harg6 arg7 harg7 arg8 harg8 arg9 harg9 arg10 harg10 arg11 harg11 hc0 x0 x1 x2 x3 x4 xt0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32)]
  unfold kernelRun0_A at hc ⊢
  dsimp only at hc ⊢
  sl_unfold_run_names
  rw [View.canon_unit_zero hz]
  rw [View.readCov_eq_canon_ld _ _ _ hc, View.ld_unit_zero (S := S5120x1024) hz, View.readAt_eq_ld, harg3.read_unread, View.ld_unit_zero (S := S384x5120) hz]
  have hW : View.canon (Val := Elt Ideal) (pb_k0_t1 (F := Ideal) Variants.none c none i tbM0_0 htbM0_0 arg3 harg3 arg4 harg4 arg5 harg5 arg6 harg6 arg7 harg7 arg8 harg8 arg9 harg9 arg10 harg10 arg11 harg11 hc0 (harg4.unread x1) (harg5.unread x2) k0_t1_loop.trips) = wval x1 x2 :=
    funext fun y => View.canon_apply_of_pieces (Val := Elt Ideal) (wval x1 x2) _ e y (hc y)
  erw [hW]
  exact pay218_apply x0 (wval x1 x2) (rowAt x3) (word c xt0) (32 * (i 1).val) x4
    _ _ _ _ _ _ _ _ _ _ _ _ _ _ _ _ _ _ _ _ _ _ _ _ _ _ _ _ _ _ _ _ _ _
    (piece_eq c arg6 harg6 x3 xt0 _ _ (32 * (i 1).val + 0) (congrFun (k0_off25_eq i) 0) _ _ _ rfl)
    (piece_eq c arg6 harg6 x3 xt0 _ _ (32 * (i 1).val + 1) (congrFun (k0_off27_eq i) 0) _ _ _ rfl)
    (piece_eq c arg6 harg6 x3 xt0 _ _ (32 * (i 1).val + 2) (congrFun (k0_off29_eq i) 0) _ _ _ rfl)
    (piece_eq c arg6 harg6 x3 xt0 _ _ (32 * (i 1).val + 3) (congrFun (k0_off31_eq i) 0) _ _ _ rfl)
    (piece_eq c arg6 harg6 x3 xt0 _ _ (32 * (i 1).val + 4) (congrFun (k0_off33_eq i) 0) _ _ _ rfl)
    (piece_eq c arg6 harg6 x3 xt0 _ _ (32 * (i 1).val + 5) (congrFun (k0_off35_eq i) 0) _ _ _ rfl)
    (piece_eq c arg6 harg6 x3 xt0 _ _ (32 * (i 1).val + 6) (congrFun (k0_off37_eq i) 0) _ _ _ rfl)
    (piece_eq c arg6 harg6 x3 xt0 _ _ (32 * (i 1).val + 7) (congrFun (k0_off39_eq i) 0) _ _ _ rfl)
    (piece_eq c arg6 harg6 x3 xt0 _ _ (32 * (i 1).val + 8) (congrFun (k0_off41_eq i) 0) _ _ _ rfl)
    (piece_eq c arg6 harg6 x3 xt0 _ _ (32 * (i 1).val + 9) (congrFun (k0_off43_eq i) 0) _ _ _ rfl)
    (piece_eq c arg6 harg6 x3 xt0 _ _ (32 * (i 1).val + 10) (congrFun (k0_off45_eq i) 0) _ _ _ rfl)
    (piece_eq c arg6 harg6 x3 xt0 _ _ (32 * (i 1).val + 11) (congrFun (k0_off47_eq i) 0) _ _ _ rfl)
    (piece_eq c arg6 harg6 x3 xt0 _ _ (32 * (i 1).val + 12) (congrFun (k0_off49_eq i) 0) _ _ _ rfl)
    (piece_eq c arg6 harg6 x3 xt0 _ _ (32 * (i 1).val + 13) (congrFun (k0_off51_eq i) 0) _ _ _ rfl)
    (piece_eq c arg6 harg6 x3 xt0 _ _ (32 * (i 1).val + 14) (congrFun (k0_off53_eq i) 0) _ _ _ rfl)
    (piece_eq c arg6 harg6 x3 xt0 _ _ (32 * (i 1).val + 15) (congrFun (k0_off55_eq i) 0) _ _ _ rfl)
    (piece_eq c arg6 harg6 x3 xt0 _ _ (32 * (i 1).val + 16 + 0) (congrFun (k0_off57_eq i) 0) _ _ _ rfl)
    (piece_eq c arg6 harg6 x3 xt0 _ _ (32 * (i 1).val + 16 + 1) (congrFun (k0_off59_eq i) 0) _ _ _ rfl)
    (piece_eq c arg6 harg6 x3 xt0 _ _ (32 * (i 1).val + 16 + 2) (congrFun (k0_off61_eq i) 0) _ _ _ rfl)
    (piece_eq c arg6 harg6 x3 xt0 _ _ (32 * (i 1).val + 16 + 3) (congrFun (k0_off63_eq i) 0) _ _ _ rfl)
    (piece_eq c arg6 harg6 x3 xt0 _ _ (32 * (i 1).val + 16 + 4) (congrFun (k0_off65_eq i) 0) _ _ _ rfl)
    (piece_eq c arg6 harg6 x3 xt0 _ _ (32 * (i 1).val + 16 + 5) (congrFun (k0_off67_eq i) 0) _ _ _ rfl)
    (piece_eq c arg6 harg6 x3 xt0 _ _ (32 * (i 1).val + 16 + 6) (congrFun (k0_off69_eq i) 0) _ _ _ rfl)
    (piece_eq c arg6 harg6 x3 xt0 _ _ (32 * (i 1).val + 16 + 7) (congrFun (k0_off71_eq i) 0) _ _ _ rfl)
    (piece_eq c arg6 harg6 x3 xt0 _ _ (32 * (i 1).val + 16 + 8) (congrFun (k0_off73_eq i) 0) _ _ _ rfl)
    (piece_eq c arg6 harg6 x3 xt0 _ _ (32 * (i 1).val + 16 + 9) (congrFun (k0_off75_eq i) 0) _ _ _ rfl)
    (piece_eq c arg6 harg6 x3 xt0 _ _ (32 * (i 1).val + 16 + 10) (congrFun (k0_off77_eq i) 0) _ _ _ rfl)
    (piece_eq c arg6 harg6 x3 xt0 _ _ (32 * (i 1).val + 16 + 11) (congrFun (k0_off79_eq i) 0) _ _ _ rfl)
    (piece_eq c arg6 harg6 x3 xt0 _ _ (32 * (i 1).val + 16 + 12) (congrFun (k0_off81_eq i) 0) _ _ _ rfl)
    (piece_eq c arg6 harg6 x3 xt0 _ _ (32 * (i 1).val + 16 + 13) (congrFun (k0_off83_eq i) 0) _ _ _ rfl)
    (piece_eq c arg6 harg6 x3 xt0 _ _ (32 * (i 1).val + 16 + 14) (congrFun (k0_off85_eq i) 0) _ _ _ rfl)
    (piece_eq c arg6 harg6 x3 xt0 _ _ (32 * (i 1).val + 16 + 15) (congrFun (k0_off87_eq i) 0) _ _ _ rfl)
    (fun r k => half_eq arg7 harg7 x4 0 _ r k _ (Nat.zero_add _).symm)
    (fun r k => half_eq arg7 harg7 x4 192 _ r k _ rfl) r b

set_option maxHeartbeats 8000000 in
/-- The block of `y` at a column tile's other grid points, over the weights the scratch holds. -/
theorem out_B_eq (c : Dev nD) (i : grid0.Coords) (arg3 : Memref sig .tc .vmem S384x5120 .bf16) (harg3 : arg3.IsWhole) (arg4 : Memref sig .tc .vmem S640x1024 .i32) (harg4 : arg4.IsWhole) (arg5 : Memref sig .tc .vmem S8x40x128 .i32) (harg5 : arg5.IsWhole) (arg6 : Memref sig .tc .vmem S896x1024 .bf16) (harg6 : arg6.IsWhole) (arg7 : Memref sig .tc .vmem S384x256 .bf16) (harg7 : arg7.IsWhole) (arg8 : Memref sig .tc .vmem S384x1024 .bf16) (harg8 : arg8.IsWhole) (arg9 : Memref sig .tc .vmem S384x1024 .fp8e4m3) (harg9 : arg9.IsWhole) (arg10 : Memref sig .tc .vmem S6144x256 .f32) (harg10 : arg10.IsWhole) (arg11 : Memref sig .tc .vmem S5120x1024 .bf16) (harg11 : arg11.IsWhole) (hc0 : ¬cond0_0 i)
    (x0 : Vec Ideal S384x5120 .bf16) (x1 : Vec Ideal S640x1024 .i32) (x2 : Vec Ideal S8x40x128 .i32) (x3 : Vec Ideal S896x1024 .bf16) (x4 : Vec Ideal S384x256 .bf16) (xt0 : TbBuf0 (F := Ideal) c tbM0_0) (xs0 : Vec Ideal S5120x1024 .bf16) (k0_hw1 : k0_chk1 (tbM0_0.view.readAt (Elt Ideal) (Rect.unit (s := S512) (k0_off25 i) S1.size (k0_off25_inb i)).toLoadRect xt0 (Shape.Idx.first (numel1_S1.symm ▸ Nat.one_pos)))) (k0_hw2 : k0_chk2 (tbM0_0.view.readAt (Elt Ideal) (Rect.unit (s := S512) (k0_off27 i) S1.size (k0_off27_inb i)).toLoadRect xt0 (Shape.Idx.first (numel1_S1.symm ▸ Nat.one_pos)))) (k0_hw3 : k0_chk3 (tbM0_0.view.readAt (Elt Ideal) (Rect.unit (s := S512) (k0_off29 i) S1.size (k0_off29_inb i)).toLoadRect xt0 (Shape.Idx.first (numel1_S1.symm ▸ Nat.one_pos)))) (k0_hw4 : k0_chk4 (tbM0_0.view.readAt (Elt Ideal) (Rect.unit (s := S512) (k0_off31 i) S1.size (k0_off31_inb i)).toLoadRect xt0 (Shape.Idx.first (numel1_S1.symm ▸ Nat.one_pos)))) (k0_hw5 : k0_chk5 (tbM0_0.view.readAt (Elt Ideal) (Rect.unit (s := S512) (k0_off33 i) S1.size (k0_off33_inb i)).toLoadRect xt0 (Shape.Idx.first (numel1_S1.symm ▸ Nat.one_pos)))) (k0_hw6 : k0_chk6 (tbM0_0.view.readAt (Elt Ideal) (Rect.unit (s := S512) (k0_off35 i) S1.size (k0_off35_inb i)).toLoadRect xt0 (Shape.Idx.first (numel1_S1.symm ▸ Nat.one_pos)))) (k0_hw7 : k0_chk7 (tbM0_0.view.readAt (Elt Ideal) (Rect.unit (s := S512) (k0_off37 i) S1.size (k0_off37_inb i)).toLoadRect xt0 (Shape.Idx.first (numel1_S1.symm ▸ Nat.one_pos)))) (k0_hw8 : k0_chk8 (tbM0_0.view.readAt (Elt Ideal) (Rect.unit (s := S512) (k0_off39 i) S1.size (k0_off39_inb i)).toLoadRect xt0 (Shape.Idx.first (numel1_S1.symm ▸ Nat.one_pos)))) (k0_hw9 : k0_chk9 (tbM0_0.view.readAt (Elt Ideal) (Rect.unit (s := S512) (k0_off41 i) S1.size (k0_off41_inb i)).toLoadRect xt0 (Shape.Idx.first (numel1_S1.symm ▸ Nat.one_pos)))) (k0_hw10 : k0_chk10 (tbM0_0.view.readAt (Elt Ideal) (Rect.unit (s := S512) (k0_off43 i) S1.size (k0_off43_inb i)).toLoadRect xt0 (Shape.Idx.first (numel1_S1.symm ▸ Nat.one_pos)))) (k0_hw11 : k0_chk11 (tbM0_0.view.readAt (Elt Ideal) (Rect.unit (s := S512) (k0_off45 i) S1.size (k0_off45_inb i)).toLoadRect xt0 (Shape.Idx.first (numel1_S1.symm ▸ Nat.one_pos)))) (k0_hw12 : k0_chk12 (tbM0_0.view.readAt (Elt Ideal) (Rect.unit (s := S512) (k0_off47 i) S1.size (k0_off47_inb i)).toLoadRect xt0 (Shape.Idx.first (numel1_S1.symm ▸ Nat.one_pos)))) (k0_hw13 : k0_chk13 (tbM0_0.view.readAt (Elt Ideal) (Rect.unit (s := S512) (k0_off49 i) S1.size (k0_off49_inb i)).toLoadRect xt0 (Shape.Idx.first (numel1_S1.symm ▸ Nat.one_pos)))) (k0_hw14 : k0_chk14 (tbM0_0.view.readAt (Elt Ideal) (Rect.unit (s := S512) (k0_off51 i) S1.size (k0_off51_inb i)).toLoadRect xt0 (Shape.Idx.first (numel1_S1.symm ▸ Nat.one_pos)))) (k0_hw15 : k0_chk15 (tbM0_0.view.readAt (Elt Ideal) (Rect.unit (s := S512) (k0_off53 i) S1.size (k0_off53_inb i)).toLoadRect xt0 (Shape.Idx.first (numel1_S1.symm ▸ Nat.one_pos)))) (k0_hw16 : k0_chk16 (tbM0_0.view.readAt (Elt Ideal) (Rect.unit (s := S512) (k0_off55 i) S1.size (k0_off55_inb i)).toLoadRect xt0 (Shape.Idx.first (numel1_S1.symm ▸ Nat.one_pos)))) (k0_hw17 : k0_chk17 (tbM0_0.view.readAt (Elt Ideal) (Rect.unit (s := S512) (k0_off57 i) S1.size (k0_off57_inb i)).toLoadRect xt0 (Shape.Idx.first (numel1_S1.symm ▸ Nat.one_pos)))) (k0_hw18 : k0_chk18 (tbM0_0.view.readAt (Elt Ideal) (Rect.unit (s := S512) (k0_off59 i) S1.size (k0_off59_inb i)).toLoadRect xt0 (Shape.Idx.first (numel1_S1.symm ▸ Nat.one_pos)))) (k0_hw19 : k0_chk19 (tbM0_0.view.readAt (Elt Ideal) (Rect.unit (s := S512) (k0_off61 i) S1.size (k0_off61_inb i)).toLoadRect xt0 (Shape.Idx.first (numel1_S1.symm ▸ Nat.one_pos)))) (k0_hw20 : k0_chk20 (tbM0_0.view.readAt (Elt Ideal) (Rect.unit (s := S512) (k0_off63 i) S1.size (k0_off63_inb i)).toLoadRect xt0 (Shape.Idx.first (numel1_S1.symm ▸ Nat.one_pos)))) (k0_hw21 : k0_chk21 (tbM0_0.view.readAt (Elt Ideal) (Rect.unit (s := S512) (k0_off65 i) S1.size (k0_off65_inb i)).toLoadRect xt0 (Shape.Idx.first (numel1_S1.symm ▸ Nat.one_pos)))) (k0_hw22 : k0_chk22 (tbM0_0.view.readAt (Elt Ideal) (Rect.unit (s := S512) (k0_off67 i) S1.size (k0_off67_inb i)).toLoadRect xt0 (Shape.Idx.first (numel1_S1.symm ▸ Nat.one_pos)))) (k0_hw23 : k0_chk23 (tbM0_0.view.readAt (Elt Ideal) (Rect.unit (s := S512) (k0_off69 i) S1.size (k0_off69_inb i)).toLoadRect xt0 (Shape.Idx.first (numel1_S1.symm ▸ Nat.one_pos)))) (k0_hw24 : k0_chk24 (tbM0_0.view.readAt (Elt Ideal) (Rect.unit (s := S512) (k0_off71 i) S1.size (k0_off71_inb i)).toLoadRect xt0 (Shape.Idx.first (numel1_S1.symm ▸ Nat.one_pos)))) (k0_hw25 : k0_chk25 (tbM0_0.view.readAt (Elt Ideal) (Rect.unit (s := S512) (k0_off73 i) S1.size (k0_off73_inb i)).toLoadRect xt0 (Shape.Idx.first (numel1_S1.symm ▸ Nat.one_pos)))) (k0_hw26 : k0_chk26 (tbM0_0.view.readAt (Elt Ideal) (Rect.unit (s := S512) (k0_off75 i) S1.size (k0_off75_inb i)).toLoadRect xt0 (Shape.Idx.first (numel1_S1.symm ▸ Nat.one_pos)))) (k0_hw27 : k0_chk27 (tbM0_0.view.readAt (Elt Ideal) (Rect.unit (s := S512) (k0_off77 i) S1.size (k0_off77_inb i)).toLoadRect xt0 (Shape.Idx.first (numel1_S1.symm ▸ Nat.one_pos)))) (k0_hw28 : k0_chk28 (tbM0_0.view.readAt (Elt Ideal) (Rect.unit (s := S512) (k0_off79 i) S1.size (k0_off79_inb i)).toLoadRect xt0 (Shape.Idx.first (numel1_S1.symm ▸ Nat.one_pos)))) (k0_hw29 : k0_chk29 (tbM0_0.view.readAt (Elt Ideal) (Rect.unit (s := S512) (k0_off81 i) S1.size (k0_off81_inb i)).toLoadRect xt0 (Shape.Idx.first (numel1_S1.symm ▸ Nat.one_pos)))) (k0_hw30 : k0_chk30 (tbM0_0.view.readAt (Elt Ideal) (Rect.unit (s := S512) (k0_off83 i) S1.size (k0_off83_inb i)).toLoadRect xt0 (Shape.Idx.first (numel1_S1.symm ▸ Nat.one_pos)))) (k0_hw31 : k0_chk31 (tbM0_0.view.readAt (Elt Ideal) (Rect.unit (s := S512) (k0_off85 i) S1.size (k0_off85_inb i)).toLoadRect xt0 (Shape.Idx.first (numel1_S1.symm ▸ Nat.one_pos)))) (k0_hw32 : k0_chk32 (tbM0_0.view.readAt (Elt Ideal) (Rect.unit (s := S512) (k0_off87 i) S1.size (k0_off87_inb i)).toLoadRect xt0 (Shape.Idx.first (numel1_S1.symm ▸ Nat.one_pos)))) (r : Fin 384) (b : Fin 1024) :
    out0_B_5 (F := Ideal) c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32 (ix2 r b)
      = yAt x0 xs0 (rowAt x3) (word c xt0) (32 * (i 1).val) x4 r b := by
  unfold out0_B_5
  rw [View.read_writes_eq_canon _ _ _ (cover0_B_5 (F := Ideal) c i arg3 harg3 arg4 harg4 arg5 harg5 arg6 harg6 arg7 harg7 arg8 harg8 arg9 harg9 arg10 harg10 arg11 harg11 hc0 x0 x1 x2 x3 x4 xt0 xs0 k0_hw1 k0_hw2 k0_hw3 k0_hw4 k0_hw5 k0_hw6 k0_hw7 k0_hw8 k0_hw9 k0_hw10 k0_hw11 k0_hw12 k0_hw13 k0_hw14 k0_hw15 k0_hw16 k0_hw17 k0_hw18 k0_hw19 k0_hw20 k0_hw21 k0_hw22 k0_hw23 k0_hw24 k0_hw25 k0_hw26 k0_hw27 k0_hw28 k0_hw29 k0_hw30 k0_hw31 k0_hw32)]
  unfold kernelRun0_B
  dsimp only
  sl_unfold_run_names
  rw [View.canon_unit_zero hz]
  rw [View.readAt_eq_ld, harg3.read_unread, View.ld_unit_zero (S := S384x5120) hz, View.readAt_eq_ld, harg11.read_unread, View.ld_unit_zero (S := S5120x1024) hz]
  exact pay218_apply x0 xs0 (rowAt x3) (word c xt0) (32 * (i 1).val) x4
    _ _ _ _ _ _ _ _ _ _ _ _ _ _ _ _ _ _ _ _ _ _ _ _ _ _ _ _ _ _ _ _ _ _
    (piece_eq c arg6 harg6 x3 xt0 _ _ (32 * (i 1).val + 0) (congrFun (k0_off25_eq i) 0) _ _ _ rfl)
    (piece_eq c arg6 harg6 x3 xt0 _ _ (32 * (i 1).val + 1) (congrFun (k0_off27_eq i) 0) _ _ _ rfl)
    (piece_eq c arg6 harg6 x3 xt0 _ _ (32 * (i 1).val + 2) (congrFun (k0_off29_eq i) 0) _ _ _ rfl)
    (piece_eq c arg6 harg6 x3 xt0 _ _ (32 * (i 1).val + 3) (congrFun (k0_off31_eq i) 0) _ _ _ rfl)
    (piece_eq c arg6 harg6 x3 xt0 _ _ (32 * (i 1).val + 4) (congrFun (k0_off33_eq i) 0) _ _ _ rfl)
    (piece_eq c arg6 harg6 x3 xt0 _ _ (32 * (i 1).val + 5) (congrFun (k0_off35_eq i) 0) _ _ _ rfl)
    (piece_eq c arg6 harg6 x3 xt0 _ _ (32 * (i 1).val + 6) (congrFun (k0_off37_eq i) 0) _ _ _ rfl)
    (piece_eq c arg6 harg6 x3 xt0 _ _ (32 * (i 1).val + 7) (congrFun (k0_off39_eq i) 0) _ _ _ rfl)
    (piece_eq c arg6 harg6 x3 xt0 _ _ (32 * (i 1).val + 8) (congrFun (k0_off41_eq i) 0) _ _ _ rfl)
    (piece_eq c arg6 harg6 x3 xt0 _ _ (32 * (i 1).val + 9) (congrFun (k0_off43_eq i) 0) _ _ _ rfl)
    (piece_eq c arg6 harg6 x3 xt0 _ _ (32 * (i 1).val + 10) (congrFun (k0_off45_eq i) 0) _ _ _ rfl)
    (piece_eq c arg6 harg6 x3 xt0 _ _ (32 * (i 1).val + 11) (congrFun (k0_off47_eq i) 0) _ _ _ rfl)
    (piece_eq c arg6 harg6 x3 xt0 _ _ (32 * (i 1).val + 12) (congrFun (k0_off49_eq i) 0) _ _ _ rfl)
    (piece_eq c arg6 harg6 x3 xt0 _ _ (32 * (i 1).val + 13) (congrFun (k0_off51_eq i) 0) _ _ _ rfl)
    (piece_eq c arg6 harg6 x3 xt0 _ _ (32 * (i 1).val + 14) (congrFun (k0_off53_eq i) 0) _ _ _ rfl)
    (piece_eq c arg6 harg6 x3 xt0 _ _ (32 * (i 1).val + 15) (congrFun (k0_off55_eq i) 0) _ _ _ rfl)
    (piece_eq c arg6 harg6 x3 xt0 _ _ (32 * (i 1).val + 16 + 0) (congrFun (k0_off57_eq i) 0) _ _ _ rfl)
    (piece_eq c arg6 harg6 x3 xt0 _ _ (32 * (i 1).val + 16 + 1) (congrFun (k0_off59_eq i) 0) _ _ _ rfl)
    (piece_eq c arg6 harg6 x3 xt0 _ _ (32 * (i 1).val + 16 + 2) (congrFun (k0_off61_eq i) 0) _ _ _ rfl)
    (piece_eq c arg6 harg6 x3 xt0 _ _ (32 * (i 1).val + 16 + 3) (congrFun (k0_off63_eq i) 0) _ _ _ rfl)
    (piece_eq c arg6 harg6 x3 xt0 _ _ (32 * (i 1).val + 16 + 4) (congrFun (k0_off65_eq i) 0) _ _ _ rfl)
    (piece_eq c arg6 harg6 x3 xt0 _ _ (32 * (i 1).val + 16 + 5) (congrFun (k0_off67_eq i) 0) _ _ _ rfl)
    (piece_eq c arg6 harg6 x3 xt0 _ _ (32 * (i 1).val + 16 + 6) (congrFun (k0_off69_eq i) 0) _ _ _ rfl)
    (piece_eq c arg6 harg6 x3 xt0 _ _ (32 * (i 1).val + 16 + 7) (congrFun (k0_off71_eq i) 0) _ _ _ rfl)
    (piece_eq c arg6 harg6 x3 xt0 _ _ (32 * (i 1).val + 16 + 8) (congrFun (k0_off73_eq i) 0) _ _ _ rfl)
    (piece_eq c arg6 harg6 x3 xt0 _ _ (32 * (i 1).val + 16 + 9) (congrFun (k0_off75_eq i) 0) _ _ _ rfl)
    (piece_eq c arg6 harg6 x3 xt0 _ _ (32 * (i 1).val + 16 + 10) (congrFun (k0_off77_eq i) 0) _ _ _ rfl)
    (piece_eq c arg6 harg6 x3 xt0 _ _ (32 * (i 1).val + 16 + 11) (congrFun (k0_off79_eq i) 0) _ _ _ rfl)
    (piece_eq c arg6 harg6 x3 xt0 _ _ (32 * (i 1).val + 16 + 12) (congrFun (k0_off81_eq i) 0) _ _ _ rfl)
    (piece_eq c arg6 harg6 x3 xt0 _ _ (32 * (i 1).val + 16 + 13) (congrFun (k0_off83_eq i) 0) _ _ _ rfl)
    (piece_eq c arg6 harg6 x3 xt0 _ _ (32 * (i 1).val + 16 + 14) (congrFun (k0_off85_eq i) 0) _ _ _ rfl)
    (piece_eq c arg6 harg6 x3 xt0 _ _ (32 * (i 1).val + 16 + 15) (congrFun (k0_off87_eq i) 0) _ _ _ rfl)
    (fun r k => half_eq arg7 harg7 x4 0 _ r k _ (Nat.zero_add _).symm)
    (fun r k => half_eq arg7 harg7 x4 192 _ r k _ rfl) r b

end Cert.KernelIdeal.Val
-- ==== Proof.Value.Blocks.lean ====
/- The input blocks of a grid point, read at an element of the arrays they are cut from. -/
module

public import proofs.«01_k».proof.Proof.Value.Block

@[expose] public section

set_option maxRecDepth 16384

noncomputable section

namespace Cert.KernelIdeal.Val

open Idealize.ShloMosaic Idealize.ShloMosaic.TcCoe
open Cert.KernelIdeal.Gen

variable (m : (ℓ : Loc nD τ sig) → Buf (Elt Ideal) ℓ)

theorem coords_eq : ∀ t : Fin grid0.N, ((grid0.coords t) 0).val = t.val / 16 ∧ ((grid0.coords t) 1).val = t.val % 16 := by decide +kernel
theorem index_0 : ∀ t : Fin grid0.N, cc0_transform_0 (grid0.coords t) = ![t.val % 16, 0] := by decide +kernel
theorem index_1 : ∀ t : Fin grid0.N, cc0_transform_1 (grid0.coords t) = ![0, t.val / 16] := by decide +kernel
theorem index_2 : ∀ t : Fin grid0.N, cc0_transform_2 (grid0.coords t) = ![t.val / 16, 0, 0] := by decide +kernel
theorem index_3 : ∀ t : Fin grid0.N, cc0_transform_3 (grid0.coords t) = ![0, t.val / 16] := by decide +kernel
theorem index_4 : ∀ t : Fin grid0.N, cc0_transform_4 (grid0.coords t) = ![t.val % 16, 0] := by decide +kernel
theorem index_5 : ∀ t : Fin grid0.N, cc0_transform_5 (grid0.coords t) = ![t.val % 16, t.val / 16] := by decide +kernel

theorem N_lt (t : Fin grid0.N) : t.val < 432 := lt_of_lt_of_eq t.isLt (show grid0.N = 432 from by decide +kernel)

/-- The rows of `x`, flat, as the region finds them. -/
abbrev xf (c : Dev nD) : Vec Ideal S6144x5120 .bf16 := V m c main_v0
/-- The scale words, doubled, as the region finds them. -/
abbrev sd (c : Dev nD) : Vec Ideal S216x40x128 .i32 := V m c main_v7

theorem iblk_0 (hO : Ok m) (c : Dev nD) (t : Fin (cfgM m hO).N) (r : Fin 384) (k : Fin 5120) (h : 384 * (t.val % 16) + r.val < 6144) :
    (iblk m hO c 0 t : Vec Ideal S384x5120 .bf16) (ix2 r k) = xf m c (ix2 ⟨384 * (t.val % 16) + r.val, h⟩ k) := by
  unfold iblk
  refine (View.read_apply (Val := Elt Ideal) _ _).trans ?_
  show V m c main_v0 _ = V m c main_v0 _
  refine congrArg (V m c main_v0) (funext fun a => Fin.ext ?_)
  match a with
  | ⟨0, _⟩ => show cc0_transform_0 (grid0.coords t) 0 * 384 + 1 * r.val = 384 * (t.val % 16) + r.val; rw [index_0 t]; show t.val % 16 * 384 + 1 * r.val = _; omega
  | ⟨1, _⟩ => show cc0_transform_0 (grid0.coords t) 1 * 5120 + 1 * k.val = k.val; rw [index_0 t]; show 0 * 5120 + 1 * k.val = _; omega

theorem iblk_1 (hO : Ok m) (c : Dev nD) (t : Fin (cfgM m hO).N) (r : Fin 640) (b : Fin 1024) (h : 1024 * (t.val / 16) + b.val < 27648) :
    (iblk m hO c 1 t : Vec Ideal S640x1024 .i32) (ix2 r b) = (V m c main_arg2 : Vec Ideal S640x27648 .i32) (ix2 r ⟨1024 * (t.val / 16) + b.val, h⟩) := by
  unfold iblk
  refine (View.read_apply (Val := Elt Ideal) _ _).trans ?_
  show V m c main_arg2 _ = V m c main_arg2 _
  refine congrArg (V m c main_arg2) (funext fun a => Fin.ext ?_)
  match a with
  | ⟨0, _⟩ => show cc0_transform_1 (grid0.coords t) 0 * 640 + 1 * r.val = r.val; rw [index_1 t]; show 0 * 640 + 1 * r.val = _; omega
  | ⟨1, _⟩ => show cc0_transform_1 (grid0.coords t) 1 * 1024 + 1 * b.val = 1024 * (t.val / 16) + b.val; rw [index_1 t]; show t.val / 16 * 1024 + 1 * b.val = _; omega

theorem iblk_2 (hO : Ok m) (c : Dev nD) (t : Fin (cfgM m hO).N) (p : Fin 8) (q : Fin 40) (l : Fin 128) (h : 8 * (t.val / 16) + p.val < 216) :
    (iblk m hO c 2 t : Vec Ideal S8x40x128 .i32) (ix3 p q l) = sd m c (ix3 ⟨8 * (t.val / 16) + p.val, h⟩ q l) := by
  unfold iblk
  refine (View.read_apply (Val := Elt Ideal) _ _).trans ?_
  show V m c main_v7 _ = V m c main_v7 _
  refine congrArg (V m c main_v7) (funext fun a => Fin.ext ?_)
  match a with
  | ⟨0, _⟩ => show cc0_transform_2 (grid0.coords t) 0 * 8 + 1 * p.val = 8 * (t.val / 16) + p.val; rw [index_2 t]; show t.val / 16 * 8 + 1 * p.val = _; omega
  | ⟨1, _⟩ => show cc0_transform_2 (grid0.coords t) 1 * 40 + 1 * q.val = q.val; rw [index_2 t]; show 0 * 40 + 1 * q.val = _; omega
  | ⟨2, _⟩ => show cc0_transform_2 (grid0.coords t) 2 * 128 + 1 * l.val = l.val; rw [index_2 t]; show 0 * 128 + 1 * l.val = _; omega

theorem iblk_4 (hO : Ok m) (c : Dev nD) (t : Fin (cfgM m hO).N) (r : Fin 384) (k : Fin 256) (h : 384 * (t.val % 16) + r.val < 6144) :
    (iblk m hO c 4 t : Vec Ideal S384x256 .bf16) (ix2 r k) = (V m c main_arg5 : Vec Ideal S6144x256 .bf16) (ix2 ⟨384 * (t.val % 16) + r.val, h⟩ k) := by
  unfold iblk
  refine (View.read_apply (Val := Elt Ideal) _ _).trans ?_
  show V m c main_arg5 _ = V m c main_arg5 _
  refine congrArg (V m c main_arg5) (funext fun a => Fin.ext ?_)
  match a with
  | ⟨0, _⟩ => show cc0_transform_4 (grid0.coords t) 0 * 384 + 1 * r.val = 384 * (t.val % 16) + r.val; rw [index_4 t]; show t.val % 16 * 384 + 1 * r.val = _; omega
  | ⟨1, _⟩ => show cc0_transform_4 (grid0.coords t) 1 * 256 + 1 * k.val = k.val; rw [index_4 t]; show 0 * 256 + 1 * k.val = _; omega

/-- The pool rows a grid point holds: the first 896 rows of the pool, at the column tile's columns. -/
theorem pool_3 (hO : Ok m) (c : Dev nD) (t : Fin (cfgM m hO).N) (r : Fin 896) (b : Fin 1024) (hr : r.val < 1500) (h : 1024 * (t.val / 16) + b.val < 27648) :
    (X0_3 m hO c t : Vec Ideal S896x1024 .bf16) (ix2 r b) = (V m c main_arg4 : Vec Ideal S1500x27648 .bf16) (ix2 ⟨r.val, hr⟩ ⟨1024 * (t.val / 16) + b.val, h⟩) := by
  unfold X0_3 Pipeline.Window.fill
  refine (dif_pos (moved0_3 m hO t (ix2 r b : S896x1024.Idx))).trans ?_
  unfold iblk
  refine (View.read_apply (Val := Elt Ideal) _ _).trans ?_
  show V m c main_arg4 _ = V m c main_arg4 _
  refine congrArg (V m c main_arg4) (funext fun a => Fin.ext ?_)
  match a with
  | ⟨0, _⟩ => show cc0_transform_3 (grid0.coords t) 0 * 896 + 1 * r.val = r.val; rw [index_3 t]; show 0 * 896 + 1 * r.val = _; omega
  | ⟨1, _⟩ => show cc0_transform_3 (grid0.coords t) 1 * 1024 + 1 * b.val = 1024 * (t.val / 16) + b.val; rw [index_3 t]; show t.val / 16 * 1024 + 1 * b.val = _; omega

end Cert.KernelIdeal.Val
-- ==== Proof.Value.Ref.lean ====
/- The reference's `y`, element by element. -/
module

public import proofs.«01_k».proof.Proof.Value.Tile
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.ReferenceIdeal.Val

open Idealize.ShloMosaic Idealize.ShloMosaic.TcCoe
open Cert.ReferenceIdeal Cert.ReferenceIdeal.Gen Cert.ReferenceIdeal.Value
open Cert.KernelIdeal.Val (nib sval nib_lt)

/-- The weight of row `k` and column `b`: the signed field of its packed word times the float of its scale word. -/
def gW (w : IVec S640x27648 32) (s : IVec S40x27648 16) (k : Fin 5120) (b : Fin 27648) : EReal :=
  sval (nib (w (ix2 (⟨k.val / 8, by omega⟩ : Fin 640) b)) (k.val % 8)) * Ideal.ofBits .bf16 (s (ix2 (⟨k.val / 128, by omega⟩ : Fin 40) b))

/-- Row `n` of the pool at column `b`; nothing past its last row. -/
def poolAt (p : Vec Ideal S1500x27648 .bf16) (n : ℕ) (b : Fin 27648) : EReal := if h : n < 1500 then p (ix2 (⟨n, h⟩ : Fin 1500) b) else 0

/-- Element `(a, b)` of the result: the row of `x` against the column of weights, and the row of `hext` against the pool rows its
    segment of the table names. -/
def result (T : IVec S512 32) (x : Vec Ideal S24x256x5120 .bf16) (w : IVec S640x27648 32) (s : IVec S40x27648 16)
    (p : Vec Ideal S1500x27648 .bf16) (e : Vec Ideal S6144x256 .bf16) (a : Fin 6144) (b : Fin 27648) : EReal :=
  (∑ k : Fin 5120, x (ix3 (⟨a.val / 256, by omega⟩ : Fin 24) (⟨a.val % 256, Nat.mod_lt _ (by decide)⟩ : Fin 256) k) * gW w s k b)
    + ∑ k : Fin 256, e (ix2 a k) * poolAt p ((T (ix1 (⟨16 * (a.val / 192) + k.val / 16, by omega⟩ : Fin 512)) * 16#32).toNat + k.val % 16) b

theorem shift_and (w : BitVec 32) (n : ℕ) (h : n ≤ 28) : (w.sshiftRight n) &&& 15#32 = (w >>> n) &&& 15#32 := by
  refine BitVec.eq_of_getLsbD_eq fun i hi => ?_
  rw [BitVec.getLsbD_and, BitVec.getLsbD_and]
  by_cases h4 : i < 4
  · congr 1
    rw [BitVec.getLsbD_sshiftRight, BitVec.getLsbD_ushiftRight]
    simp [show n + i < 32 by omega, show ¬ 32 ≤ i by omega]
  · have : (15#32).getLsbD i = false := by
      rw [BitVec.getLsbD_ofNat]
      simp only [Bool.and_eq_false_imp, decide_eq_true_eq]
      intro _
      refine Nat.testBit_lt_two_pow (lt_of_lt_of_le (by decide : 15 < 2 ^ 4) (Nat.pow_le_pow_right (by decide) (by omega)))
    rw [this, Bool.and_false, Bool.and_false]

theorem signed_fin : ∀ n : Fin 16, (BitVec.ofNat 32 n.val - 16#32 * (IntOp.cmpi .sge (BitVec.ofNat 32 n.val) 8#32).zeroExtend 32).toInt
    = (if n.val < 8 then (n.val : ℤ) else (n.val : ℤ) - 16) := by decide +kernel

theorem signed_eq (f : BitVec 32) (h : f.toNat < 16) : (((f - 16#32 * (IntOp.cmpi .sge f 8#32).zeroExtend 32).toInt : ℝ) : EReal) = sval f := by
  have := signed_fin ⟨f.toNat, h⟩
  rw [show BitVec.ofNat 32 f.toNat = f from BitVec.ofNat_toNat .. |>.trans (BitVec.setWidth_eq f)] at this
  unfold sval
  rw [this]

/-- The gather of rows: the operand's row the start index names, read signed and clamped. -/
theorem gather_rows (x : Vec Ideal S1500x27648 .bf16) (idx : IVec S32x256x1 32) (s : Fin 32) (k : Fin 256) (b : Fin 27648) :
    Host.gather gather_S1500x27648_S32x256x1_S32x256x27648_2_0_n_n_0_2_127648 x idx (ix3 s k b)
      = x (ix2 (⟨min (idx (ix3 s k (0 : Fin 1))).toInt.toNat 1499, by omega⟩ : Fin 1500) b) := by
  unfold Host.gather
  congr 1
  funext a
  refine Fin.ext ?_
  generalize hd : gather_S1500x27648_S32x256x1_S32x256x27648_2_0_n_n_0_2_127648 = d
  show d.start (ix3 s k b) idx a + d.batchCoord (ix3 s k b) a + d.offCoord (ix3 s k b) a = _
  have hb : a ∉ d.operandBatchingDims := by subst hd; exact List.not_mem_nil
  rw [GatherDims.batchCoord_eq_zero _ _ _ hb]
  subst hd
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1500x27648_S32x256x1_S32x256x27648_2_0_n_n_0_2_127648.startIndexMap from List.mem_singleton.mpr rfl)]
    have hsi : gather_S1500x27648_S32x256x1_S32x256x27648_2_0_n_n_0_2_127648.siIdx (ix3 s k b) ⟨List.idxOf (0 : Fin 2) gather_S1500x27648_S32x256x1_S32x256x27648_2_0_n_n_0_2_127648.startIndexMap,
        List.idxOf_lt_length_iff.2 (List.mem_singleton.mpr rfl)⟩ = ix3 s k (0 : Fin 1) := by
      funext c; refine Fin.ext ?_
      match c with
      | ⟨0, _⟩ => rfl
      | ⟨1, _⟩ => rfl
      | ⟨2, _⟩ => rfl
    rw [hsi]
    rfl
  · have hs : gather_S1500x27648_S32x256x1_S32x256x27648_2_0_n_n_0_2_127648.start (ix3 s k b) idx 1 = 0 := by
      unfold GatherDims.start
      rw [dif_neg (show (1 : Fin 2) ∉ gather_S1500x27648_S32x256x1_S32x256x27648_2_0_n_n_0_2_127648.startIndexMap from (by decide : (1 : Fin 2) ∉ ([0] : List (Fin 2))))]
    rw [hs]
    unfold GatherDims.offCoord
    rw [dif_pos (show (1 : Fin 2) ∈ gather_S1500x27648_S32x256x1_S32x256x27648_2_0_n_n_0_2_127648.sKept from (GatherDims.mem_sKept _ _).mpr ⟨by decide, List.not_mem_nil⟩)]
    simp only [Nat.zero_add]
    rfl

theorem sum_regroup (f : Fin 5120 → EReal) : ∑ k : Fin 5120, f k
    = (((((((∑ i : Fin 640, f ⟨8 * i.val + 0, by omega⟩) + ∑ i : Fin 640, f ⟨8 * i.val + 1, by omega⟩) + ∑ i : Fin 640, f ⟨8 * i.val + 2, by omega⟩)
      + ∑ i : Fin 640, f ⟨8 * i.val + 3, by omega⟩) + ∑ i : Fin 640, f ⟨8 * i.val + 4, by omega⟩) + ∑ i : Fin 640, f ⟨8 * i.val + 5, by omega⟩)
      + ∑ i : Fin 640, f ⟨8 * i.val + 6, by omega⟩) + ∑ i : Fin 640, f ⟨8 * i.val + 7, by omega⟩ := by
  have e : ∑ k : Fin 5120, f k = ∑ q : Fin 640 × Fin 8, f ⟨8 * q.1.val + q.2.val, by omega⟩ := by
    refine (Equiv.sum_comp (finProdFinEquiv (m := 640) (n := 8)) (fun k : Fin (640 * 8) => f k)).symm.trans (Finset.sum_congr rfl fun q _ => congrArg f (Fin.ext ?_))
    show q.2.val + 8 * q.1.val = 8 * q.1.val + q.2.val
    omega
  rw [e, Fintype.sum_prod_type, Finset.sum_comm, Fin.sum_univ_eight]
  rfl

/-- What row `k` of the weights adds to element `(a, b)`. -/
def term (x : Vec Ideal S24x256x5120 .bf16) (w : IVec S640x27648 32) (s : IVec S40x27648 16) (a : Fin 6144) (b : Fin 27648) (k : Fin 5120) : EReal :=
  x (ix3 (⟨a.val / 256, by omega⟩ : Fin 24) (⟨a.val % 256, Nat.mod_lt _ (by decide)⟩ : Fin 256) k) * gW w s k b

abbrev A0 (V0 : Valuation τ sig (Elt Ideal)) : IVec S512 32 := V0 (Proc.devRef .tc main_arg0)
abbrev A1 (V0 : Valuation τ sig (Elt Ideal)) : Vec Ideal S24x256x5120 .bf16 := V0 (Proc.devRef .tc main_arg1)
abbrev A2 (V0 : Valuation τ sig (Elt Ideal)) : IVec S640x27648 32 := V0 (Proc.devRef .tc main_arg2)
abbrev A3 (V0 : Valuation τ sig (Elt Ideal)) : IVec S40x27648 16 := V0 (Proc.devRef .tc main_arg3)
abbrev A4 (V0 : Valuation τ sig (Elt Ideal)) : Vec Ideal S1500x27648 .bf16 := V0 (Proc.devRef .tc main_arg4)
abbrev A5 (V0 : Valuation τ sig (Elt Ideal)) : Vec Ideal S6144x256 .bf16 := V0 (Proc.devRef .tc main_arg5)

/-- The reference's reading of a four-bit field: shifted down, masked, and sixteen less from eight on. -/
theorem weight_eq (w : BitVec 32) (j : ℕ) (hj : j < 8) (c : BitVec 32) (hc : c = BitVec.ofNat 32 (4 * j)) :
    (FloatOps.sitofp .bf16 (IntOp.subi (IntOp.andi (IntOp.shrsi .host w c) 15#32)
      (IntOp.muli 16#32 (BitVec.setWidth 32 (IntOp.cmpi .sge (IntOp.andi (IntOp.shrsi .host w c) 15#32) 8#32)))) : Ideal .bf16) = sval (nib w j) := by
  have e : IntOp.andi (IntOp.shrsi .host w c) 15#32 = nib w j := by
    subst hc
    have hn : (BitVec.ofNat 32 (4 * j)).toNat = 4 * j := by rw [BitVec.toNat_ofNat]; omega
    unfold IntOp.shrsi IntOp.andi nib
    rw [if_pos (by rw [hn]; omega)]
    show w.sshiftRight (BitVec.ofNat 32 (4 * j)).toNat &&& 15#32 = _
    rw [hn]
    exact shift_and w (4 * j) (by omega)
  rw [e]
  exact signed_eq _ (nib_lt w j)

theorem term_eq (x : Vec Ideal S24x256x5120 .bf16) (w : IVec S640x27648 32) (s : IVec S40x27648 16) (a : Fin 6144) (b : Fin 27648) (i : Fin 640)
    (j : ℕ) (hj : j < 8) (c : BitVec 32) (hc : c = BitVec.ofNat 32 (4 * j)) (k : Fin 5120) (hk : k.val = 8 * i.val + j) (hb : 8 * i.val + j < 5120) (q : Fin 40) (hq : q.val = i.val / 16) :
    x (ix3 (⟨a.val / 256, by omega⟩ : Fin 24) (⟨a.val % 256, Nat.mod_lt _ (by decide)⟩ : Fin 256) k)
      * ((FloatOps.sitofp .bf16 (IntOp.subi (IntOp.andi (IntOp.shrsi .host (w (ix2 i b)) c) 15#32)
          (IntOp.muli 16#32 (BitVec.setWidth 32 (IntOp.cmpi .sge (IntOp.andi (IntOp.shrsi .host (w (ix2 i b)) c) 15#32) 8#32)))) : Ideal .bf16)
        * Ideal.ofBits .bf16 (s (ix2 q b)))
      = term x w s a b ⟨8 * i.val + j, hb⟩ := by
  have hkk : k = ⟨8 * i.val + j, hb⟩ := Fin.ext hk
  rw [hkk]
  rw [weight_eq _ j hj c hc]
  unfold term gW
  have e1 : (⟨(8 * i.val + j) / 8, by omega⟩ : Fin 640) = i := Fin.ext (by show (8 * i.val + j) / 8 = i.val; omega)
  have e2 : (⟨(8 * i.val + j) / 128, by omega⟩ : Fin 40) = q := Fin.ext (by show (8 * i.val + j) / 128 = q.val; omega)
  have e3 : (8 * i.val + j) % 8 = j := by omega
  simp only [e1, e2, e3]

theorem part0 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 0] ![1, 8] (res_main_v0 V0) slicesBy_S6144x5120_S6144x640_0s1_0s8) (mulf (sitofp .bf16 (subi (res_main_v7 V0) (muli (broadcastInDim S640x27648 ![] bcast_S_S640x27648 (constantI S_ 32 16#32)) (extui 32 (cmpi .sge (res_main_v7 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 0, by omega⟩ := by
  pointwise [res_main_v7, res_main_v0, res_main_v3]
  exact Finset.sum_congr rfl fun i _ => term_eq (A1 V0) (A2 V0) (A3 V0) a b i 0 (by decide) _ rfl _ (by first | omega | (simp; done) | (simp; omega)) _ _ rfl

theorem part1 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 1] ![1, 8] (res_main_v0 V0) slicesBy_S6144x5120_S6144x640_0s1_1s8) (mulf (sitofp .bf16 (subi (res_main_v21 V0) (muli (broadcastInDim S640x27648 ![] bcast_S_S640x27648 (constantI S_ 32 16#32)) (extui 32 (cmpi .sge (res_main_v21 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 1, by omega⟩ := by
  pointwise [res_main_v21, res_main_v0, res_main_v3]
  exact Finset.sum_congr rfl fun i _ => term_eq (A1 V0) (A2 V0) (A3 V0) a b i 1 (by decide) _ rfl _ (by first | omega | (simp; done) | (simp; omega)) _ _ rfl

theorem part2 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 2] ![1, 8] (res_main_v0 V0) slicesBy_S6144x5120_S6144x640_0s1_2s8) (mulf (sitofp .bf16 (subi (res_main_v36 V0) (muli (broadcastInDim S640x27648 ![] bcast_S_S640x27648 (constantI S_ 32 16#32)) (extui 32 (cmpi .sge (res_main_v36 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 2, by omega⟩ := by
  pointwise [res_main_v36, res_main_v0, res_main_v3]
  exact Finset.sum_congr rfl fun i _ => term_eq (A1 V0) (A2 V0) (A3 V0) a b i 2 (by decide) _ rfl _ (by first | omega | (simp; done) | (simp; omega)) _ _ rfl

theorem part3 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 3] ![1, 8] (res_main_v0 V0) slicesBy_S6144x5120_S6144x640_0s1_3s8) (mulf (sitofp .bf16 (subi (res_main_v51 V0) (muli (broadcastInDim S640x27648 ![] bcast_S_S640x27648 (constantI S_ 32 16#32)) (extui 32 (cmpi .sge (res_main_v51 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 3, by omega⟩ := by
  pointwise [res_main_v51, res_main_v0, res_main_v3]
  exact Finset.sum_congr rfl fun i _ => term_eq (A1 V0) (A2 V0) (A3 V0) a b i 3 (by decide) _ rfl _ (by first | omega | (simp; done) | (simp; omega)) _ _ rfl

theorem part4 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 4] ![1, 8] (res_main_v0 V0) slicesBy_S6144x5120_S6144x640_0s1_4s8) (mulf (sitofp .bf16 (subi (res_main_v66 V0) (muli (broadcastInDim S640x27648 ![] bcast_S_S640x27648 (constantI S_ 32 16#32)) (extui 32 (cmpi .sge (res_main_v66 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 4, by omega⟩ := by
  pointwise [res_main_v66, res_main_v0, res_main_v3]
  exact Finset.sum_congr rfl fun i _ => term_eq (A1 V0) (A2 V0) (A3 V0) a b i 4 (by decide) _ rfl _ (by first | omega | (simp; done) | (simp; omega)) _ _ rfl

theorem part5 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 5] ![1, 8] (res_main_v0 V0) slicesBy_S6144x5120_S6144x640_0s1_5s8) (mulf (sitofp .bf16 (subi (res_main_v81 V0) (muli (broadcastInDim S640x27648 ![] bcast_S_S640x27648 (constantI S_ 32 16#32)) (extui 32 (cmpi .sge (res_main_v81 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 5, by omega⟩ := by
  pointwise [res_main_v81, res_main_v0, res_main_v3]
  exact Finset.sum_congr rfl fun i _ => term_eq (A1 V0) (A2 V0) (A3 V0) a b i 5 (by decide) _ rfl _ (by first | omega | (simp; done) | (simp; omega)) _ _ rfl

theorem part6 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 6] ![1, 8] (res_main_v0 V0) slicesBy_S6144x5120_S6144x640_0s1_6s8) (mulf (sitofp .bf16 (subi (res_main_v96 V0) (muli (broadcastInDim S640x27648 ![] bcast_S_S640x27648 (constantI S_ 32 16#32)) (extui 32 (cmpi .sge (res_main_v96 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 6, by omega⟩ := by
  pointwise [res_main_v96, res_main_v0, res_main_v3]
  exact Finset.sum_congr rfl fun i _ => term_eq (A1 V0) (A2 V0) (A3 V0) a b i 6 (by decide) _ rfl _ (by first | omega | (simp; done) | (simp; omega)) _ _ rfl

theorem part7 (V0 : Valuation τ sig (Elt Ideal)) (a : Fin 6144) (b : Fin 27648) :
    (Host.dotGeneral (F := Ideal) (φ₁ := .bf16) (φ₂ := .bf16) dot_S6144x640_S640x27648_S6144x27648_1_0_0_1_n_n none (Host.slice S6144x640 ![0, 7] ![1, 8] (res_main_v0 V0) slicesBy_S6144x5120_S6144x640_0s1_7s8) (mulf (sitofp .bf16 (subi (res_main_v111 V0) (muli (broadcastInDim S640x27648 ![] bcast_S_S640x27648 (constantI S_ 32 16#32)) (extui 32 (cmpi .sge (res_main_v111 V0) (broadcastInDim S640x27648 ![] bcast_S_S640x27648 (constantI S_ 32 8#32))) natLt_1_32)))) (res_main_v3 V0)) : Vec Ideal S6144x27648 .f32) (ix2 a b)
      = ∑ i : Fin 640, term (A1 V0) (A2 V0) (A3 V0) a b ⟨8 * i.val + 7, by omega⟩ := by
  pointwise [res_main_v111, res_main_v0, res_main_v3]
  exact Finset.sum_congr rfl fun i _ => term_eq (A1 V0) (A2 V0) (A3 V0) a b i 7 (by decide) _ rfl _ (by first | omega | (simp; done) | (simp; omega)) _ _ rfl

theorem dot_pt (e : Vec Ideal S6144x256 .bf16) (G : Vec Ideal S32x256x27648 .bf16) (a : Fin 6144) (b : Fin 27648) :
    (shapeCast S6144x27648 (Host.dotGeneral (F := Ideal) (φ₁ := .bf16) (φ₂ := .bf16) dot_S32x192x256_S32x256x27648_S32x192x27648_2_1_1_2_0_0 none (shapeCast S32x192x256 e shapeCasts_S6144x256_S32x192x256) G) shapeCasts_S32x192x27648_S6144x27648 : Vec Ideal S6144x27648 .f32) (ix2 a b)
      = ∑ k : Fin 256, e (ix2 a k) * G (ix3 (⟨a.val / 192, by omega⟩ : Fin 32) k b) := by
  pointwise []

/-- The index of the pool's row, before the wrap. -/
theorem idx_pt (V0 : Valuation τ sig (Elt Ideal)) (s : Fin 32) (k : Fin 256) :
    (res_main_v131 V0 : IVec S32x256 32) (ix2 s k)
      = A0 V0 (ix1 (⟨16 * s.val + k.val / 16, by omega⟩ : Fin 512)) * 16#32 + BitVec.ofNat 32 (k.val % 16) := by
  pointwise [res_main_v131]
  exact congrArg (fun q : Fin 512 => A0 V0 (ix1 q) * 16#32 + BitVec.ofNat 32 (k.val % 16)) (Fin.ext (by show s.val * 16 + k.val / 16 = 16 * s.val + k.val / 16; omega))

theorem wrap_pt (v : IVec S32x256 32) (s : Fin 32) (k : Fin 256) (h : (v (ix2 s k)).toNat < 2 ^ 31) :
    broadcastInDim S32x256x1 ![0, 1] bcast_S32x256_S32x256x1_0_1 (select (cmpi .slt v (broadcastInDim S32x256 ![] bcast_S_S32x256 (constantI S_ 32 0#32))) (addi v (broadcastInDim S32x256 ![] bcast_S_S32x256 (constantI S_ 32 1500#32))) v) (ix3 s k (0 : Fin 1)) = v (ix2 s k) := by
  pointwise []
  exact Routing.wrap_of_lt _ _ h

theorem row_toNat (v : BitVec 32) (h : v.toNat ≤ 55) (n : ℕ) (hn : n < 16) : (v * 16#32 + BitVec.ofNat 32 n).toNat = (v * 16#32).toNat + n := by
  rw [BitVec.toNat_add, BitVec.toNat_mul, BitVec.toNat_ofNat, BitVec.toNat_ofNat]
  omega

theorem delta_pt (V0 : Valuation τ sig (Elt Ideal)) (hT : ∀ w : S512.Idx, (A0 V0 w).toNat ≤ 55) (a : Fin 6144) (b : Fin 27648) :
    (shapeCast S6144x27648 (Host.dotGeneral (F := Ideal) (φ₁ := .bf16) (φ₂ := .bf16) dot_S32x192x256_S32x256x27648_S32x192x27648_2_1_1_2_0_0 none (shapeCast S32x192x256 (A5 V0) shapeCasts_S6144x256_S32x192x256) (Host.gather gather_S1500x27648_S32x256x1_S32x256x27648_2_0_n_n_0_2_127648 (A4 V0) (broadcastInDim S32x256x1 ![0, 1] bcast_S32x256_S32x256x1_0_1 (select (cmpi .slt (res_main_v131 V0) (broadcastInDim S32x256 ![] bcast_S_S32x256 (constantI S_ 32 0#32))) (addi (res_main_v131 V0) (broadcastInDim S32x256 ![] bcast_S_S32x256 (constantI S_ 32 1500#32))) (res_main_v131 V0))))) shapeCasts_S32x192x27648_S6144x27648 : Vec Ideal S6144x27648 .f32) (ix2 a b)
      = ∑ k : Fin 256, A5 V0 (ix2 a k) * poolAt (A4 V0) ((A0 V0 (ix1 (⟨16 * (a.val / 192) + k.val / 16, by omega⟩ : Fin 512)) * 16#32).toNat + k.val % 16) b := by
  refine (dot_pt (A5 V0) _ a b).trans (Finset.sum_congr rfl fun k _ => ?_)
  refine congrArg (A5 V0 (ix2 a k) * ·) ?_
  rw [gather_rows]
  have hv := hT (ix1 (⟨16 * (a.val / 192) + k.val / 16, by omega⟩ : Fin 512))
  have hr := row_toNat _ hv (k.val % 16) (Nat.mod_lt _ (by decide))
  have hi := idx_pt V0 (⟨a.val / 192, by omega⟩ : Fin 32) k
  have hm : (A0 V0 (ix1 (⟨16 * (a.val / 192) + k.val / 16, by omega⟩ : Fin 512)) * 16#32).toNat ≤ 880 := by
    rw [BitVec.toNat_mul, BitVec.toNat_ofNat]; omega
  have hn := congrArg BitVec.toNat hi
  rw [hr] at hn
  have hk : k.val % 16 < 16 := Nat.mod_lt _ (by decide)
  have hw := wrap_pt (res_main_v131 V0) (⟨a.val / 192, by omega⟩ : Fin 32) k (by rw [hn]; omega)
  unfold poolAt
  rw [dif_pos (by omega)]
  refine congrArg (A4 V0) (congrArg (fun q => ix2 q b) (Fin.ext ?_))
  show min (BitVec.toInt _).toNat 1499 = _
  rw [hw, BitVec.toInt_eq_toNat_cond, hn, if_pos (by omega)]
  show min ((_ : ℕ) : ℤ).toNat 1499 = _
  rw [Int.toNat_natCast]
  exact Nat.min_eq_left (by omega)

theorem sums_apply (V0 : Valuation τ sig (Elt Ideal)) (hT : ∀ w : S512.Idx, (A0 V0 w).toNat ≤ 55) (a : Fin 6144) (b : Fin 27648) :
    (res_main_v142 V0 : Vec Ideal S6144x27648 .f32) (ix2 a b) = result (A0 V0) (A1 V0) (A2 V0) (A3 V0) (A4 V0) (A5 V0) a b := by
  unfold result
  refine congrArg₂ (· + ·) ?_ (delta_pt V0 hT a b)
  refine Eq.trans ?_ (sum_regroup (term (A1 V0) (A2 V0) (A3 V0) a b)).symm
  exact congrArg₂ (· + ·) (congrArg₂ (· + ·) (congrArg₂ (· + ·) (congrArg₂ (· + ·) (congrArg₂ (· + ·) (congrArg₂ (· + ·) (congrArg₂ (· + ·)
    (part0 V0 a b) (part1 V0 a b)) (part2 V0 a b)) (part3 V0 a b)) (part4 V0 a b)) (part5 V0 a b)) (part6 V0 a b)) (part7 V0 a b)

end Cert.ReferenceIdeal.Val
-- ==== Proof.Value.Host.lean ====
/- What the host part of the kernel's program leaves for the launch: the rows of `x`, flat, and the scale words, each doubled. -/
module

public import proofs.«01_k».proof.Proof.Value.Blocks
public import proofs.«01_k».proof.Proof.Value.Ref
public import Idealize.ShloMosaic.Lib.StableHlo.ReadAt

@[expose] public section

set_option maxRecDepth 16384

noncomputable section

namespace Cert.KernelIdeal.Val

open Idealize.ShloMosaic Idealize.ShloMosaic.TcCoe
open Cert.KernelIdeal.Gen

variable (m : (ℓ : Loc nD τ sig) → Buf (Elt Ideal) ℓ)

abbrev B0 (c : Dev nD) : IVec S512 32 := m ((c : Thread nD τ).loc main_arg0)
abbrev B1 (c : Dev nD) : Vec Ideal S24x256x5120 .bf16 := m ((c : Thread nD τ).loc main_arg1)
abbrev B2 (c : Dev nD) : IVec S640x27648 32 := m ((c : Thread nD τ).loc main_arg2)
abbrev B3 (c : Dev nD) : IVec S40x27648 16 := m ((c : Thread nD τ).loc main_arg3)
abbrev B4 (c : Dev nD) : Vec Ideal S1500x27648 .bf16 := m ((c : Thread nD τ).loc main_arg4)
abbrev B5 (c : Dev nD) : Vec Ideal S6144x256 .bf16 := m ((c : Thread nD τ).loc main_arg5)

theorem xf_eq (c : Dev nD) : xf m c = shapeCast S6144x5120 (B1 m c) shapeCasts_S24x256x5120_S6144x5120 := by
  unfold xf V
  simp only [hostOps0]
  after_results_simp
  rfl

theorem sd_eq (c : Dev nD) : sd m c = transpose S216x40x128 [1, 0, 2] (shapeCast S40x216x128 (ori (extui 32 (B3 m c) natLt_16_32)
    (Host.shli (extui 32 (B3 m c) natLt_16_32) (broadcastInDim S40x27648 ![] bcast_S_S40x27648 (constantI S_ 32 16#32)))) shapeCasts_S40x27648_S40x216x128)
      transposes_S40x216x128_S216x40x128_1_0_2 := by
  unfold sd V
  simp only [hostOps0]
  after_results_simp
  rfl

theorem xf_apply (c : Dev nD) (a : Fin 6144) (k : Fin 5120) :
    xf m c (ix2 a k) = B1 m c (ix3 (⟨a.val / 256, by omega⟩ : Fin 24) (⟨a.val % 256, Nat.mod_lt _ (by decide)⟩ : Fin 256) k) := by
  rw [xf_eq]
  pointwise []

theorem half_word (v : BitVec 16) (h : ℕ) (hh : h < 2) :
    (IntOp.ori (BitVec.setWidth 32 v) (IntOp.shli .host (BitVec.setWidth 32 v) 16#32)).extractLsb' (16 * h) 16 = v := by
  unfold IntOp.ori IntOp.shli
  rw [if_pos (by decide)]
  refine BitVec.eq_of_getLsbD_eq fun i hi => ?_
  rcases (by omega : h = 0 ∨ h = 1) with rfl | rfl
  · simp [BitVec.getLsbD_extractLsb', hi]
    exact fun _ => by omega
  · simp [BitVec.getLsbD_extractLsb', hi]
    simp [show 16 + i < 32 by omega, show i < 32 by omega]

theorem sd_apply (c : Dev nD) (p : Fin 216) (q : Fin 40) (l : Fin 128) (h : ℕ) (hh : h < 2) :
    (sd m c (ix3 p q l)).extractLsb' (16 * h) 16 = B3 m c (ix2 q (⟨128 * p.val + l.val, by omega⟩ : Fin 27648)) := by
  rw [sd_eq]
  have e : (⟨p.val * 128 + l.val, by omega⟩ : Fin 27648) = ⟨128 * p.val + l.val, by omega⟩ := Fin.ext (by show p.val * 128 + l.val = 128 * p.val + l.val; omega)
  pointwise []
  rw [e]
  exact half_word _ h hh

end Cert.KernelIdeal.Val
-- ==== Proof.Value.Whole.lean ====
/- The kernel's `y`: what the scratch holds at every grid point, the block each point leaves, and the array at the end. -/
module

public import proofs.«01_k».proof.Proof.Value.Host
public import proofs.«01_k».proof.Proof.KernelIdealFrame.Pre

@[expose] public section

set_option maxRecDepth 16384

noncomputable section

namespace Cert.KernelIdeal.Val

open Idealize.ShloMosaic Idealize.ShloMosaic.TcCoe
open Cert.KernelIdeal.Gen
open Cert.ReferenceIdeal.Val (gW poolAt result)

variable (m : (ℓ : Loc nD τ sig) → Buf (Elt Ideal) ℓ)

/-- The unpacked weights of a point's column tile are the weights of the tile's columns. -/
theorem wval_tile (hO : Ok m) (c : Dev nD) (t : Fin (cfgM m hO).N) (k : Fin 5120) (b : Fin 1024) (h : 1024 * (t.val / 16) + b.val < 27648) :
    wval (iblk m hO c 1 t) (iblk m hO c 2 t) (ix2 k b) = gW (B2 m c) (B3 m c) k ⟨1024 * (t.val / 16) + b.val, h⟩ := by
  have hb := b.isLt
  have ht : t.val < 432 := N_lt t
  show wAt (iblk m hO c 1 t) (iblk m hO c 2 t) k b = _
  unfold wAt gW
  rw [iblk_1 m hO c t _ b h, iblk_2 m hO c t _ _ _ (by show 8 * (t.val / 16) + b.val / 128 < 216; omega), sd_apply m c _ _ _ _ (Nat.mod_lt _ (by decide)),
    V_main_arg2 m c]
  have e : (⟨128 * (8 * (t.val / 16) + b.val / 128) + b.val % 128, by omega⟩ : Fin 27648) = ⟨1024 * (t.val / 16) + b.val, h⟩ :=
    Fin.ext (by show 128 * (8 * (t.val / 16) + b.val / 128) + b.val % 128 = 1024 * (t.val / 16) + b.val; omega)
  exact congrArg (fun q => _ * Ideal.ofBits .bf16 (B3 m c (ix2 _ q))) e

theorem scratch_A (hO : Ok m) (hH : Hyps m hO) (c : Dev nD) (t : Fin (cfgM m hO).N) (h0 : t.val % 16 = 0) :
    (outsAt0 m hO hH c t.val t.isLt).2.2 = wval (iblk m hO c 1 t) (iblk m hO c 2 t) := by
  rw [outsAt0_A m hO hH c t h0]
  exact sout_eq ..

theorem scratch_B (hO : Ok m) (hH : Hyps m hO) (c : Dev nD) (t : Fin (cfgM m hO).N) (h0 : ¬t.val % 16 = 0) :
    (outsAt0 m hO hH c t.val t.isLt).2.2 = (outsAt0 m hO hH c (t.val - 1) (Nat.lt_of_le_of_lt (Nat.sub_le _ _) t.isLt)).2.2 := by
  rw [outsAt0_B m hO hH c t h0]
  rfl

/-- At every point the scratch holds the weights of the point's column tile: unpacked at the tile's first point, kept at the others. -/
theorem scratch (hO : Ok m) (hH : Hyps m hO) (c : Dev nD) : ∀ (n : ℕ) (hn : n < (cfgM m hO).N) (k : Fin 5120) (b : Fin 1024)
    (h : 1024 * (n / 16) + b.val < 27648),
    ((outsAt0 m hO hH c n hn).2.2 : Vec Ideal S5120x1024 .bf16) (ix2 k b) = gW (B2 m c) (B3 m c) k ⟨1024 * (n / 16) + b.val, h⟩ := by
  intro n
  induction n with
  | zero =>
    intro hn k b h
    rw [scratch_A m hO hH c ⟨0, hn⟩ rfl]
    exact wval_tile m hO c ⟨0, hn⟩ k b h
  | succ n ih =>
    intro hn k b h
    by_cases h0 : (n + 1) % 16 = 0
    · rw [scratch_A m hO hH c ⟨n + 1, hn⟩ h0]
      exact wval_tile m hO c ⟨n + 1, hn⟩ k b h
    · rw [scratch_B m hO hH c ⟨n + 1, hn⟩ h0]
      have e : (n + 1) / 16 = n / 16 := by omega
      refine (ih (Nat.lt_of_succ_lt hn) k b (by rw [← e]; exact h)).trans ?_
      exact congrArg (gW (B2 m c) (B3 m c) k) (Fin.ext (by show 1024 * (n / 16) + b.val = 1024 * ((n + 1) / 16) + b.val; rw [e]))

theorem y_A (hO : Ok m) (hH : Hyps m hO) (c : Dev nD) (t : Fin (cfgM m hO).N) (h0 : t.val % 16 = 0) (r : Fin 384) (b : Fin 1024) :
    ((outsAt0 m hO hH c t.val t.isLt).1 : Vec Ideal S384x1024 .bf16) (ix2 r b)
      = yAt (iblk m hO c 0 t) (wval (iblk m hO c 1 t) (iblk m hO c 2 t)) (rowAt (X0_3 m hO c t)) (word c (tbl m 0)) (32 * ((grid0.coords t) 1).val) (iblk m hO c 4 t) r b := by
  rw [outsAt0_A m hO hH c t h0]
  dsimp only
  exact out_A_eq ..

theorem y_B (hO : Ok m) (hH : Hyps m hO) (c : Dev nD) (t : Fin (cfgM m hO).N) (h0 : ¬t.val % 16 = 0) (r : Fin 384) (b : Fin 1024) :
    ((outsAt0 m hO hH c t.val t.isLt).1 : Vec Ideal S384x1024 .bf16) (ix2 r b)
      = yAt (iblk m hO c 0 t) (outsAt0 m hO hH c (t.val - 1) (Nat.lt_of_le_of_lt (Nat.sub_le _ _) t.isLt)).2.2 (rowAt (X0_3 m hO c t)) (word c (tbl m 0)) (32 * ((grid0.coords t) 1).val) (iblk m hO c 4 t) r b := by
  rw [outsAt0_B m hO hH c t h0]
  dsimp only
  exact out_B_eq ..

theorem word_tbl (c : Dev nD) (n : ℕ) (h : n < 512) : word c (tbl m 0) n = B0 m c (ix1 (⟨n, h⟩ : Fin 512)) := by
  obtain rfl : c = 0 := Subsingleton.elim _ _
  unfold word
  rw [dif_pos h]
  exact congrFun (V_main_arg0 m 0) _

theorem rowAt_pos (X : Vec Ideal S896x1024 .bf16) (n : ℕ) (h : n < 896) (b : Fin 1024) : rowAt X n b = X (ix2 (⟨n, h⟩ : Fin 896) b) := dif_pos h
theorem poolAt_pos (p : Vec Ideal S1500x27648 .bf16) (n : ℕ) (h : n < 1500) (b : Fin 27648) : poolAt p n b = p (ix2 (⟨n, h⟩ : Fin 1500) b) := dif_pos h

/-- A point's block, given that the scratch holds the weights of its columns. -/
theorem yAt_result (hO : Ok m) (c : Dev nD) (hT : ∀ w, (B0 m c w).toNat ≤ 55) (t : Fin (cfgM m hO).N) (W : Vec Ideal S5120x1024 .bf16)
    (r : Fin 384) (b : Fin 1024) (ha : 384 * (t.val % 16) + r.val < 6144) (hb : 1024 * (t.val / 16) + b.val < 27648)
    (hW : ∀ k : Fin 5120, W (ix2 k b) = gW (B2 m c) (B3 m c) k ⟨1024 * (t.val / 16) + b.val, hb⟩) :
    yAt (iblk m hO c 0 t) W (rowAt (X0_3 m hO c t)) (word c (tbl m 0)) (32 * ((grid0.coords t) 1).val) (iblk m hO c 4 t) r b
      = result (B0 m c) (B1 m c) (B2 m c) (B3 m c) (B4 m c) (B5 m c) ⟨384 * (t.val % 16) + r.val, ha⟩ ⟨1024 * (t.val / 16) + b.val, hb⟩ := by
  unfold yAt result
  refine congrArg₂ (· + ·) (Finset.sum_congr rfl fun k _ => ?_) (Finset.sum_congr rfl fun k _ => ?_)
  · exact congrArg₂ (fun p q : EReal => p * q) ((iblk_0 m hO c t r k ha).trans (xf_apply m c _ k)) (hW k)
  · refine congrArg₂ (fun p q : EReal => p * q) ((iblk_4 m hO c t r k ha).trans (congrFun (V_main_arg5 m c) _)) ?_
    have hr := r.isLt
    have hk := k.isLt
    have en : 32 * ((grid0.coords t) 1).val + 16 * (r.val / 192) + k.val / 16 = 16 * ((384 * (t.val % 16) + r.val) / 192) + k.val / 16 := by
      rw [(coords_eq t).2]; omega
    have hn : 16 * ((384 * (t.val % 16) + r.val) / 192) + k.val / 16 < 512 := by omega
    rw [en, word_tbl m c _ hn]
    have hv := hT (ix1 (⟨16 * ((384 * (t.val % 16) + r.val) / 192) + k.val / 16, hn⟩ : Fin 512))
    have hm : (B0 m c (ix1 (⟨16 * ((384 * (t.val % 16) + r.val) / 192) + k.val / 16, hn⟩ : Fin 512)) * 16#32).toNat ≤ 880 := by
      rw [BitVec.toNat_mul, BitVec.toNat_ofNat]; omega
    have h16 : k.val % 16 < 16 := Nat.mod_lt _ (by decide)
    generalize B0 m c (ix1 (⟨16 * ((384 * (t.val % 16) + r.val) / 192) + k.val / 16, hn⟩ : Fin 512)) = v at hm
    show rowAt _ ((v * 16#32).toNat + k.val % 16) b = poolAt _ ((v * 16#32).toNat + k.val % 16) _
    refine (rowAt_pos _ _ (by omega) b).trans (Eq.trans ?_ (poolAt_pos _ _ (by omega) _).symm)
    exact (pool_3 m hO c t _ b (by show (v * 16#32).toNat + k.val % 16 < 1500; omega) hb).trans (congrFun (V_main_arg4 m c) _)

/-- Every point leaves its block of the result. -/
theorem y_block (hO : Ok m) (hH : Hyps m hO) (c : Dev nD) (hT : ∀ w, (B0 m c w).toNat ≤ 55) (t : Fin (cfgM m hO).N)
    (r : Fin 384) (b : Fin 1024) (ha : 384 * (t.val % 16) + r.val < 6144) (hb : 1024 * (t.val / 16) + b.val < 27648) :
    ((outsAt0 m hO hH c t.val t.isLt).1 : Vec Ideal S384x1024 .bf16) (ix2 r b)
      = result (B0 m c) (B1 m c) (B2 m c) (B3 m c) (B4 m c) (B5 m c) ⟨384 * (t.val % 16) + r.val, ha⟩ ⟨1024 * (t.val / 16) + b.val, hb⟩ := by
  by_cases h0 : t.val % 16 = 0
  · rw [y_A m hO hH c t h0 r b]
    exact yAt_result m hO c hT t _ r b ha hb fun k => wval_tile m hO c t k b hb
  · rw [y_B m hO hH c t h0 r b]
    refine yAt_result m hO c hT t _ r b ha hb fun k => ?_
    rw [← scratch_B m hO hH c t h0]
    exact scratch m hO hH c t.val t.isLt k b hb

/-- The whole result array. -/
def res (c : Dev nD) : Vec Ideal S6144x27648 .bf16 := fun i => result (B0 m c) (B1 m c) (B2 m c) (B3 m c) (B4 m c) (B5 m c) (i 0) (i 1)

theorem flushed_eq (hO : Ok m) (hH : Hyps m hO) (c : Dev nD) (hT : ∀ w, (B0 m c w).toNat ≤ 55) (t : Fin (cfgM m hO).N) :
    (dats m hO hH 0 c).flushed 5 t = (((cfgM m hO).win 5).blk t).view.read (Elt Ideal) (res m c) := by
  show ((cfgM m hO).win 5).cut (grid0.coords t) ((dats m hO hH 0 c).after 5 t) = _
  rw [after0_5]
  have key : ∀ y : S384x1024.Idx, ((outsAt0 m hO hH c t.val t.isLt).1 : Vec Ideal S384x1024 .bf16) y = res m c ((((cfgM m hO).win 5).blk t).view.emb y) := by
    intro y
    obtain ⟨r, b, rfl⟩ : ∃ (r : Fin 384) (b : Fin 1024), y = ix2 r b := ⟨y 0, y 1, eq_ix2 y⟩
    have ht : t.val < 432 := N_lt t
    have hr := r.isLt
    have hb := b.isLt
    refine (y_block m hO hH c hT t r b (by omega) (by omega)).trans ?_
    unfold res
    refine congrArg₂ (result (B0 m c) (B1 m c) (B2 m c) (B3 m c) (B4 m c) (B5 m c)) (Fin.ext ?_) (Fin.ext ?_)
    · show 384 * (t.val % 16) + r.val = cc0_transform_5 (grid0.coords t) 0 * 384 + 1 * r.val
      rw [index_5 t]; show _ = t.val % 16 * 384 + 1 * r.val; omega
    · show 1024 * (t.val / 16) + b.val = cc0_transform_5 (grid0.coords t) 1 * 1024 + 1 * b.val
      rw [index_5 t]; show _ = t.val / 16 * 1024 + 1 * b.val; omega
  exact funext fun y => key y

end Cert.KernelIdeal.Val
-- ==== Proof.Value.Final.lean ====
/- The kernel's result array `y`: its blocks cover it, and the run that leaves it. -/
module

public import proofs.«01_k».proof.Proof.Value.Whole

@[expose] public section

set_option maxRecDepth 16384

noncomputable section

namespace Cert.KernelIdeal.Val

open Idealize.ShloMosaic Idealize.ShloMosaic.TcCoe Idealize.SL.Sem
open Cert.KernelIdeal.Gen
open Cert.ReferenceIdeal.Val (gW poolAt result)

variable (m : (ℓ : Loc nD τ sig) → Buf (Elt Ideal) ℓ)

/-- The place in the array of a block's element. -/
theorem emb_5 (hO : Ok m) (t : Fin (cfgM m hO).N) (i : S6144x27648.Idx) (r : Fin 384) (b : Fin 1024)
    (h0 : (i 0).val = 384 * (t.val % 16) + r.val) (h1 : (i 1).val = 1024 * (t.val / 16) + b.val) :
    ((((cfgM m hO).win 5).blk t).view.emb (ix2 r b : S384x1024.Idx) : S6144x27648.Idx) = i := by
  funext a
  match a with
  | ⟨0, _⟩ =>
    refine Fin.ext ?_
    show cc0_transform_5 (grid0.coords t) 0 * 384 + 1 * r.val = (i 0).val
    rw [index_5 t]; show t.val % 16 * 384 + 1 * r.val = _; omega
  | ⟨1, _⟩ =>
    refine Fin.ext ?_
    show cc0_transform_5 (grid0.coords t) 1 * 1024 + 1 * b.val = (i 1).val
    rw [index_5 t]; show t.val / 16 * 1024 + 1 * b.val = _; omega

theorem cover_5 (hO : Ok m) (i : S6144x27648.Idx) : ∃ t : Fin (cfgM m hO).N, i ∈ (((cfgM m hO).win 5).blk t).view.set := by
  have h0 : (i 0 : ℕ) < 6144 := (i 0).isLt
  have h1 : (i 1 : ℕ) < 27648 := (i 1).isLt
  obtain ⟨t, ht⟩ : ∃ t : Fin (cfgM m hO).N, t.val = 16 * ((i 1 : ℕ) / 1024) + (i 0 : ℕ) / 384 := by
    have hN : grid0.N = 432 := by decide +kernel
    exact ⟨⟨16 * ((i 1 : ℕ) / 1024) + (i 0 : ℕ) / 384, by show _ < grid0.N; rw [hN]; omega⟩, rfl⟩
  refine ⟨t, ?_⟩
  have e := emb_5 m hO t i ⟨(i 0 : ℕ) % 384, Nat.mod_lt _ (by decide)⟩ ⟨(i 1 : ℕ) % 1024, Nat.mod_lt _ (by decide)⟩
    (by rw [ht]; show (i 0 : ℕ) = 384 * ((16 * ((i 1 : ℕ) / 1024) + (i 0 : ℕ) / 384) % 16) + (i 0 : ℕ) % 384; omega)
    (by rw [ht]; show (i 1 : ℕ) = 1024 * ((16 * ((i 1 : ℕ) / 1024) + (i 0 : ℕ) / 384) / 16) + (i 1 : ℕ) % 1024; omega)
  exact Eq.subst (motive := fun x : S6144x27648.Idx => x ∈ (((cfgM m hO).win 5).blk t).view.set) e (View.emb_mem_set _ _)

/-- The blocks cover the array, so it ends at the result. -/
theorem final_y (hO : Ok m) (hH : Hyps m hO) (c : Dev nD) (hT : ∀ w, (B0 m c w).toNat ≤ 55) :
    (dats m hO hH 0 c).arrAt 5 (cfgM m hO).N = res m c :=
  (dats m hO hH 0 c).arrAt_eq_of_cover 5 (res m c) (fun t _ => flushed_eq m hO hH c hT t) fun (i : S6144x27648.Idx) =>
    (cover_5 m hO i).elim fun t ht => ⟨t, flush0_5 _ t, ht⟩

/-- The run, read at the array. -/
theorem run_arr (ρ : Dev nD → PrngReg) (hO : Ok m) (hH : Hyps m hO) :
    θ_run defs (onTc (τ := τ) (main (F := Ideal))) ⟨m, fun _ => 0, ρ⟩ fun r => ∀ c : Dev nD, r.2.mem ((c.tc : Thread nD τ).loc main_v8_0) = (dats m hO hH 0 c).arrAt 5 (cfgM m hO).N :=
  (θ_run defs _ _).mono (fun _ h c => (Pipeline.Dat.toRForget_arrAt_iff (dat := dats m hO hH 0 c) forgets0_5 _ _).mp ((h c).1 5))
    (run_main m ρ hO hH)

end Cert.KernelIdeal.Val
-- ==== Proof.Value.Agree.lean ====
/- Both programs' `y`, from one set of arguments: one array. -/
module

public import proofs.«01_k».proof.Proof.Value.Final
public import proofs.«01_k».proof.Proof.Gen.ReferenceIdeal.Run

@[expose] public section

set_option maxRecDepth 16384

noncomputable section

namespace Cert.Val

open Idealize.ShloMosaic Idealize.ShloMosaic.TcCoe Idealize.SL.Sem
open Cert.KernelIdeal.Val (res)
open Cert.ReferenceIdeal.Val (result)

/-- The reference's array, from arguments the kernel's memory holds too, is the kernel's. -/
theorem ref_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : Cert.ReferenceIdeal.Val.A0 V0 = Cert.KernelIdeal.Val.B0 m c) (h1 : Cert.ReferenceIdeal.Val.A1 V0 = Cert.KernelIdeal.Val.B1 m c)
    (h2 : Cert.ReferenceIdeal.Val.A2 V0 = Cert.KernelIdeal.Val.B2 m c) (h3 : Cert.ReferenceIdeal.Val.A3 V0 = Cert.KernelIdeal.Val.B3 m c)
    (h4 : Cert.ReferenceIdeal.Val.A4 V0 = Cert.KernelIdeal.Val.B4 m c) (h5 : Cert.ReferenceIdeal.Val.A5 V0 = Cert.KernelIdeal.Val.B5 m c)
    (hT : ∀ w, (Cert.KernelIdeal.Val.B0 m c w).toNat ≤ 55) (i : Cert.ReferenceIdeal.S6144x27648.Idx) :
    truncf (F := Ideal) (s := Cert.ReferenceIdeal.S6144x27648) .bf16 (Cert.ReferenceIdeal.Value.res_main_v142 V0 : FVec Ideal Cert.ReferenceIdeal.S6144x27648 .f32) Cert.ReferenceIdeal.Gen.bitsLt_bf16_f32 i = res m c i := by
  obtain ⟨a, b, rfl⟩ : ∃ (a : Fin 6144) (b : Fin 27648), i = ix2 a b := ⟨i 0, i 1, eq_ix2 i⟩
  refine (Cert.ReferenceIdeal.Val.sums_apply V0 (fun w => by rw [h0]; exact hT w) a b).trans ?_
  rw [h0, h1, h2, h3, h4, h5]
  rfl

end Cert.Val
-- ==== Proof.lean ====
/- The claims: the kernel's frame, with floats as words and with floats as extended reals, the reference's, and the values of `y`. -/
module

public import proofs.«01_k».proof.Defs
public import proofs.«01_k».proof.Proof.KernelFrame.Frame
public import proofs.«01_k».proof.Proof.KernelFrame.Pre
public import proofs.«01_k».proof.Proof.KernelIdealFrame.Frame
public import proofs.«01_k».proof.Proof.KernelIdealFrame.Pre
public import proofs.«01_k».proof.Proof.Gen.ReferenceIdeal
public import proofs.«01_k».proof.Proof.Gen.ReferenceIdeal.Run
public import proofs.«01_k».proof.Proof.Gen.Pre_blocks_named
public import proofs.«01_k».proof.Proof.Value.Agree
public import Idealize.ShloMosaic.Adequacy
public import Idealize.ShloMosaic.Init
public import Idealize.ShloMosaic.Lib.Claim

@[expose] public section

noncomputable section

namespace Cert.Proof

open Idealize.ShloMosaic Idealize.SL.Sem

/-- The reference's frame: its run read at its arguments; the counters because it declares no semaphore. -/
theorem frame_r : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's shape facts. -/
instance facts_on : Cert.On_y_elements.Facts where
  bcast_S_S6144x27648 := by decide
  bcast_S_S6144x256 := by decide

/-- The mask selects no element of the codes and none of the scales. -/
theorem zero_ne_one {p : Prop} (h : (0#1 : BitVec 1) = 1#1) : p := absurd h (by decide)

/-- Kernel and reference end with one array `y`. -/
theorem y_equal : Cert.algebraic_KernelIdeal_ReferenceIdeal_on_y_elements := fun m g m' g' hpre hag =>
  have hw (c : Dev Cert.KernelIdeal.nD) (w : Cert.KernelIdeal.S512.Idx) : (Cert.KernelIdeal.Val.B0 m c w).toNat ≤ 55 :=
    Cert.KernelIdeal.Gen.word_named _ _ _ _ _ _ (hpre c) w
  have hH := Cert.KernelIdeal.Gen.hyps_of_pre m hpre trivial
  ⟨fun c => Cert.KernelIdeal.Val.res m c, fun c => m ((c.tc : Thread Cert.KernelIdeal.nD Cert.KernelIdeal.τ).loc Cert.KernelIdeal.main_v8_1),
    fun c => m ((c.tc : Thread Cert.KernelIdeal.nD Cert.KernelIdeal.τ).loc Cert.KernelIdeal.main_v8_2),
    (θ_run Cert.KernelIdeal.defs _ _).mono
      (fun _ h c => ⟨fun i _ => congrFun ((h.1 c).trans (Cert.KernelIdeal.Val.final_y m trivial hH c (hw c))) i,
        fun _ e => zero_ne_one e, fun _ e => zero_ne_one e, h.2 c⟩)
      (θ_run_and (Cert.KernelIdeal.Val.run_arr m g trivial hH) (Cert.KernelIdeal.Gen.unchanged m g trivial hH)),
    (θ_run Cert.ReferenceIdeal.defs _ _).mono
      (fun _ h c => ⟨fun i _ => (congrFun (h c).1 i).trans (Cert.Val.ref_eq m (Idealize.ShloMosaic.StableHlo.launchContents m' c) c (hag c).1 (hag c).2.1 (hag c).2.2.1
          (hag c).2.2.2.1 (hag c).2.2.2.2.1 (hag c).2.2.2.2.2 (hw c) i),
        fun _ e => zero_ne_one e, fun _ e => zero_ne_one e, (h c).2.2.2⟩)
      (Cert.ReferenceIdeal.Value.run (F := Ideal) m' g')⟩

theorem claim : Cert.Claim := ⟨Cert.Kernel.Gen.facts, Cert.KernelIdeal.Gen.facts, Cert.ReferenceIdeal.Gen.facts, Cert.Pre_blocks_named.Gen.facts, facts_on,
  fun m ρ h => Cert.Kernel.Gen.frame m ρ trivial (Cert.Kernel.Gen.hyps_of_pre m h trivial),
  fun m ρ h => Cert.KernelIdeal.Gen.frame m ρ trivial (Cert.KernelIdeal.Gen.hyps_of_pre m h trivial),
  frame_r,
  trivial,
  y_equal⟩

end Cert.Proof

end
